-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log_eps" .f32 0xC1135D8E#32 ((Real.log (13743895 / 137438953472) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_v285) = v1 c
          ∧ r.2.mem ((c.tc : Thread Cert.ReferenceIdeal.nD Cert.ReferenceIdeal.τ).loc Cert.ReferenceIdeal.main_v270) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x3 : Shape := ⟨2, ![4096, 3]⟩
abbrev S4096x1 : Shape := ⟨2, ![4096, 1]⟩
abbrev S4096x4 : Shape := ⟨2, ![4096, 4]⟩
abbrev S4x4 : Shape := ⟨2, ![4, 4]⟩
abbrev S3 : Shape := ⟨1, ![3]⟩
abbrev S4096x2 : Shape := ⟨2, ![4096, 2]⟩
abbrev S3x4096 : Shape := ⟨2, ![3, 4096]⟩
abbrev S4x4096 : Shape := ⟨2, ![4, 4096]⟩
abbrev S1x4096 : Shape := ⟨2, ![1, 4096]⟩
abbrev S8x4096 : Shape := ⟨2, ![8, 4096]⟩
abbrev S1x1 : Shape := ⟨2, ![1, 1]⟩
abbrev S4096 : Shape := ⟨1, ![4096]⟩
abbrev S_ : Shape := ⟨0, ![]⟩
abbrev S1 : Shape := ⟨1, ![1]⟩
abbrev S4 : Shape := ⟨1, ![4]⟩
abbrev S1x4 : Shape := ⟨2, ![1, 4]⟩
abbrev S8x512 : Shape := ⟨2, ![8, 512]⟩
abbrev S512x4 : Shape := ⟨2, ![512, 4]⟩
abbrev S1x4096x1 : Shape := ⟨3, ![1, 4096, 1]⟩
abbrev S1x1x1 : Shape := ⟨3, ![1, 1, 1]⟩
abbrev S1x512 : Shape := ⟨2, ![1, 512]⟩
abbrev S4096x512 : Shape := ⟨2, ![4096, 512]⟩
abbrev S512x512 : Shape := ⟨2, ![512, 512]⟩
abbrev S64x64x4 : Shape := ⟨3, ![64, 64, 4]⟩
abbrev S64x64x3 : Shape := ⟨3, ![64, 64, 3]⟩
abbrev S3x64x64 : Shape := ⟨3, ![3, 64, 64]⟩
abbrev S64x64x1 : Shape := ⟨3, ![64, 64, 1]⟩
abbrev S64x64 : Shape := ⟨2, ![64, 64]⟩
abbrev S1x64x64 : Shape := ⟨3, ![1, 64, 64]⟩

abbrev nBuf : Space → Nat
  | .hbm => 59
  | .vmem => 17
  | .smem => 2
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S4096x1, .f32⟩
  | .hbm, ⟨3, _⟩ => ⟨S4096x3, .f32⟩
  | .hbm, ⟨4, _⟩ => ⟨S4096x3, .f32⟩
  | .hbm, ⟨5, _⟩ => ⟨S4096x4, .f32⟩
  | .hbm, ⟨6, _⟩ => ⟨S4x4, .f32⟩
  | .hbm, ⟨7, _⟩ => ⟨S4x4, .f32⟩
  | .hbm, ⟨8, _⟩ => ⟨S3, .f32⟩
  | .hbm, ⟨9, _⟩ => ⟨S3, .f32⟩
  | .hbm, ⟨10, _⟩ => ⟨S4096x2, .f32⟩
  | .hbm, ⟨11, _⟩ => ⟨S3x4096, .f32⟩
  | .hbm, ⟨12, _⟩ => ⟨S3x4096, .f32⟩
  | .hbm, ⟨13, _⟩ => ⟨S4x4096, .f32⟩
  | .hbm, ⟨14, _⟩ => ⟨S1x4096, .f32⟩
  | .hbm, ⟨15, _⟩ => ⟨S3x4096, .f32⟩
  | .hbm, ⟨16, _⟩ => ⟨S4x4, .bf16⟩
  | .hbm, ⟨17, _⟩ => ⟨S4x4, .f32⟩
  | .hbm, ⟨18, _⟩ => ⟨S4x4, .bf16⟩
  | .hbm, ⟨19, _⟩ => ⟨S4x4, .f32⟩
  | .hbm, ⟨20, _⟩ => ⟨S8x4096, .f32⟩
  | .hbm, ⟨21, _⟩ => ⟨S4x4096, .f32⟩
  | .hbm, ⟨22, _⟩ => ⟨S1x4096, .i32⟩
  | .hbm, ⟨23, _⟩ => ⟨S4096, .i32⟩
  | .hbm, ⟨24, _⟩ => ⟨S1x4096, .f32⟩
  | .hbm, ⟨25, _⟩ => ⟨S4096, .f32⟩
  | .hbm, ⟨26, _⟩ => ⟨S4096, .i32⟩
  | .hbm, ⟨27, _⟩ => ⟨S4096, .f32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S8x4096, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4x4096, .f32⟩
  | .hbm, ⟨47, _⟩ => ⟨S4096x4, .f32⟩
  | .hbm, ⟨48, _⟩ => ⟨S_, .f32⟩
  | .hbm, ⟨49, _⟩ => ⟨S1, .f32⟩
  | .hbm, ⟨50, _⟩ => ⟨S4, .f32⟩
  | .hbm, ⟨51, _⟩ => ⟨S1x4, .f32⟩
  | .hbm, ⟨52, _⟩ => ⟨S4096x4, .f32⟩
  | .hbm, ⟨53, _⟩ => ⟨S64x64x4, .f32⟩
  | .hbm, ⟨54, _⟩ => ⟨S64x64x3, .f32⟩
  | .hbm, ⟨55, _⟩ => ⟨S3x64x64, .f32⟩
  | .hbm, ⟨56, _⟩ => ⟨S64x64x1, .f32⟩
  | .hbm, ⟨57, _⟩ => ⟨S64x64, .f32⟩
  | .hbm, ⟨58, _⟩ => ⟨S1x64x64, .f32⟩
  | .local _ .vmem, ⟨0, _⟩ => ⟨S3x4096, .f32⟩
  | .local _ .vmem, ⟨1, _⟩ => ⟨S3x4096, .f32⟩
  | .local _ .vmem, ⟨2, _⟩ => ⟨S4x4096, .f32⟩
  | .local _ .vmem, ⟨3, _⟩ => ⟨S1x4096, .f32⟩
  | .local _ .vmem, ⟨4, _⟩ => ⟨S3x4096, .f32⟩
  | .local _ .vmem, ⟨5, _⟩ => ⟨S8x4096, .f32⟩
  | .local _ .vmem, ⟨6, _⟩ => ⟨S4x4096, .f32⟩
  | .local _ .vmem, ⟨7, _⟩ => ⟨S1x4096, .i32⟩
  | .local _ .vmem, ⟨8, _⟩ => ⟨S8x512, .f32⟩
  | .local _ .vmem, ⟨9, _⟩ => ⟨S8x512, .f32⟩
  | .local _ .vmem, ⟨10, _⟩ => ⟨S512x4, .f32⟩
  | .local _ .vmem, ⟨11, _⟩ => ⟨S512x4, .f32⟩
  | .local _ .vmem, ⟨12, _⟩ => ⟨S4096x2, .f32⟩
  | .local _ .vmem, ⟨13, _⟩ => ⟨S1x4, .f32⟩
  | .local _ .vmem, ⟨14, _⟩ => ⟨S4096x4, .f32⟩
  | .local _ .vmem, ⟨15, _⟩ => ⟨S4096x1, .f32⟩
  | .local _ .vmem, ⟨16, _⟩ => ⟨S4096x1, .f32⟩
  | .local _ .smem, ⟨0, _⟩ => ⟨S4x4, .f32⟩
  | .local _ .smem, ⟨1, _⟩ => ⟨S4x4, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_v1_0 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc1_scratch1 : Ref sig .tc := ⟨.vmem, 16, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16

abbrev nD : Nat := 1
abbrev τ : Topo := Topo.v7x

variable {F : FTy → Type} [FloatOps F]

abbrev grid0 : Pipeline.Grid := .none

abbrev stage0_0 : Fin 1 → Memref sig .tc .vmem S3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x4096 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4096x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]
-- ==== KernelIdeal.lean ====
variable {F : FTy → Type} [FloatOps F] [Named F]
def κ : String → Option EReal := fun
  | "log_eps" => some ((Real.log (13743895 / 137438953472) : ℝ) : EReal)
  | _ => none
-- ==== ReferenceIdeal.lean ====
abbrev S4096x3 : Shape := ⟨2, ![4096, 3]⟩
abbrev S4096x1 : Shape := ⟨2, ![4096, 1]⟩
abbrev S4096x4 : Shape := ⟨2, ![4096, 4]⟩
abbrev S4x4 : Shape := ⟨2, ![4, 4]⟩
abbrev S3 : Shape := ⟨1, ![3]⟩
abbrev S_ : Shape := ⟨0, ![]⟩
abbrev S4096 : Shape := ⟨1, ![4096]⟩
abbrev S4096x9 : Shape := ⟨2, ![4096, 9]⟩
abbrev S4096x3x3 : Shape := ⟨3, ![4096, 3, 3]⟩
abbrev S4096x1x3 : Shape := ⟨3, ![4096, 1, 3]⟩
abbrev S3x3 : Shape := ⟨2, ![3, 3]⟩
abbrev S4096x1x1 : Shape := ⟨3, ![4096, 1, 1]⟩
abbrev S1 : Shape := ⟨1, ![1]⟩
abbrev S1x1 : Shape := ⟨2, ![1, 1]⟩
abbrev S64 : Shape := ⟨1, ![64]⟩
abbrev S64x64 : Shape := ⟨2, ![64, 64]⟩
abbrev S1x4096 : Shape := ⟨2, ![1, 4096]⟩
abbrev S4096x4096 : Shape := ⟨2, ![4096, 4096]⟩
abbrev S1x3 : Shape := ⟨2, ![1, 3]⟩
abbrev S64x64x3 : Shape := ⟨3, ![64, 64, 3]⟩
abbrev S3x64x64 : Shape := ⟨3, ![3, 64, 64]⟩
abbrev S1x64x64 : Shape := ⟨3, ![1, 64, 64]⟩

abbrev nBuf : Space → Nat
  | .hbm => 593
  | .vmem => 0
  | .smem => 0
  | _ => 0

abbrev hbmTy0_0 (i : Nat) : BufTy := match i % 128 with
  | 0 => ⟨S4096x3, .f32⟩
  | 1 => ⟨S4096x3, .f32⟩
  | 2 => ⟨S4096x1, .f32⟩
  | 3 => ⟨S4096x3, .f32⟩
  | 4 => ⟨S4096x3, .f32⟩
  | 5 => ⟨S4096x4, .f32⟩
  | 6 => ⟨S4x4, .f32⟩
  | 7 => ⟨S4x4, .f32⟩
  | 8 => ⟨S3, .f32⟩
  | 9 => ⟨S3, .f32⟩
  | 10 => ⟨S_, .f32⟩
  | 11 => ⟨S4096x3, .f32⟩
  | 12 => ⟨S4096x3, .f32⟩
  | 13 => ⟨S4096x4, .f32⟩
  | 14 => ⟨S_, .f32⟩
  | 15 => ⟨S4096, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x4, .f32⟩
  | 22 => ⟨S4096x4, .f32⟩
  | 23 => ⟨S4096x1, .f32⟩
  | 24 => ⟨S4096, .f32⟩
  | 25 => ⟨S4096x1, .f32⟩
  | 26 => ⟨S4096, .f32⟩
  | 27 => ⟨S4096x1, .f32⟩
  | 28 => ⟨S4096, .f32⟩
  | 29 => ⟨S4096x1, .f32⟩
  | 30 => ⟨S4096, .f32⟩
  | 31 => ⟨S4096, .f32⟩
  | 32 => ⟨S4096, .f32⟩
  | 33 => ⟨S4096, .f32⟩
  | 34 => ⟨S_, .f32⟩
  | 35 => ⟨S4096, .f32⟩
  | 36 => ⟨S4096, .f32⟩
  | 37 => ⟨S_, .f32⟩
  | 38 => ⟨S4096, .f32⟩
  | 39 => ⟨S4096, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S4096, .f32⟩
  | 48 => ⟨S4096, .f32⟩
  | 49 => ⟨S_, .f32⟩
  | 50 => ⟨S4096, .f32⟩
  | 51 => ⟨S4096, .f32⟩
  | 52 => ⟨S4096, .f32⟩
  | 53 => ⟨S4096, .f32⟩
  | 54 => ⟨S4096, .f32⟩
  | 55 => ⟨S_, .f32⟩
  | 56 => ⟨S4096, .f32⟩
  | 57 => ⟨S4096, .f32⟩
  | 58 => ⟨S4096, .f32⟩
  | 59 => ⟨S4096, .f32⟩
  | 60 => ⟨S4096, .f32⟩
  | 61 => ⟨S_, .f32⟩
  | 62 => ⟨S4096, .f32⟩
  | 63 => ⟨S4096, .f32⟩
  | 64 => ⟨S_, .f32⟩
  | 65 => ⟨S4096, .f32⟩
  | 66 => ⟨S4096, .f32⟩
  | 67 => ⟨S4096, .f32⟩
  | 68 => ⟨S4096, .f32⟩
  | 69 => ⟨S4096, .f32⟩
  | 70 => ⟨S_, .f32⟩
  | 71 => ⟨S4096, .f32⟩
  | 72 => ⟨S4096, .f32⟩
  | 73 => ⟨S4096, .f32⟩
  | 74 => ⟨S4096, .f32⟩
  | 75 => ⟨S4096, .f32⟩
  | 76 => ⟨S_, .f32⟩
  | 77 => ⟨S4096, .f32⟩
  | 78 => ⟨S4096, .f32⟩
  | 79 => ⟨S4096, .f32⟩
  | 80 => ⟨S4096, .f32⟩
  | 81 => ⟨S4096, .f32⟩
  | 82 => ⟨S_, .f32⟩
  | 83 => ⟨S4096, .f32⟩
  | 84 => ⟨S4096, .f32⟩
  | 85 => ⟨S4096, .f32⟩
  | 86 => ⟨S4096, .f32⟩
  | 87 => ⟨S4096, .f32⟩
  | 88 => ⟨S_, .f32⟩
  | 89 => ⟨S4096, .f32⟩
  | 90 => ⟨S4096, .f32⟩
  | 91 => ⟨S_, .f32⟩
  | 92 => ⟨S4096, .f32⟩
  | 93 => ⟨S4096, .f32⟩
  | 94 => ⟨S4096x1, .f32⟩
  | 95 => ⟨S4096x1, .f32⟩
  | 96 => ⟨S4096x1, .f32⟩
  | 97 => ⟨S4096x1, .f32⟩
  | 98 => ⟨S4096x1, .f32⟩
  | 99 => ⟨S4096x1, .f32⟩
  | 100 => ⟨S4096x1, .f32⟩
  | 101 => ⟨S4096x1, .f32⟩
  | 102 => ⟨S4096x1, .f32⟩
  | 103 => ⟨S4096x9, .f32⟩
  | 104 => ⟨S4096x3x3, .f32⟩
  | 105 => ⟨S4096x1x3, .f32⟩
  | 106 => ⟨S4096x3x3, .f32⟩
  | 107 => ⟨S4096x3x3, .f32⟩
  | 108 => ⟨S4096x3x3, .f32⟩
  | 109 => ⟨S4096x3x3, .f32⟩
  | 110 => ⟨S_, .f32⟩
  | 111 => ⟨S4096x1, .f32⟩
  | 112 => ⟨S4096x4, .f32⟩
  | 113 => ⟨S4x4, .f32⟩
  | 114 => ⟨S4096x4, .f32⟩
  | 115 => ⟨S4096x1, .f32⟩
  | 116 => ⟨S4096, .f32⟩
  | 117 => ⟨S4096x1, .f32⟩
  | 118 => ⟨S4096, .f32⟩
  | 119 => ⟨S4096x1, .f32⟩
  | 120 => ⟨S4096, .f32⟩
  | 121 => ⟨S4x4, .f32⟩
  | 122 => ⟨S4096x4, .f32⟩
  | 123 => ⟨S4096x1, .f32⟩
  | 124 => ⟨S4096, .f32⟩
  | 125 => ⟨S_, .f32⟩
  | 126 => ⟨S4096, .f32⟩
  | 127 => ⟨S4096, .f32⟩
  | _ => ⟨S4096x3, .f32⟩

abbrev hbmTy0_1 (i : Nat) : BufTy := match i % 128 with
  | 0 => ⟨S_, .f32⟩
  | 1 => ⟨S4096, .f32⟩
  | 2 => ⟨S4096, .f32⟩
  | 3 => ⟨S4096x3, .f32⟩
  | 4 => ⟨S4096x1, .f32⟩
  | 5 => ⟨S4096x3, .f32⟩
  | 6 => ⟨S4096x3, .f32⟩
  | 7 => ⟨S4096, .f32⟩
  | 8 => ⟨S_, .f32⟩
  | 9 => ⟨S4096, .f32⟩
  | 10 => ⟨S4096, .i1⟩
  | 11 => ⟨S_, .f32⟩
  | 12 => ⟨S_, .f32⟩
  | 13 => ⟨S4096, .f32⟩
  | 14 => ⟨S4096, .f32⟩
  | 15 => ⟨S4096, .f32⟩
  | 16 => ⟨S_, .f32⟩
  | 17 => ⟨S_, .f32⟩
  | 18 => ⟨S_, .f32⟩
  | 19 => ⟨S4096, .f32⟩
  | 20 => ⟨S4096, .f32⟩
  | 21 => ⟨S_, .f32⟩
  | 22 => ⟨S4096, .f32⟩
  | 23 => ⟨S4096, .f32⟩
  | 24 => ⟨S4096, .f32⟩
  | 25 => ⟨S4096, .f32⟩
  | 26 => ⟨S_, .f32⟩
  | 27 => ⟨S_, .f32⟩
  | 28 => ⟨S_, .f32⟩
  | 29 => ⟨S4096, .f32⟩
  | 30 => ⟨S4096, .f32⟩
  | 31 => ⟨S_, .f32⟩
  | 32 => ⟨S4096, .f32⟩
  | 33 => ⟨S4096, .f32⟩
  | 34 => ⟨S4096, .f32⟩
  | 35 => ⟨S_, .f32⟩
  | 36 => ⟨S4096, .f32⟩
  | 37 => ⟨S_, .f32⟩
  | 38 => ⟨S4096, .f32⟩
  | 39 => ⟨S4096, .f32⟩
  | 40 => ⟨S_, .f32⟩
  | 41 => ⟨S4096, .f32⟩
  | 42 => ⟨S4096, .f32⟩
  | 43 => ⟨S4096, .f32⟩
  | 44 => ⟨S4096, .f32⟩
  | 45 => ⟨S4096x1, .f32⟩
  | 46 => ⟨S4096x1, .f32⟩
  | 47 => ⟨S4096x1, .f32⟩
  | 48 => ⟨S4096x3, .f32⟩
  | 49 => ⟨S_, .f32⟩
  | 50 => ⟨S4096, .f32⟩
  | 51 => ⟨S4096, .f32⟩
  | 52 => ⟨S_, .f32⟩
  | 53 => ⟨S4096, .f32⟩
  | 54 => ⟨S4096, .f32⟩
  | 55 => ⟨S4096, .f32⟩
  | 56 => ⟨S4096, .f32⟩
  | 57 => ⟨S4096x1, .f32⟩
  | 58 => ⟨S4096x1, .f32⟩
  | 59 => ⟨S4096x1, .f32⟩
  | 60 => ⟨S4096x3, .f32⟩
  | 61 => ⟨S4096x1, .f32⟩
  | 62 => ⟨S4096x1, .f32⟩
  | 63 => ⟨S4096x1, .f32⟩
  | 64 => ⟨S4096x3, .f32⟩
  | 65 => ⟨S4096x1x3, .f32⟩
  | 66 => ⟨S4096x1x3, .f32⟩
  | 67 => ⟨S4096x1x3, .f32⟩
  | 68 => ⟨S4096x3x3, .f32⟩
  | 69 => ⟨S3x3, .f32⟩
  | 70 => ⟨S4096x3x3, .f32⟩
  | 71 => ⟨S4096x3x3, .f32⟩
  | 72 => ⟨S4096x3x3, .f32⟩
  | 73 => ⟨S4096x3x3, .f32⟩
  | 74 => ⟨S4096x1x1, .f32⟩
  | 75 => ⟨S4096, .f32⟩
  | 76 => ⟨S_, .f32⟩
  | 77 => ⟨S4096, .f32⟩
  | 78 => ⟨S4096, .f32⟩
  | 79 => ⟨S4096x1x1, .f32⟩
  | 80 => ⟨S4096, .f32⟩
  | 81 => ⟨S4096x1x1, .f32⟩
  | 82 => ⟨S4096, .f32⟩
  | 83 => ⟨S_, .f32⟩
  | 84 => ⟨S4096, .f32⟩
  | 85 => ⟨S4096, .f32⟩
  | 86 => ⟨S4096, .f32⟩
  | 87 => ⟨S4096, .f32⟩
  | 88 => ⟨S4096, .f32⟩
  | 89 => ⟨S_, .f32⟩
  | 90 => ⟨S4096, .f32⟩
  | 91 => ⟨S4096, .i1⟩
  | 92 => ⟨S_, .f32⟩
  | 93 => ⟨S4096, .f32⟩
  | 94 => ⟨S4096, .i1⟩
  | 95 => ⟨S4096, .i1⟩
  | 96 => ⟨S_, .f32⟩
  | 97 => ⟨S_, .f32⟩
  | 98 => ⟨S4096, .f32⟩
  | 99 => ⟨S4096, .f32⟩
  | 100 => ⟨S4096, .f32⟩
  | 101 => ⟨S4096, .f32⟩
  | 102 => ⟨S4096, .f32⟩
  | 103 => ⟨S4096, .f32⟩
  | 104 => ⟨S4096x1, .f32⟩
  | 105 => ⟨S4096, .f32⟩
  | 106 => ⟨S_, .f32⟩
  | 107 => ⟨S4096, .f32⟩
  | 108 => ⟨S4096, .f32⟩
  | 109 => ⟨S_, .f32⟩
  | 110 => ⟨S4096, .f32⟩
  | 111 => ⟨S4096, .f32⟩
  | 112 => ⟨S_, .f32⟩
  | 113 => ⟨S4096, .f32⟩
  | 114 => ⟨S4096, .f32⟩
  | 115 => ⟨S_, .f32⟩
  | 116 => ⟨S4096, .f32⟩
  | 117 => ⟨S4096, .f32⟩
  | 118 => ⟨S4096x1, .f32⟩
  | 119 => ⟨S4096, .f32⟩
  | 120 => ⟨S_, .f32⟩
  | 121 => ⟨S4096, .f32⟩
  | 122 => ⟨S4096, .f32⟩
  | 123 => ⟨S_, .f32⟩
  | 124 => ⟨S4096, .f32⟩
  | 125 => ⟨S4096, .f32⟩
  | 126 => ⟨S_, .f32⟩
  | 127 => ⟨S4096, .f32⟩
  | _ => ⟨S4096x3, .f32⟩

abbrev hbmTy0_2 (i : Nat) : BufTy := match i % 128 with
  | 0 => ⟨S4096, .f32⟩
  | 1 => ⟨S_, .f32⟩
  | 2 => ⟨S4096, .f32⟩
  | 3 => ⟨S4096, .f32⟩
  | 4 => ⟨S4096, .i32⟩
  | 5 => ⟨S4096, .f32⟩
  | 6 => ⟨S4096, .i32⟩
  | 7 => ⟨S_, .i32⟩
  | 8 => ⟨S4096, .i32⟩
  | 9 => ⟨S4096, .i1⟩
  | 10 => ⟨S_, .i32⟩
  | 11 => ⟨S4096, .i32⟩
  | 12 => ⟨S4096, .i32⟩
  | 13 => ⟨S4096, .i32⟩
  | 14 => ⟨S4096x1, .i32⟩
  | 15 => ⟨S1, .i32⟩
  | 16 => ⟨S_, .i32⟩
  | 17 => ⟨S4096x1, .i32⟩
  | 18 => ⟨S4096x1, .i1⟩
  | 19 => ⟨S1x1, .i32⟩
  | 20 => ⟨S4096x1, .i32⟩
  | 21 => ⟨S4096x1, .i1⟩
  | 22 => ⟨S4096x1, .i1⟩
  | 23 => ⟨S_, .i1⟩
  | 24 => ⟨S4096, .i1⟩
  | 25 => ⟨S4096, .f32⟩
  | 26 => ⟨S_, .f32⟩
  | 27 => ⟨S4096, .f32⟩
  | 28 => ⟨S4096, .f32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S1, .i32⟩
  | 38 => ⟨S_, .i32⟩
  | 39 => ⟨S4096x1, .i32⟩
  | 40 => ⟨S4096x1, .i1⟩
  | 41 => ⟨S1x1, .i32⟩
  | 42 => ⟨S4096x1, .i32⟩
  | 43 => ⟨S4096x1, .i1⟩
  | 44 => ⟨S4096x1, .i1⟩
  | 45 => ⟨S_, .i1⟩
  | 46 => ⟨S4096, .i1⟩
  | 47 => ⟨S4096, .f32⟩
  | 48 => ⟨S_, .f32⟩
  | 49 => ⟨S4096, .f32⟩
  | 50 => ⟨S4096, .f32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S1, .i32⟩
  | 60 => ⟨S_, .i32⟩
  | 61 => ⟨S4096x1, .i32⟩
  | 62 => ⟨S4096x1, .i1⟩
  | 63 => ⟨S1x1, .i32⟩
  | 64 => ⟨S4096x1, .i32⟩
  | 65 => ⟨S4096x1, .i1⟩
  | 66 => ⟨S4096x1, .i1⟩
  | 67 => ⟨S_, .i1⟩
  | 68 => ⟨S4096, .i1⟩
  | 69 => ⟨S4096, .f32⟩
  | 70 => ⟨S_, .f32⟩
  | 71 => ⟨S4096, .f32⟩
  | 72 => ⟨S4096, .f32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S1, .i32⟩
  | 82 => ⟨S_, .i32⟩
  | 83 => ⟨S4096x1, .i32⟩
  | 84 => ⟨S4096x1, .i1⟩
  | 85 => ⟨S1x1, .i32⟩
  | 86 => ⟨S4096x1, .i32⟩
  | 87 => ⟨S4096x1, .i1⟩
  | 88 => ⟨S4096x1, .i1⟩
  | 89 => ⟨S_, .i1⟩
  | 90 => ⟨S4096, .i1⟩
  | 91 => ⟨S4096, .f32⟩
  | 92 => ⟨S_, .f32⟩
  | 93 => ⟨S4096, .f32⟩
  | 94 => ⟨S4096, .f32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S1, .i32⟩
  | 104 => ⟨S_, .i32⟩
  | 105 => ⟨S4096x1, .i32⟩
  | 106 => ⟨S4096x1, .i1⟩
  | 107 => ⟨S1x1, .i32⟩
  | 108 => ⟨S4096x1, .i32⟩
  | 109 => ⟨S4096x1, .i1⟩
  | 110 => ⟨S4096x1, .i1⟩
  | 111 => ⟨S_, .i1⟩
  | 112 => ⟨S4096, .i1⟩
  | 113 => ⟨S4096, .f32⟩
  | 114 => ⟨S_, .f32⟩
  | 115 => ⟨S4096, .f32⟩
  | 116 => ⟨S4096, .f32⟩
  | 117 => ⟨S4096, .f32⟩
  | 118 => ⟨S_, .i32⟩
  | 119 => ⟨S4096, .i32⟩
  | 120 => ⟨S4096, .i1⟩
  | 121 => ⟨S_, .i32⟩
  | 122 => ⟨S4096, .i32⟩
  | 123 => ⟨S4096, .i32⟩
  | 124 => ⟨S4096, .i32⟩
  | 125 => ⟨S4096x1, .i32⟩
  | 126 => ⟨S1, .i32⟩
  | 127 => ⟨S_, .i32⟩
  | _ => ⟨S4096x3, .f32⟩

abbrev hbmTy0_3 (i : Nat) : BufTy := match i % 128 with
  | 0 => ⟨S4096x1, .i32⟩
  | 1 => ⟨S4096x1, .i1⟩
  | 2 => ⟨S1x1, .i32⟩
  | 3 => ⟨S4096x1, .i32⟩
  | 4 => ⟨S4096x1, .i1⟩
  | 5 => ⟨S4096x1, .i1⟩
  | 6 => ⟨S_, .i1⟩
  | 7 => ⟨S4096, .i1⟩
  | 8 => ⟨S4096, .f32⟩
  | 9 => ⟨S_, .f32⟩
  | 10 => ⟨S4096, .f32⟩
  | 11 => ⟨S4096, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S1, .i32⟩
  | 21 => ⟨S_, .i32⟩
  | 22 => ⟨S4096x1, .i32⟩
  | 23 => ⟨S4096x1, .i1⟩
  | 24 => ⟨S1x1, .i32⟩
  | 25 => ⟨S4096x1, .i32⟩
  | 26 => ⟨S4096x1, .i1⟩
  | 27 => ⟨S4096x1, .i1⟩
  | 28 => ⟨S_, .i1⟩
  | 29 => ⟨S4096, .i1⟩
  | 30 => ⟨S4096x3, .f32⟩
  | 31 => ⟨S4096x3, .i1⟩
  | 32 => ⟨S_, .f32⟩
  | 33 => ⟨S4096x3, .f32⟩
  | 34 => ⟨S4096x3, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S1, .i32⟩
  | 44 => ⟨S_, .i32⟩
  | 45 => ⟨S4096x1, .i32⟩
  | 46 => ⟨S4096x1, .i1⟩
  | 47 => ⟨S1x1, .i32⟩
  | 48 => ⟨S4096x1, .i32⟩
  | 49 => ⟨S4096x1, .i1⟩
  | 50 => ⟨S4096x1, .i1⟩
  | 51 => ⟨S_, .i1⟩
  | 52 => ⟨S4096, .i1⟩
  | 53 => ⟨S4096, .i1⟩
  | 54 => ⟨S_, .i1⟩
  | 55 => ⟨S4096, .i1⟩
  | 56 => ⟨S4096, .i1⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S1, .i32⟩
  | 66 => ⟨S_, .i32⟩
  | 67 => ⟨S4096x1, .i32⟩
  | 68 => ⟨S4096x1, .i1⟩
  | 69 => ⟨S1x1, .i32⟩
  | 70 => ⟨S4096x1, .i32⟩
  | 71 => ⟨S4096x1, .i1⟩
  | 72 => ⟨S4096x1, .i1⟩
  | 73 => ⟨S_, .i1⟩
  | 74 => ⟨S4096, .i1⟩
  | 75 => ⟨S4096, .f32⟩
  | 76 => ⟨S_, .f32⟩
  | 77 => ⟨S4096, .f32⟩
  | 78 => ⟨S4096, .f32⟩
  | 79 => ⟨S64, .f32⟩
  | 80 => ⟨S64, .f32⟩
  | 81 => ⟨S64x64, .f32⟩
  | 82 => ⟨S64x64, .f32⟩
  | 83 => ⟨S4096, .f32⟩
  | 84 => ⟨S4096, .f32⟩
  | 85 => ⟨S1x4096, .f32⟩
  | 86 => ⟨S4096x1, .f32⟩
  | 87 => ⟨S4096x4096, .f32⟩
  | 88 => ⟨S4096x4096, .f32⟩
  | 89 => ⟨S4096x4096, .f32⟩
  | 90 => ⟨S1x4096, .f32⟩
  | 91 => ⟨S4096x1, .f32⟩
  | 92 => ⟨S4096x4096, .f32⟩
  | 93 => ⟨S4096x4096, .f32⟩
  | 94 => ⟨S4096x4096, .f32⟩
  | 95 => ⟨S1x4096, .f32⟩
  | 96 => ⟨S4096x4096, .f32⟩
  | 97 => ⟨S4096x4096, .f32⟩
  | 98 => ⟨S4096x4096, .f32⟩
  | 99 => ⟨S1x4096, .f32⟩
  | 100 => ⟨S4096x4096, .f32⟩
  | 101 => ⟨S4096x4096, .f32⟩
  | 102 => ⟨S4096x4096, .f32⟩
  | 103 => ⟨S4096x4096, .f32⟩
  | 104 => ⟨S_, .f32⟩
  | 105 => ⟨S4096x4096, .f32⟩
  | 106 => ⟨S4096x4096, .f32⟩
  | 107 => ⟨S1x4096, .f32⟩
  | 108 => ⟨S4096x4096, .f32⟩
  | 109 => ⟨S4096x4096, .f32⟩
  | 110 => ⟨S4096x4096, .f32⟩
  | 111 => ⟨S4096x4096, .f32⟩
  | 112 => ⟨S1x4096, .f32⟩
  | 113 => ⟨S_, .f32⟩
  | 114 => ⟨S4096x4096, .f32⟩
  | 115 => ⟨S4096x4096, .f32⟩
  | 116 => ⟨S4096x4096, .f32⟩
  | 117 => ⟨S4096x4096, .f32⟩
  | 118 => ⟨S4096x4096, .f32⟩
  | 119 => ⟨S_, .f32⟩
  | 120 => ⟨S4096x4096, .f32⟩
  | 121 => ⟨S4096x4096, .f32⟩
  | 122 => ⟨S_, .f32⟩
  | 123 => ⟨S4096x4096, .f32⟩
  | 124 => ⟨S4096x4096, .i1⟩
  | 125 => ⟨S1x4096, .i1⟩
  | 126 => ⟨S1x4096, .i1⟩
  | 127 => ⟨S4096x4096, .i1⟩
  | _ => ⟨S4096x3, .f32⟩

abbrev hbmTy0_4 (i : Nat) : BufTy := match i % 128 with
  | 0 => ⟨S4096x4096, .i1⟩
  | 1 => ⟨S_, .f32⟩
  | 2 => ⟨S4096x4096, .f32⟩
  | 3 => ⟨S4096x4096, .i1⟩
  | 4 => ⟨S4096x4096, .i1⟩
  | 5 => ⟨S_, .f32⟩
  | 6 => ⟨S_, .f32⟩
  | 7 => ⟨S4096x4096, .f32⟩
  | 8 => ⟨S4096x4096, .f32⟩
  | 9 => ⟨S_, .f32⟩
  | 10 => ⟨S4096, .f32⟩
  | 11 => ⟨S4096x4096, .f32⟩
  | 12 => ⟨S_, .f32⟩
  | 13 => ⟨S4096x4096, .f32⟩
  | 14 => ⟨S_, .i32⟩
  | 15 => ⟨S4096x4096, .f32⟩
  | 16 => ⟨S_, .i32⟩
  | 17 => ⟨S4096, .f32⟩
  | 18 => ⟨S4096, .f32⟩
  | 19 => ⟨S4096x4096, .f32⟩
  | 20 => ⟨S_, .i32⟩
  | 21 => ⟨S_, .i1⟩
  | 22 => ⟨S_, .i32⟩
  | 23 => ⟨S1x4096, .f32⟩
  | 24 => ⟨S4096, .f32⟩
  | 25 => ⟨S_, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .i1⟩
  | 32 => ⟨S4096, .f32⟩
  | 33 => ⟨S4096, .f32⟩
  | 34 => ⟨S_, .f32⟩
  | 35 => ⟨S4096, .f32⟩
  | 36 => ⟨S4096, .f32⟩
  | 37 => ⟨S4096, .f32⟩
  | 38 => ⟨S4096, .f32⟩
  | 39 => ⟨S1x4096, .f32⟩
  | 40 => ⟨S_, .i32⟩
  | 41 => ⟨S4096x4096, .f32⟩
  | 42 => ⟨S_, .i32⟩
  | 43 => ⟨S_, .i32⟩
  | 44 => ⟨S4096x4096, .f32⟩
  | 45 => ⟨S4096x3, .f32⟩
  | 46 => ⟨S4096x1, .f32⟩
  | 47 => ⟨S1x3, .f32⟩
  | 48 => ⟨S4096x3, .f32⟩
  | 49 => ⟨S4096x3, .f32⟩
  | 50 => ⟨S4096x3, .f32⟩
  | 51 => ⟨S4096x3, .f32⟩
  | 52 => ⟨S_, .f32⟩
  | 53 => ⟨S4096, .f32⟩
  | 54 => ⟨S4096, .f32⟩
  | 55 => ⟨S4096x1, .f32⟩
  | 56 => ⟨S4096x1, .f32⟩
  | 57 => ⟨S64x64x3, .f32⟩
  | 58 => ⟨S3x64x64, .f32⟩
  | 59 => ⟨S1x64x64, .f32⟩
  | 60 => ⟨S4096, .f32⟩
  | 61 => ⟨S_, .f32⟩
  | 62 => ⟨S4096, .f32⟩
  | 63 => ⟨S4096, .f32⟩
  | 64 => ⟨S4096, .f32⟩
  | 65 => ⟨S4096, .f32⟩
  | 66 => ⟨S_, .f32⟩
  | 67 => ⟨S4096, .f32⟩
  | 68 => ⟨S4096, .f32⟩
  | 69 => ⟨S4096, .f32⟩
  | 70 => ⟨S4096, .f32⟩
  | 71 => ⟨S4096, .f32⟩
  | 72 => ⟨S_, .f32⟩
  | 73 => ⟨S4096, .f32⟩
  | 74 => ⟨S4096, .f32⟩
  | 75 => ⟨S4096, .f32⟩
  | 76 => ⟨S_, .f32⟩
  | 77 => ⟨S_, .f32⟩
  | 78 => ⟨S4096, .f32⟩
  | 79 => ⟨S4096, .f32⟩
  | 80 => ⟨S4096, .i32⟩
  | _ => ⟨S4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_cst_15 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_16 : Ref sig .tc := ⟨.hbm, 136, rfl⟩
abbrev main_v105 : Ref sig .tc := ⟨.hbm, 137, rfl⟩
abbrev main_v106 : Ref sig .tc := ⟨.hbm, 138, rfl⟩
abbrev main_cst_17 : Ref sig .tc := ⟨.hbm, 139, rfl⟩
abbrev main_call1_v0 : Ref sig .tc := ⟨.hbm, 140, rfl⟩
abbrev main_call1_v1 : Ref sig .tc := ⟨.hbm, 141, rfl⟩
abbrev main_v107 : Ref sig .tc := ⟨.hbm, 142, rfl⟩
abbrev main_v108 : Ref sig .tc := ⟨.hbm, 143, rfl⟩
abbrev main_cst_18 : Ref sig .tc := ⟨.hbm, 144, rfl⟩
abbrev main_cst_19 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_cst_21 : Ref sig .tc := ⟨.hbm, 155, rfl⟩
abbrev main_call3_v0 : Ref sig .tc := ⟨.hbm, 156, rfl⟩
abbrev main_call3_v1 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_v112 : Ref sig .tc := ⟨.hbm, 161, rfl⟩
abbrev main_v113 : Ref sig .tc := ⟨.hbm, 162, rfl⟩
abbrev main_cst_22 : Ref sig .tc := ⟨.hbm, 163, rfl⟩
abbrev main_v114 : Ref sig .tc := ⟨.hbm, 164, rfl⟩
abbrev main_cst_23 : Ref sig .tc := ⟨.hbm, 165, rfl⟩
abbrev main_v115 : Ref sig .tc := ⟨.hbm, 166, rfl⟩
abbrev main_v116 : Ref sig .tc := ⟨.hbm, 167, rfl⟩
abbrev main_cst_24 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_25 : Ref sig .tc := ⟨.hbm, 177, rfl⟩
abbrev main_v125 : Ref sig .tc := ⟨.hbm, 178, rfl⟩
abbrev main_v126 : Ref sig .tc := ⟨.hbm, 179, rfl⟩
abbrev main_cst_26 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_27 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_28 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_29 : Ref sig .tc := ⟨.hbm, 217, rfl⟩
abbrev main_v161 : Ref sig .tc := ⟨.hbm, 218, rfl⟩
abbrev main_v162 : Ref sig .tc := ⟨.hbm, 219, rfl⟩
abbrev main_cst_30 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_cst_31 : Ref sig .tc := ⟨.hbm, 224, rfl⟩
abbrev main_call4_v0 : Ref sig .tc := ⟨.hbm, 225, rfl⟩
abbrev main_call4_v1 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_32 : Ref sig .tc := ⟨.hbm, 234, rfl⟩
abbrev main_v173 : Ref sig .tc := ⟨.hbm, 235, rfl⟩
abbrev main_v174 : Ref sig .tc := ⟨.hbm, 236, rfl⟩
abbrev main_cst_33 : Ref sig .tc := ⟨.hbm, 237, rfl⟩
abbrev main_v175 : Ref sig .tc := ⟨.hbm, 238, rfl⟩
abbrev main_v176 : Ref sig .tc := ⟨.hbm, 239, rfl⟩
abbrev main_cst_34 : Ref sig .tc := ⟨.hbm, 240, rfl⟩
abbrev main_v177 : Ref sig .tc := ⟨.hbm, 241, rfl⟩
abbrev main_v178 : Ref sig .tc := ⟨.hbm, 242, rfl⟩
abbrev main_cst_35 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_36 : Ref sig .tc := ⟨.hbm, 248, rfl⟩
abbrev main_v183 : Ref sig .tc := ⟨.hbm, 249, rfl⟩
abbrev main_v184 : Ref sig .tc := ⟨.hbm, 250, rfl⟩
abbrev main_cst_37 : Ref sig .tc := ⟨.hbm, 251, rfl⟩
abbrev main_v185 : Ref sig .tc := ⟨.hbm, 252, rfl⟩
abbrev main_v186 : Ref sig .tc := ⟨.hbm, 253, rfl⟩
abbrev main_cst_38 : Ref sig .tc := ⟨.hbm, 254, rfl⟩
abbrev main_v187 : Ref sig .tc := ⟨.hbm, 255, rfl⟩
abbrev main_v188 : Ref sig .tc := ⟨.hbm, 256, rfl⟩
abbrev main_cst_39 : Ref sig .tc := ⟨.hbm, 257, rfl⟩
abbrev main_v189 : Ref sig .tc := ⟨.hbm, 258, rfl⟩
abbrev main_v190 : Ref sig .tc := ⟨.hbm, 259, rfl⟩
abbrev main_call5_v0 : Ref sig .tc := ⟨.hbm, 260, rfl⟩
abbrev main_call5_v1_0 : Ref sig .tc := ⟨.hbm, 261, rfl⟩
abbrev main_v191 : Ref sig .tc := ⟨.hbm, 262, rfl⟩
abbrev main_call6_c : Ref sig .tc := ⟨.hbm, 263, rfl⟩
abbrev main_call6_v0 : Ref sig .tc := ⟨.hbm, 264, rfl⟩
abbrev main_call6_v1 : Ref sig .tc := ⟨.hbm, 265, rfl⟩
abbrev main_call6_c_0 : Ref sig .tc := ⟨.hbm, 266, rfl⟩
abbrev main_call6_v2 : Ref sig .tc := ⟨.hbm, 267, rfl⟩
abbrev main_call6_v3 : Ref sig .tc := ⟨.hbm, 268, rfl⟩
abbrev main_call6_v4 : Ref sig .tc := ⟨.hbm, 269, rfl⟩
abbrev main_call6_v5 : Ref sig .tc := ⟨.hbm, 270, rfl⟩
abbrev main_call6_c_1 : Ref sig .tc := ⟨.hbm, 271, rfl⟩
abbrev main_call6_c_2 : Ref sig .tc := ⟨.hbm, 272, rfl⟩
abbrev main_call6_v6 : Ref sig .tc := ⟨.hbm, 273, rfl⟩
abbrev main_call6_v7 : Ref sig .tc := ⟨.hbm, 274, rfl⟩
abbrev main_call6_v8 : Ref sig .tc := ⟨.hbm, 275, rfl⟩
abbrev main_call6_v9 : Ref sig .tc := ⟨.hbm, 276, rfl⟩
abbrev main_call6_v10 : Ref sig .tc := ⟨.hbm, 277, rfl⟩
abbrev main_call6_v11 : Ref sig .tc := ⟨.hbm, 278, rfl⟩
abbrev main_call6_c_3 : Ref sig .tc := ⟨.hbm, 279, rfl⟩
abbrev main_call6_v12 : Ref sig .tc := ⟨.hbm, 280, rfl⟩
abbrev main_call6_v13 : Ref sig .tc := ⟨.hbm, 281, rfl⟩
abbrev main_call6_cst : Ref sig .tc := ⟨.hbm, 282, rfl⟩
abbrev main_call6_v14 : Ref sig .tc := ⟨.hbm, 283, rfl⟩
abbrev main_v192 : Ref sig .tc := ⟨.hbm, 284, rfl⟩
abbrev main_call7_c : Ref sig .tc := ⟨.hbm, 285, rfl⟩
abbrev main_call7_v0 : Ref sig .tc := ⟨.hbm, 286, rfl⟩
abbrev main_call7_v1 : Ref sig .tc := ⟨.hbm, 287, rfl⟩
abbrev main_call7_c_0 : Ref sig .tc := ⟨.hbm, 288, rfl⟩
abbrev main_call7_v2 : Ref sig .tc := ⟨.hbm, 289, rfl⟩
abbrev main_call7_v3 : Ref sig .tc := ⟨.hbm, 290, rfl⟩
abbrev main_call7_v4 : Ref sig .tc := ⟨.hbm, 291, rfl⟩
abbrev main_call7_v5 : Ref sig .tc := ⟨.hbm, 292, rfl⟩
abbrev main_call7_c_1 : Ref sig .tc := ⟨.hbm, 293, rfl⟩
abbrev main_call7_c_2 : Ref sig .tc := ⟨.hbm, 294, rfl⟩
abbrev main_call7_v6 : Ref sig .tc := ⟨.hbm, 295, rfl⟩
abbrev main_call7_v7 : Ref sig .tc := ⟨.hbm, 296, rfl⟩
abbrev main_call7_v8 : Ref sig .tc := ⟨.hbm, 297, rfl⟩
abbrev main_call7_v9 : Ref sig .tc := ⟨.hbm, 298, rfl⟩
abbrev main_call7_v10 : Ref sig .tc := ⟨.hbm, 299, rfl⟩
abbrev main_call7_v11 : Ref sig .tc := ⟨.hbm, 300, rfl⟩
abbrev main_call7_c_3 : Ref sig .tc := ⟨.hbm, 301, rfl⟩
abbrev main_call7_v12 : Ref sig .tc := ⟨.hbm, 302, rfl⟩
abbrev main_call7_v13 : Ref sig .tc := ⟨.hbm, 303, rfl⟩
abbrev main_call7_cst : Ref sig .tc := ⟨.hbm, 304, rfl⟩
abbrev main_call7_v14 : Ref sig .tc := ⟨.hbm, 305, rfl⟩
abbrev main_v193 : Ref sig .tc := ⟨.hbm, 306, rfl⟩
abbrev main_call8_c : Ref sig .tc := ⟨.hbm, 307, rfl⟩
abbrev main_call8_v0 : Ref sig .tc := ⟨.hbm, 308, rfl⟩
abbrev main_call8_v1 : Ref sig .tc := ⟨.hbm, 309, rfl⟩
abbrev main_call8_c_0 : Ref sig .tc := ⟨.hbm, 310, rfl⟩
abbrev main_call8_v2 : Ref sig .tc := ⟨.hbm, 311, rfl⟩
abbrev main_call8_v3 : Ref sig .tc := ⟨.hbm, 312, rfl⟩
abbrev main_call8_v4 : Ref sig .tc := ⟨.hbm, 313, rfl⟩
abbrev main_call8_v5 : Ref sig .tc := ⟨.hbm, 314, rfl⟩
abbrev main_call8_c_1 : Ref sig .tc := ⟨.hbm, 315, rfl⟩
abbrev main_call8_c_2 : Ref sig .tc := ⟨.hbm, 316, rfl⟩
abbrev main_call8_v6 : Ref sig .tc := ⟨.hbm, 317, rfl⟩
abbrev main_call8_v7 : Ref sig .tc := ⟨.hbm, 318, rfl⟩
abbrev main_call8_v8 : Ref sig .tc := ⟨.hbm, 319, rfl⟩
abbrev main_call8_v9 : Ref sig .tc := ⟨.hbm, 320, rfl⟩
abbrev main_call8_v10 : Ref sig .tc := ⟨.hbm, 321, rfl⟩
abbrev main_call8_v11 : Ref sig .tc := ⟨.hbm, 322, rfl⟩
abbrev main_call8_c_3 : Ref sig .tc := ⟨.hbm, 323, rfl⟩
abbrev main_call8_v12 : Ref sig .tc := ⟨.hbm, 324, rfl⟩
abbrev main_call8_v13 : Ref sig .tc := ⟨.hbm, 325, rfl⟩
abbrev main_call8_cst : Ref sig .tc := ⟨.hbm, 326, rfl⟩
abbrev main_call8_v14 : Ref sig .tc := ⟨.hbm, 327, rfl⟩
abbrev main_v194 : Ref sig .tc := ⟨.hbm, 328, rfl⟩
abbrev main_call9_c : Ref sig .tc := ⟨.hbm, 329, rfl⟩
abbrev main_call9_v0 : Ref sig .tc := ⟨.hbm, 330, rfl⟩
abbrev main_call9_v1 : Ref sig .tc := ⟨.hbm, 331, rfl⟩
abbrev main_call9_c_0 : Ref sig .tc := ⟨.hbm, 332, rfl⟩
abbrev main_call9_v2 : Ref sig .tc := ⟨.hbm, 333, rfl⟩
abbrev main_call9_v3 : Ref sig .tc := ⟨.hbm, 334, rfl⟩
abbrev main_call9_v4 : Ref sig .tc := ⟨.hbm, 335, rfl⟩
abbrev main_call9_v5 : Ref sig .tc := ⟨.hbm, 336, rfl⟩
abbrev main_call9_c_1 : Ref sig .tc := ⟨.hbm, 337, rfl⟩
abbrev main_call9_c_2 : Ref sig .tc := ⟨.hbm, 338, rfl⟩
abbrev main_call9_v6 : Ref sig .tc := ⟨.hbm, 339, rfl⟩
abbrev main_call9_v7 : Ref sig .tc := ⟨.hbm, 340, rfl⟩
abbrev main_call9_v8 : Ref sig .tc := ⟨.hbm, 341, rfl⟩
abbrev main_call9_v9 : Ref sig .tc := ⟨.hbm, 342, rfl⟩
abbrev main_call9_v10 : Ref sig .tc := ⟨.hbm, 343, rfl⟩
abbrev main_call9_v11 : Ref sig .tc := ⟨.hbm, 344, rfl⟩
abbrev main_call9_c_3 : Ref sig .tc := ⟨.hbm, 345, rfl⟩
abbrev main_call9_v12 : Ref sig .tc := ⟨.hbm, 346, rfl⟩
abbrev main_call9_v13 : Ref sig .tc := ⟨.hbm, 347, rfl⟩
abbrev main_call9_cst : Ref sig .tc := ⟨.hbm, 348, rfl⟩
abbrev main_call9_v14 : Ref sig .tc := ⟨.hbm, 349, rfl⟩
abbrev main_v195 : Ref sig .tc := ⟨.hbm, 350, rfl⟩
abbrev main_call10_c : Ref sig .tc := ⟨.hbm, 351, rfl⟩
abbrev main_call10_v0 : Ref sig .tc := ⟨.hbm, 352, rfl⟩
abbrev main_call10_v1 : Ref sig .tc := ⟨.hbm, 353, rfl⟩
abbrev main_call10_c_0 : Ref sig .tc := ⟨.hbm, 354, rfl⟩
abbrev main_call10_v2 : Ref sig .tc := ⟨.hbm, 355, rfl⟩
abbrev main_call10_v3 : Ref sig .tc := ⟨.hbm, 356, rfl⟩
abbrev main_call10_v4 : Ref sig .tc := ⟨.hbm, 357, rfl⟩
abbrev main_call10_v5 : Ref sig .tc := ⟨.hbm, 358, rfl⟩
abbrev main_call10_c_1 : Ref sig .tc := ⟨.hbm, 359, rfl⟩
abbrev main_call10_c_2 : Ref sig .tc := ⟨.hbm, 360, rfl⟩
abbrev main_call10_v6 : Ref sig .tc := ⟨.hbm, 361, rfl⟩
abbrev main_call10_v7 : Ref sig .tc := ⟨.hbm, 362, rfl⟩
abbrev main_call10_v8 : Ref sig .tc := ⟨.hbm, 363, rfl⟩
abbrev main_call10_v9 : Ref sig .tc := ⟨.hbm, 364, rfl⟩
abbrev main_call10_v10 : Ref sig .tc := ⟨.hbm, 365, rfl⟩
abbrev main_call10_v11 : Ref sig .tc := ⟨.hbm, 366, rfl⟩
abbrev main_call10_c_3 : Ref sig .tc := ⟨.hbm, 367, rfl⟩
abbrev main_call10_v12 : Ref sig .tc := ⟨.hbm, 368, rfl⟩
abbrev main_call10_v13 : Ref sig .tc := ⟨.hbm, 369, rfl⟩
abbrev main_call10_cst : Ref sig .tc := ⟨.hbm, 370, rfl⟩
abbrev main_call10_v14 : Ref sig .tc := ⟨.hbm, 371, rfl⟩
abbrev main_v196 : Ref sig .tc := ⟨.hbm, 372, rfl⟩
abbrev main_v197 : Ref sig .tc := ⟨.hbm, 373, rfl⟩
abbrev main_call11_c : Ref sig .tc := ⟨.hbm, 374, rfl⟩
abbrev main_call11_v0 : Ref sig .tc := ⟨.hbm, 375, rfl⟩
abbrev main_call11_v1 : Ref sig .tc := ⟨.hbm, 376, rfl⟩
abbrev main_call11_c_0 : Ref sig .tc := ⟨.hbm, 377, rfl⟩
abbrev main_call11_v2 : Ref sig .tc := ⟨.hbm, 378, rfl⟩
abbrev main_call11_v3 : Ref sig .tc := ⟨.hbm, 379, rfl⟩
abbrev main_call11_v4 : Ref sig .tc := ⟨.hbm, 380, rfl⟩
abbrev main_call11_v5 : Ref sig .tc := ⟨.hbm, 381, rfl⟩
abbrev main_call11_c_1 : Ref sig .tc := ⟨.hbm, 382, rfl⟩
abbrev main_call11_c_2 : Ref sig .tc := ⟨.hbm, 383, rfl⟩
abbrev main_call11_v6 : Ref sig .tc := ⟨.hbm, 384, rfl⟩
abbrev main_call11_v7 : Ref sig .tc := ⟨.hbm, 385, rfl⟩
abbrev main_call11_v8 : Ref sig .tc := ⟨.hbm, 386, rfl⟩
abbrev main_call11_v9 : Ref sig .tc := ⟨.hbm, 387, rfl⟩
abbrev main_call11_v10 : Ref sig .tc := ⟨.hbm, 388, rfl⟩
abbrev main_call11_v11 : Ref sig .tc := ⟨.hbm, 389, rfl⟩
abbrev main_call11_c_3 : Ref sig .tc := ⟨.hbm, 390, rfl⟩
abbrev main_call11_v12 : Ref sig .tc := ⟨.hbm, 391, rfl⟩
abbrev main_call11_v13 : Ref sig .tc := ⟨.hbm, 392, rfl⟩
abbrev main_call11_cst : Ref sig .tc := ⟨.hbm, 393, rfl⟩
abbrev main_call11_v14 : Ref sig .tc := ⟨.hbm, 394, rfl⟩
abbrev main_v198 : Ref sig .tc := ⟨.hbm, 395, rfl⟩
abbrev main_call12_c : Ref sig .tc := ⟨.hbm, 396, rfl⟩
abbrev main_call12_v0 : Ref sig .tc := ⟨.hbm, 397, rfl⟩
abbrev main_call12_v1 : Ref sig .tc := ⟨.hbm, 398, rfl⟩
abbrev main_call12_c_0 : Ref sig .tc := ⟨.hbm, 399, rfl⟩
abbrev main_call12_v2 : Ref sig .tc := ⟨.hbm, 400, rfl⟩
abbrev main_call12_v3 : Ref sig .tc := ⟨.hbm, 401, rfl⟩
abbrev main_call12_v4 : Ref sig .tc := ⟨.hbm, 402, rfl⟩
abbrev main_call12_v5 : Ref sig .tc := ⟨.hbm, 403, rfl⟩
abbrev main_call12_c_1 : Ref sig .tc := ⟨.hbm, 404, rfl⟩
abbrev main_call12_c_2 : Ref sig .tc := ⟨.hbm, 405, rfl⟩
abbrev main_call12_v6 : Ref sig .tc := ⟨.hbm, 406, rfl⟩
abbrev main_call12_v7 : Ref sig .tc := ⟨.hbm, 407, rfl⟩
abbrev main_call12_v8 : Ref sig .tc := ⟨.hbm, 408, rfl⟩
abbrev main_call12_v9 : Ref sig .tc := ⟨.hbm, 409, rfl⟩
abbrev main_call12_v10 : Ref sig .tc := ⟨.hbm, 410, rfl⟩
abbrev main_call12_v11 : Ref sig .tc := ⟨.hbm, 411, rfl⟩
abbrev main_call12_c_3 : Ref sig .tc := ⟨.hbm, 412, rfl⟩
abbrev main_call12_v12 : Ref sig .tc := ⟨.hbm, 413, rfl⟩
abbrev main_call12_v13 : Ref sig .tc := ⟨.hbm, 414, rfl⟩
abbrev main_call12_v14 : Ref sig .tc := ⟨.hbm, 415, rfl⟩
abbrev main_call12_cst : Ref sig .tc := ⟨.hbm, 416, rfl⟩
abbrev main_call12_v15 : Ref sig .tc := ⟨.hbm, 417, rfl⟩
abbrev main_v199 : Ref sig .tc := ⟨.hbm, 418, rfl⟩
abbrev main_call13_c : Ref sig .tc := ⟨.hbm, 419, rfl⟩
abbrev main_call13_v0 : Ref sig .tc := ⟨.hbm, 420, rfl⟩
abbrev main_call13_v1 : Ref sig .tc := ⟨.hbm, 421, rfl⟩
abbrev main_call13_c_0 : Ref sig .tc := ⟨.hbm, 422, rfl⟩
abbrev main_call13_v2 : Ref sig .tc := ⟨.hbm, 423, rfl⟩
abbrev main_call13_v3 : Ref sig .tc := ⟨.hbm, 424, rfl⟩
abbrev main_call13_v4 : Ref sig .tc := ⟨.hbm, 425, rfl⟩
abbrev main_call13_v5 : Ref sig .tc := ⟨.hbm, 426, rfl⟩
abbrev main_call13_c_1 : Ref sig .tc := ⟨.hbm, 427, rfl⟩
abbrev main_call13_c_2 : Ref sig .tc := ⟨.hbm, 428, rfl⟩
abbrev main_call13_v6 : Ref sig .tc := ⟨.hbm, 429, rfl⟩
abbrev main_call13_v7 : Ref sig .tc := ⟨.hbm, 430, rfl⟩
abbrev main_call13_v8 : Ref sig .tc := ⟨.hbm, 431, rfl⟩
abbrev main_call13_v9 : Ref sig .tc := ⟨.hbm, 432, rfl⟩
abbrev main_call13_v10 : Ref sig .tc := ⟨.hbm, 433, rfl⟩
abbrev main_call13_v11 : Ref sig .tc := ⟨.hbm, 434, rfl⟩
abbrev main_call13_c_3 : Ref sig .tc := ⟨.hbm, 435, rfl⟩
abbrev main_call13_v12 : Ref sig .tc := ⟨.hbm, 436, rfl⟩
abbrev main_call13_v13 : Ref sig .tc := ⟨.hbm, 437, rfl⟩
abbrev main_call13_c_4 : Ref sig .tc := ⟨.hbm, 438, rfl⟩
abbrev main_call13_v14 : Ref sig .tc := ⟨.hbm, 439, rfl⟩
abbrev main_v200 : Ref sig .tc := ⟨.hbm, 440, rfl⟩
abbrev main_call14_c : Ref sig .tc := ⟨.hbm, 441, rfl⟩
abbrev main_call14_v0 : Ref sig .tc := ⟨.hbm, 442, rfl⟩
abbrev main_call14_v1 : Ref sig .tc := ⟨.hbm, 443, rfl⟩
abbrev main_call14_c_0 : Ref sig .tc := ⟨.hbm, 444, rfl⟩
abbrev main_call14_v2 : Ref sig .tc := ⟨.hbm, 445, rfl⟩
abbrev main_call14_v3 : Ref sig .tc := ⟨.hbm, 446, rfl⟩
abbrev main_call14_v4 : Ref sig .tc := ⟨.hbm, 447, rfl⟩
abbrev main_call14_v5 : Ref sig .tc := ⟨.hbm, 448, rfl⟩
abbrev main_call14_c_1 : Ref sig .tc := ⟨.hbm, 449, rfl⟩
abbrev main_call14_c_2 : Ref sig .tc := ⟨.hbm, 450, rfl⟩
abbrev main_call14_v6 : Ref sig .tc := ⟨.hbm, 451, rfl⟩
abbrev main_call14_v7 : Ref sig .tc := ⟨.hbm, 452, rfl⟩
abbrev main_call14_v8 : Ref sig .tc := ⟨.hbm, 453, rfl⟩
abbrev main_call14_v9 : Ref sig .tc := ⟨.hbm, 454, rfl⟩
abbrev main_call14_v10 : Ref sig .tc := ⟨.hbm, 455, rfl⟩
abbrev main_call14_v11 : Ref sig .tc := ⟨.hbm, 456, rfl⟩
abbrev main_call14_c_3 : Ref sig .tc := ⟨.hbm, 457, rfl⟩
abbrev main_call14_v12 : Ref sig .tc := ⟨.hbm, 458, rfl⟩
abbrev main_call14_v13 : Ref sig .tc := ⟨.hbm, 459, rfl⟩
abbrev main_call14_cst : Ref sig .tc := ⟨.hbm, 460, rfl⟩
abbrev main_call14_v14 : Ref sig .tc := ⟨.hbm, 461, rfl⟩
abbrev main_v201 : Ref sig .tc := ⟨.hbm, 462, rfl⟩
abbrev main_v202 : Ref sig .tc := ⟨.hbm, 463, rfl⟩
abbrev main_v203 : Ref sig .tc := ⟨.hbm, 464, rfl⟩
abbrev main_v204 : Ref sig .tc := ⟨.hbm, 465, rfl⟩
abbrev main_v205 : Ref sig .tc := ⟨.hbm, 466, rfl⟩
abbrev main_v206 : Ref sig .tc := ⟨.hbm, 467, rfl⟩
abbrev main_v207 : Ref sig .tc := ⟨.hbm, 468, rfl⟩
abbrev main_v208 : Ref sig .tc := ⟨.hbm, 469, rfl⟩
abbrev main_v209 : Ref sig .tc := ⟨.hbm, 470, rfl⟩
abbrev main_v210 : Ref sig .tc := ⟨.hbm, 471, rfl⟩
abbrev main_v211 : Ref sig .tc := ⟨.hbm, 472, rfl⟩
abbrev main_v212 : Ref sig .tc := ⟨.hbm, 473, rfl⟩
abbrev main_v213 : Ref sig .tc := ⟨.hbm, 474, rfl⟩
abbrev main_v214 : Ref sig .tc := ⟨.hbm, 475, rfl⟩
abbrev main_v215 : Ref sig .tc := ⟨.hbm, 476, rfl⟩
abbrev main_v216 : Ref sig .tc := ⟨.hbm, 477, rfl⟩
abbrev main_v217 : Ref sig .tc := ⟨.hbm, 478, rfl⟩
abbrev main_v218 : Ref sig .tc := ⟨.hbm, 479, rfl⟩
abbrev main_v219 : Ref sig .tc := ⟨.hbm, 480, rfl⟩
abbrev main_v220 : Ref sig .tc := ⟨.hbm, 481, rfl⟩
abbrev main_v221 : Ref sig .tc := ⟨.hbm, 482, rfl⟩
abbrev main_v222 : Ref sig .tc := ⟨.hbm, 483, rfl⟩
abbrev main_v223 : Ref sig .tc := ⟨.hbm, 484, rfl⟩
abbrev main_v224 : Ref sig .tc := ⟨.hbm, 485, rfl⟩
abbrev main_v225 : Ref sig .tc := ⟨.hbm, 486, rfl⟩
abbrev main_v226 : Ref sig .tc := ⟨.hbm, 487, rfl⟩
abbrev main_cst_40 : Ref sig .tc := ⟨.hbm, 488, rfl⟩
abbrev main_v227 : Ref sig .tc := ⟨.hbm, 489, rfl⟩
abbrev main_v228 : Ref sig .tc := ⟨.hbm, 490, rfl⟩
abbrev main_v229 : Ref sig .tc := ⟨.hbm, 491, rfl⟩
abbrev main_v230 : Ref sig .tc := ⟨.hbm, 492, rfl⟩
abbrev main_v231 : Ref sig .tc := ⟨.hbm, 493, rfl⟩
abbrev main_v232 : Ref sig .tc := ⟨.hbm, 494, rfl⟩
abbrev main_v233 : Ref sig .tc := ⟨.hbm, 495, rfl⟩
abbrev main_v234 : Ref sig .tc := ⟨.hbm, 496, rfl⟩
abbrev main_cst_41 : Ref sig .tc := ⟨.hbm, 497, rfl⟩
abbrev main_v235 : Ref sig .tc := ⟨.hbm, 498, rfl⟩
abbrev main_v236 : Ref sig .tc := ⟨.hbm, 499, rfl⟩
abbrev main_v237 : Ref sig .tc := ⟨.hbm, 500, rfl⟩
abbrev main_v238 : Ref sig .tc := ⟨.hbm, 501, rfl⟩
abbrev main_v239 : Ref sig .tc := ⟨.hbm, 502, rfl⟩
abbrev main_cst_42 : Ref sig .tc := ⟨.hbm, 503, rfl⟩
abbrev main_v240 : Ref sig .tc := ⟨.hbm, 504, rfl⟩
abbrev main_v241 : Ref sig .tc := ⟨.hbm, 505, rfl⟩
abbrev main_cst_43 : Ref sig .tc := ⟨.hbm, 506, rfl⟩
abbrev main_v242 : Ref sig .tc := ⟨.hbm, 507, rfl⟩
abbrev main_v243 : Ref sig .tc := ⟨.hbm, 508, rfl⟩
abbrev main_v244 : Ref sig .tc := ⟨.hbm, 509, rfl⟩
abbrev main_v245 : Ref sig .tc := ⟨.hbm, 510, rfl⟩
abbrev main_v246 : Ref sig .tc := ⟨.hbm, 511, rfl⟩
abbrev main_v247 : Ref sig .tc := ⟨.hbm, 512, rfl⟩
abbrev main_cst_44 : Ref sig .tc := ⟨.hbm, 513, rfl⟩
abbrev main_v248 : Ref sig .tc := ⟨.hbm, 514, rfl⟩
abbrev main_v249 : Ref sig .tc := ⟨.hbm, 515, rfl⟩
abbrev main_v250 : Ref sig .tc := ⟨.hbm, 516, rfl⟩
abbrev main_cst_45 : Ref sig .tc := ⟨.hbm, 517, rfl⟩
abbrev main_call15_v0 : Ref sig .tc := ⟨.hbm, 518, rfl⟩
abbrev main_call15_v1 : Ref sig .tc := ⟨.hbm, 519, rfl⟩
abbrev main_v251 : Ref sig .tc := ⟨.hbm, 520, rfl⟩
abbrev main_cst_46 : Ref sig .tc := ⟨.hbm, 521, rfl⟩
abbrev main_v252 : Ref sig .tc := ⟨.hbm, 522, rfl⟩
abbrev main_v253 : Ref sig .tc := ⟨.hbm, 523, rfl⟩
abbrev main_cst_47 : Ref sig .tc := ⟨.hbm, 524, rfl⟩
abbrev main_v254 : Ref sig .tc := ⟨.hbm, 525, rfl⟩
abbrev main_c : Ref sig .tc := ⟨.hbm, 526, rfl⟩
abbrev main_v255_0 : Ref sig .tc := ⟨.hbm, 527, rfl⟩
abbrev main_v255_1 : Ref sig .tc := ⟨.hbm, 528, rfl⟩
abbrev main_v255_2 : Ref sig .tc := ⟨.hbm, 529, rfl⟩
abbrev main_v255_3 : Ref sig .tc := ⟨.hbm, 530, rfl⟩
abbrev main_v255_4 : Ref sig .tc := ⟨.hbm, 531, rfl⟩
abbrev main_while0c_c_57 : Ref sig .tc := ⟨.hbm, 532, rfl⟩
abbrev main_while0c_v286 : Ref sig .tc := ⟨.hbm, 533, rfl⟩
abbrev main_while0b_call16_c : Ref sig .tc := ⟨.hbm, 534, rfl⟩
abbrev main_while0b_call16_v0 : Ref sig .tc := ⟨.hbm, 535, rfl⟩
abbrev main_while0b_v286 : Ref sig .tc := ⟨.hbm, 536, rfl⟩
abbrev main_while0b_cst_57 : Ref sig .tc := ⟨.hbm, 537, rfl⟩
abbrev main_while0b_v287 : Ref sig .tc := ⟨.hbm, 538, rfl⟩
abbrev main_while0b_v288 : Ref sig .tc := ⟨.hbm, 539, rfl⟩
abbrev main_while0b_v289 : Ref sig .tc := ⟨.hbm, 540, rfl⟩
abbrev main_while0b_cst_58 : Ref sig .tc := ⟨.hbm, 541, rfl⟩
abbrev main_while0b_v290 : Ref sig .tc := ⟨.hbm, 542, rfl⟩
abbrev main_while0b_v291 : Ref sig .tc := ⟨.hbm, 543, rfl⟩
abbrev main_while0b_v292 : Ref sig .tc := ⟨.hbm, 544, rfl⟩
abbrev main_while0b_v293 : Ref sig .tc := ⟨.hbm, 545, rfl⟩
abbrev main_while0b_cst_59 : Ref sig .tc := ⟨.hbm, 546, rfl⟩
abbrev main_while0b_v294 : Ref sig .tc := ⟨.hbm, 547, rfl⟩
abbrev main_while0b_v295 : Ref sig .tc := ⟨.hbm, 548, rfl⟩
abbrev main_while0b_v296 : Ref sig .tc := ⟨.hbm, 549, rfl⟩
abbrev main_while0b_v297 : Ref sig .tc := ⟨.hbm, 550, rfl⟩
abbrev main_while0b_call17_v0 : Ref sig .tc := ⟨.hbm, 551, rfl⟩
abbrev main_while0b_call17_c : Ref sig .tc := ⟨.hbm, 552, rfl⟩
abbrev main_while0b_v298 : Ref sig .tc := ⟨.hbm, 553, rfl⟩
abbrev main_while0b_c_60 : Ref sig .tc := ⟨.hbm, 554, rfl⟩
abbrev main_while0b_v299 : Ref sig .tc := ⟨.hbm, 555, rfl⟩
abbrev main_v256 : Ref sig .tc := ⟨.hbm, 556, rfl⟩
abbrev main_v257 : Ref sig .tc := ⟨.hbm, 557, rfl⟩
abbrev main_v258 : Ref sig .tc := ⟨.hbm, 558, rfl⟩
abbrev main_v259 : Ref sig .tc := ⟨.hbm, 559, rfl⟩
abbrev main_v260 : Ref sig .tc := ⟨.hbm, 560, rfl⟩
abbrev main_v261 : Ref sig .tc := ⟨.hbm, 561, rfl⟩
abbrev main_v262 : Ref sig .tc := ⟨.hbm, 562, rfl⟩
abbrev main_v263 : Ref sig .tc := ⟨.hbm, 563, rfl⟩
abbrev main_cst_48 : Ref sig .tc := ⟨.hbm, 564, rfl⟩
abbrev main_v264 : Ref sig .tc := ⟨.hbm, 565, rfl⟩
abbrev main_v265 : Ref sig .tc := ⟨.hbm, 566, rfl⟩
abbrev main_v266 : Ref sig .tc := ⟨.hbm, 567, rfl⟩
abbrev main_v267 : Ref sig .tc := ⟨.hbm, 568, rfl⟩
abbrev main_v268 : Ref sig .tc := ⟨.hbm, 569, rfl⟩
abbrev main_v269 : Ref sig .tc := ⟨.hbm, 570, rfl⟩
abbrev main_v270 : Ref sig .tc := ⟨.hbm, 571, rfl⟩
abbrev main_v271 : Ref sig .tc := ⟨.hbm, 572, rfl⟩
abbrev main_cst_49 : Ref sig .tc := ⟨.hbm, 573, rfl⟩
abbrev main_v272 : Ref sig .tc := ⟨.hbm, 574, rfl⟩
abbrev main_v273 : Ref sig .tc := ⟨.hbm, 575, rfl⟩
abbrev main_v274 : Ref sig .tc := ⟨.hbm, 576, rfl⟩
abbrev main_v275 : Ref sig .tc := ⟨.hbm, 577, rfl⟩
abbrev main_cst_50 : Ref sig .tc := ⟨.hbm, 578, rfl⟩
abbrev main_v276 : Ref sig .tc := ⟨.hbm, 579, rfl⟩
abbrev main_v277 : Ref sig .tc := ⟨.hbm, 580, rfl⟩
abbrev main_v278 : Ref sig .tc := ⟨.hbm, 581, rfl⟩
abbrev main_v279 : Ref sig .tc := ⟨.hbm, 582, rfl⟩
abbrev main_v280 : Ref sig .tc := ⟨.hbm, 583, rfl⟩
abbrev main_cst_51 : Ref sig .tc := ⟨.hbm, 584, rfl⟩
abbrev main_v281 : Ref sig .tc := ⟨.hbm, 585, rfl⟩
abbrev main_v282 : Ref sig .tc := ⟨.hbm, 586, rfl⟩
abbrev main_v283 : Ref sig .tc := ⟨.hbm, 587, rfl⟩
abbrev main_cst_52 : Ref sig .tc := ⟨.hbm, 588, rfl⟩
abbrev main_call18_v0 : Ref sig .tc := ⟨.hbm, 589, rfl⟩
abbrev main_call18_v1 : Ref sig .tc := ⟨.hbm, 590, rfl⟩
abbrev main_v284 : Ref sig .tc := ⟨.hbm, 591, rfl⟩
abbrev main_v285 : Ref sig .tc := ⟨.hbm, 592, rfl⟩

abbrev nD : Nat := 1
abbrev τ : Topo := Topo.v7x

variable {F : FTy → Type} [FloatOps F]

abbrev main_while0_count : Scf.Loop 32 := ⟨0#32, 4096#32, 1#32⟩
-- ==== Proof.IdealRegion0.lean ====
/- The projection call (the first of the two): what its body leaves in the three output blocks, and its
   proof data. Stated at any interpretation of the floats. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` at point `t`, as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of input 0 holds its block when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 1 holds its block when the body starts. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 2 holds its block when the body starts. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 3 holds its block when the body starts. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 4 holds its block when the body starts. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 5 holds its block when the body starts. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- The buffer of input 6 holds its block when the body starts. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- A whole buffer of output 7, to state contents through. -/
abbrev VO0_7 : View sig .tc .vmem S8x4096 .f32 := (Memref.whole cc0_stg7_0 : Memref sig .tc .vmem S8x4096 .f32).view
/-- A whole buffer of output 8, to state contents through. -/
abbrev VO0_8 : View sig .tc .vmem S4x4096 .f32 := (Memref.whole cc0_stg8_0 : Memref sig .tc .vmem S4x4096 .f32).view
/-- A whole buffer of output 9, to state contents through. -/
abbrev VO0_9 : View sig .tc .vmem S1x4096 .i32 := (Memref.whole cc0_stg9_0 : Memref sig .tc .vmem S1x4096 .i32).view
abbrev ms0_0 (t : Fin cfg0.N) : Memref sig .tc .vmem S3x4096 .f32 := win0_0.stage (cfg0.slots t 0)
abbrev hs0_0 (t : Fin cfg0.N) : (ms0_0 t).IsWhole := hstage0_0 0
abbrev ms0_1 (t : Fin cfg0.N) : Memref sig .tc .vmem S3x4096 .f32 := win0_1.stage (cfg0.slots t 1)
abbrev hs0_1 (t : Fin cfg0.N) : (ms0_1 t).IsWhole := hstage0_1 0
abbrev ms0_2 (t : Fin cfg0.N) : Memref sig .tc .vmem S4x4096 .f32 := win0_2.stage (cfg0.slots t 2)
abbrev hs0_2 (t : Fin cfg0.N) : (ms0_2 t).IsWhole := hstage0_2 0
abbrev ms0_3 (t : Fin cfg0.N) : Memref sig .tc .vmem S1x4096 .f32 := win0_3.stage (cfg0.slots t 3)
abbrev hs0_3 (t : Fin cfg0.N) : (ms0_3 t).IsWhole := hstage0_3 0
abbrev ms0_4 (t : Fin cfg0.N) : Memref sig .tc .vmem S3x4096 .f32 := win0_4.stage (cfg0.slots t 4)
abbrev hs0_4 (t : Fin cfg0.N) : (ms0_4 t).IsWhole := hstage0_4 0
abbrev ms0_5 (t : Fin cfg0.N) : Memref sig .tc .smem S4x4 .f32 := win0_5.stage (cfg0.slots t 5)
abbrev hs0_5 (t : Fin cfg0.N) : (ms0_5 t).IsWhole := hstage0_5 0
abbrev ms0_6 (t : Fin cfg0.N) : Memref sig .tc .smem S4x4 .f32 := win0_6.stage (cfg0.slots t 6)
abbrev hs0_6 (t : Fin cfg0.N) : (ms0_6 t).IsWhole := hstage0_6 0
abbrev ms0_7 (t : Fin cfg0.N) : Memref sig .tc .vmem S8x4096 .f32 := win0_7.stage (cfg0.slots t 7)
abbrev hs0_7 (t : Fin cfg0.N) : (ms0_7 t).IsWhole := hstage0_7 0
abbrev ms0_8 (t : Fin cfg0.N) : Memref sig .tc .vmem S4x4096 .f32 := win0_8.stage (cfg0.slots t 8)
abbrev hs0_8 (t : Fin cfg0.N) : (ms0_8 t).IsWhole := hstage0_8 0
abbrev ms0_9 (t : Fin cfg0.N) : Memref sig .tc .vmem S1x4096 .i32 := win0_9.stage (cfg0.slots t 9)
abbrev hs0_9 (t : Fin cfg0.N) : (ms0_9 t).IsWhole := hstage0_9 0

set_option maxHeartbeats 1000000 in
/-- The body, run: it keeps the inputs and writes the pieces `L7`, `L8`, `L9` into the outputs. -/
noncomputable def run0 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) :
    Σ' (L7 : List (View.Piece (Elt F) S8x4096 .f32)), Σ' (L8 : List (View.Piece (Elt F) S4x4096 .f32)), { L9 : List (View.Piece (Elt F) S1x4096 .i32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0__project_kernel arg0 harg0 arg1 harg1 arg2 harg2 arg3 harg3 arg4 harg4 arg5 harg5 arg6 harg6 arg7 harg7 arg8 harg8 arg9 harg9) K } := by
  refine ⟨?_, ?_, ?_, fun E K => ?run⟩
  case run =>
    simp only [cc0__project_kernel_eq_skeleton]; unfold cc0__project_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

/-- The one store into output 7 covers it. -/
theorem cover0_7 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) (y : S8x4096.Idx) :
    ∃ pc ∈ (run0 c arg0 harg0 arg1 harg1 arg2 harg2 arg3 harg3 arg4 harg4 arg5 harg5 arg6 harg6 arg7 harg7 arg8 harg8 arg9 harg9 x0 x1 x2 x3 x4 x5 x6).1, y ∈ pc.1.set :=
  View.cover_of_tiledL (run0 c arg0 harg0 arg1 harg1 arg2 harg2 arg3 harg3 arg4 harg4 arg5 harg5 arg6 harg6 arg7 harg7 arg8 harg8 arg9 harg9 x0 x1 x2 x3 x4 x5 x6).1 S8x4096.size (by sl_kernel_rfl) y
/-- What the body leaves in output 7. -/
def out0_7 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) : Vec F S8x4096 .f32 :=
  VO0_7.read (Elt F) (VO0_7.writes (Elt F) VO0_7.junk (run0 c arg0 harg0 arg1 harg1 arg2 harg2 arg3 harg3 arg4 harg4 arg5 harg5 arg6 harg6 arg7 harg7 arg8 harg8 arg9 harg9 x0 x1 x2 x3 x4 x5 x6).1)
/-- The one store into output 8 covers it. -/
theorem cover0_8 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) (y : S4x4096.Idx) :
    ∃ pc ∈ (run0 c arg0 harg0 arg1 harg1 arg2 harg2 arg3 harg3 arg4 harg4 arg5 harg5 arg6 harg6 arg7 harg7 arg8 harg8 arg9 harg9 x0 x1 x2 x3 x4 x5 x6).2.1, y ∈ pc.1.set :=
  View.cover_of_tiledL (run0 c arg0 harg0 arg1 harg1 arg2 harg2 arg3 harg3 arg4 harg4 arg5 harg5 arg6 harg6 arg7 harg7 arg8 harg8 arg9 harg9 x0 x1 x2 x3 x4 x5 x6).2.1 S4x4096.size (by sl_kernel_rfl) y
/-- What the body leaves in output 8. -/
def out0_8 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) : Vec F S4x4096 .f32 :=
  VO0_8.read (Elt F) (VO0_8.writes (Elt F) VO0_8.junk (run0 c arg0 harg0 arg1 harg1 arg2 harg2 arg3 harg3 arg4 harg4 arg5 harg5 arg6 harg6 arg7 harg7 arg8 harg8 arg9 harg9 x0 x1 x2 x3 x4 x5 x6).2.1)
/-- The one store into output 9 covers it. -/
theorem cover0_9 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) (y : S1x4096.Idx) :
    ∃ pc ∈ (run0 c arg0 harg0 arg1 harg1 arg2 harg2 arg3 harg3 arg4 harg4 arg5 harg5 arg6 harg6 arg7 harg7 arg8 harg8 arg9 harg9 x0 x1 x2 x3 x4 x5 x6).2.2.1, y ∈ pc.1.set :=
  View.cover_of_tiledL (run0 c arg0 harg0 arg1 harg1 arg2 harg2 arg3 harg3 arg4 harg4 arg5 harg5 arg6 harg6 arg7 harg7 arg8 harg8 arg9 harg9 x0 x1 x2 x3 x4 x5 x6).2.2.1 S1x4096.size (by sl_kernel_rfl) y
/-- What the body leaves in output 9. -/
def out0_9 (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec F S3x4096 .f32) (x1 : Vec F S3x4096 .f32) (x2 : Vec F S4x4096 .f32) (x3 : Vec F S1x4096 .f32) (x4 : Vec F S3x4096 .f32) (x5 : Vec F S4x4 .f32) (x6 : Vec F S4x4 .f32) : Vec F S1x4096 .i32 :=
  VO0_9.read (Elt F) (VO0_9.writes (Elt F) VO0_9.junk (run0 c arg0 harg0 arg1 harg1 arg2 harg2 arg3 harg3 arg4 harg4 arg5 harg5 arg6 harg6 arg7 harg7 arg8 harg8 arg9 harg9 x0 x1 x2 x3 x4 x5 x6).2.2.1)
/-- Output 7's block after point `t`. -/
def outAt0_7 (c : Dev nD) (t : Fin cfg0.N) : Vec F S8x4096 .f32 := out0_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
/-- Output 8's block after point `t`. -/
def outAt0_8 (c : Dev nD) (t : Fin cfg0.N) : Vec F S4x4096 .f32 := out0_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)
/-- Output 9's block after point `t`. -/
def outAt0_9 (c : Dev nD) (t : Fin cfg0.N) : Vec F S1x4096 .i32 := out0_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk0 V c 0 t) (iblk0 V c 1 t) (iblk0 V c 2 t) (iblk0 V c 3 t) (iblk0 V c 4 t) (iblk0 V c 5 t) (iblk0 V c 6 t)

/-- The proof data: each input keeps its block, each output ends at the body's values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0_7 V c t
    | ⟨8, _⟩ => outAt0_8 V c t
    | ⟨9, _⟩ => outAt0_9 V c t
  Φ _ := Pipeline.ΦA spec0 c
  q _ := fullShare
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt0_7 V c t := by dsimp only [dat0]
theorem after0_8 (c : Dev nD) (t : Fin cfg0.N) : (dat0 V c).after 8 t = outAt0_8 V c t := by dsimp only [dat0]
theorem after0_9 (c : Dev nD) (t : Fin cfg0.N) : (dat0 V c).after 9 t = outAt0_9 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
/-- What the body starts from. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))
/-- What it leaves. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold outAt0_7 outAt0_8 outAt0_9 out0_7 out0_8 out0_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run0 c _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _)
  unfold owns; iexists _; isplitr
  swap; · iexact H9
  ipureintro; exact View.read_writes_of_cover _ _ _ _ _ (cover0_9 c _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The call's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.IdealRegion1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The rasteriser's launch: one block of Gaussians at a time

Each point of the grid takes one block of 512 Gaussians.  Between points three arrays are carried: the logarithm of the
transmittance of every pixel, the transmittance that has been used so far, and the colour that has been summed.  The first point
starts them, every point that finds a live pixel adds its block, and the last point adds the background. -/

/-- What is carried from one block to the next. -/
structure Carry (F : FTy → Type) where
  lT : Vec F S4096x1 .f32
  te : Vec F S4096x1 .f32
  out : Vec F S4096x4 .f32

/-- The threshold that the logarithm of the transmittance is compared with. -/
def thr : F .f32 := Named.named κ "log_eps" 0xC1135D8E#32

/-- Row `k` of a block of parameters, and a column of the pixel table. -/
def prow0 (P : Vec F S8x512 .f32) : Vec F S1x512 .f32 := View.ld P (Rect.unit (s := S8x512) ![0, 0] S1x512.size inb_S8x512_S1x512_0_0)
def prow1 (P : Vec F S8x512 .f32) : Vec F S1x512 .f32 := View.ld P (Rect.unit (s := S8x512) ![1, 0] S1x512.size inb_S8x512_S1x512_1_0)
def prow2 (P : Vec F S8x512 .f32) : Vec F S1x512 .f32 := View.ld P (Rect.unit (s := S8x512) ![2, 0] S1x512.size inb_S8x512_S1x512_2_0)
def prow3 (P : Vec F S8x512 .f32) : Vec F S1x512 .f32 := View.ld P (Rect.unit (s := S8x512) ![3, 0] S1x512.size inb_S8x512_S1x512_3_0)
def prow4 (P : Vec F S8x512 .f32) : Vec F S1x512 .f32 := View.ld P (Rect.unit (s := S8x512) ![4, 0] S1x512.size inb_S8x512_S1x512_4_0)
def prow5 (P : Vec F S8x512 .f32) : Vec F S1x512 .f32 := View.ld P (Rect.unit (s := S8x512) ![5, 0] S1x512.size inb_S8x512_S1x512_5_0)
def pcol0 (G : Vec F S4096x2 .f32) : Vec F S4096x1 .f32 := View.ld G (Rect.unit (s := S4096x2) ![0, 0] S4096x1.size inb_S4096x2_S4096x1_0_0)
def pcol1 (G : Vec F S4096x2 .f32) : Vec F S4096x1 .f32 := View.ld G (Rect.unit (s := S4096x2) ![0, 1] S4096x1.size inb_S4096x2_S4096x1_0_1)

/-- The opacities of a block at every pixel, the mark of a positive exponent, and the smallest opacity that counts. -/
def opac (P : Vec F S8x512 .f32) (G : Vec F S4096x2 .f32) : FVec F S4096x512 .f32 :=
  k1_pay22 (prow0 P) (prow1 P) (prow2 P) (prow3 P) (prow4 P) (prow5 P) (pcol0 G) (pcol1 G)
def posPow (P : Vec F S8x512 .f32) (G : Vec F S4096x2 .f32) : IVec S4096x512 1 :=
  k1_pay23 (prow0 P) (prow1 P) (prow2 P) (prow3 P) (prow4 P) (pcol0 G) (pcol1 G)
abbrev least : FVec F S4096x512 .f32 := k1_pay24 (F := F)

/-- The carried arrays at the start of a block: fresh ones where the mark is set. -/
def startSt (b : BitVec 1) (s : Carry F) : Carry F := if b = 1#1 then ⟨k1_pay1, k1_pay2, k1_pay3⟩ else s

/-- The block's three tests: some pixel is live; no live pixel crosses the threshold; some does. -/
def alive (lT : Vec F S4096x1 .f32) : BitVec 1 := Scalar.cmpi .ne (Scalar.extui (Scalar.cmpf .oge (k1_pay4 lT) thr)) (0#32)
def uncrossed (a : FVec F S4096x512 .f32) (m : IVec S4096x512 1) (e : FVec F S4096x512 .f32) (lT : Vec F S4096x1 .f32) : BitVec 1 :=
  Scalar.cmpf .oge (k1_pay11 a m e lT) thr

/-- One block of Gaussians added to the carried arrays. -/
def blockSt (P : Vec F S8x512 .f32) (C : Vec F S512x4 .f32) (G : Vec F S4096x2 .f32) (s : Carry F) : Carry F :=
  if alive s.lT = 1#1 then
    if uncrossed (opac P G) (posPow P G) least s.lT = 1#1 then
      ⟨k1_pay13 (opac P G) (posPow P G) least s.lT, k1_pay14 (opac P G) (posPow P G) least s.lT s.te,
        k1_pay12 (opac P G) (posPow P G) least s.lT s.te C s.out⟩
    else
      ⟨k1_pay18 (opac P G) (posPow P G) least s.lT, k1_pay19 (opac P G) (posPow P G) least s.lT s.te,
        k1_pay17 (opac P G) (posPow P G) least s.lT s.te C s.out⟩
  else s

/-- The carried arrays at the end of a block: the background added where the mark is set. -/
def finSt (b : BitVec 1) (B : Vec F S1x4 .f32) (s : Carry F) : Carry F :=
  if b = 1#1 then ⟨s.lT, s.te, k1_pay20 s.out s.te B⟩ else s

/-- The marks of the first and of the last block. -/
def isFirst (i : grid1.Coords) : BitVec 1 := Scalar.cmpi .ne (Scalar.extui (Scalar.cmpi .eq (BitVec.ofNat 32 (i 1).val) 0#32)) (0#32)
def isLast (i : grid1.Coords) : BitVec 1 := Scalar.cmpi .ne (Scalar.extui (Scalar.cmpi .eq (BitVec.ofNat 32 (i 1).val) 7#32)) (0#32)

/-- The body's three stages, each followed by a continuation. -/
def initP (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (k : Prog (TpuEff nD τ sig (Elt F) Λ₀ .tc) PUnit) : Prog (TpuEff nD τ sig (Elt F) Λ₀ .tc) PUnit := do
  if isFirst i = 1#1 then do
    let _ ← Prog.lift (.load arg7 (Rect.unit (s := S4096x1) ![0, 0] S4096x1.size inb_S4096x1_S4096x1_0_0).toLoadRect (View.loadsAt_vmem h_S4096x1))
    Prog.lift (.store arg7 (Rect.unit (s := S4096x1) ![0, 0] S4096x1.size inb_S4096x1_S4096x1_0_0) (k1_pay1 (F := F)) Finset.univ (View.stores_vmem_bits_univ h_S4096x1 rfl) (.inl rfl))
    let _ ← Prog.lift (.load arg8 (Rect.unit (s := S4096x1) ![0, 0] S4096x1.size inb_S4096x1_S4096x1_0_0).toLoadRect (View.loadsAt_vmem h_S4096x1))
    Prog.lift (.store arg8 (Rect.unit (s := S4096x1) ![0, 0] S4096x1.size inb_S4096x1_S4096x1_0_0) (k1_pay2 (F := F)) Finset.univ (View.stores_vmem_bits_univ h_S4096x1 rfl) (.inl rfl))
    let _ ← Prog.lift (.load arg6 (Rect.unit (s := S4096x4) ![0, 0] S4096x4.size inb_S4096x4_S4096x4_0_0).toLoadRect (View.loadsAt_vmem h_S4096x4))
    Prog.lift (.store arg6 (Rect.unit (s := S4096x4) ![0, 0] S4096x4.size inb_S4096x4_S4096x4_0_0) (k1_pay3 (F := F)) Finset.univ (View.stores_vmem_bits_univ h_S4096x4 rfl) (.inl rfl))
    k
  else k

def fastP (a : FVec F S4096x512 .f32) (m : IVec S4096x512 1) (e : FVec F S4096x512 .f32) (l t : Vec F S4096x1 .f32) (C : Vec F S512x4 .f32) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (k : Prog (TpuEff nD τ sig (Elt F) Λ₀ .tc) PUnit) : Prog (TpuEff nD τ sig (Elt F) Λ₀ .tc) PUnit := do
  let o ← Prog.lift (.load arg6 (Rect.unit (s := S4096x4) ![0, 0] S4096x4.size inb_S4096x4_S4096x4_0_0).toLoadRect (View.loadsAt_vmem h_S4096x4))
  let _ ← Prog.lift (.load arg6 (Rect.unit (s := S4096x4) ![0, 0] S4096x4.size inb_S4096x4_S4096x4_0_0).toLoadRect (View.loadsAt_vmem h_S4096x4))
  Prog.lift (.store arg6 (Rect.unit (s := S4096x4) ![0, 0] S4096x4.size inb_S4096x4_S4096x4_0_0) (k1_pay12 a m e l t C o) Finset.univ (View.stores_vmem_bits_univ h_S4096x4 rfl) (.inl rfl))
  let _ ← Prog.lift (.load arg7 (Rect.unit (s := S4096x1) ![0, 0] S4096x1.size inb_S4096x1_S4096x1_0_0).toLoadRect (View.loadsAt_vmem h_S4096x1))
  Prog.lift (.store arg7 (Rect.unit (s := S4096x1) ![0, 0] S4096x1.size inb_S4096x1_S4096x1_0_0) (k1_pay13 a m e l) Finset.univ (View.stores_vmem_bits_univ h_S4096x1 rfl) (.inl rfl))
  let _ ← Prog.lift (.load arg8 (Rect.unit (s := S4096x1) ![0, 0] S4096x1.size inb_S4096x1_S4096x1_0_0).toLoadRect (View.loadsAt_vmem h_S4096x1))
  Prog.lift (.store arg8 (Rect.unit (s := S4096x1) ![0, 0] S4096x1.size inb_S4096x1_S4096x1_0_0) (k1_pay14 a m e l t) Finset.univ (View.stores_vmem_bits_univ h_S4096x1 rfl) (.inl rfl))
  k

def slowP (a : FVec F S4096x512 .f32) (m : IVec S4096x512 1) (e : FVec F S4096x512 .f32) (l t : Vec F S4096x1 .f32) (C : Vec F S512x4 .f32) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (k : Prog (TpuEff nD τ sig (Elt F) Λ₀ .tc) PUnit) : Prog (TpuEff nD τ sig (Elt F) Λ₀ .tc) PUnit := do
  let o ← Prog.lift (.load arg6 (Rect.unit (s := S4096x4) ![0, 0] S4096x4.size inb_S4096x4_S4096x4_0_0).toLoadRect (View.loadsAt_vmem h_S4096x4))
  let _ ← Prog.lift (.load arg6 (Rect.unit (s := S4096x4) ![0, 0] S4096x4.size inb_S4096x4_S4096x4_0_0).toLoadRect (View.loadsAt_vmem h_S4096x4))
  Prog.lift (.store arg6 (Rect.unit (s := S4096x4) ![0, 0] S4096x4.size inb_S4096x4_S4096x4_0_0) (k1_pay17 a m e l t C o) Finset.univ (View.stores_vmem_bits_univ h_S4096x4 rfl) (.inl rfl))
  let _ ← Prog.lift (.load arg7 (Rect.unit (s := S4096x1) ![0, 0] S4096x1.size inb_S4096x1_S4096x1_0_0).toLoadRect (View.loadsAt_vmem h_S4096x1))
  Prog.lift (.store arg7 (Rect.unit (s := S4096x1) ![0, 0] S4096x1.size inb_S4096x1_S4096x1_0_0) (k1_pay18 a m e l) Finset.univ (View.stores_vmem_bits_univ h_S4096x1 rfl) (.inl rfl))
  let _ ← Prog.lift (.load arg8 (Rect.unit (s := S4096x1) ![0, 0] S4096x1.size inb_S4096x1_S4096x1_0_0).toLoadRect (View.loadsAt_vmem h_S4096x1))
  Prog.lift (.store arg8 (Rect.unit (s := S4096x1) ![0, 0] S4096x1.size inb_S4096x1_S4096x1_0_0) (k1_pay19 a m e l t) Finset.univ (View.stores_vmem_bits_univ h_S4096x1 rfl) (.inl rfl))
  k

def branchP (a : FVec F S4096x512 .f32) (m : IVec S4096x512 1) (e : FVec F S4096x512 .f32) (l t : Vec F S4096x1 .f32) (C : Vec F S512x4 .f32) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (k : Prog (TpuEff nD τ sig (Elt F) Λ₀ .tc) PUnit) : Prog (TpuEff nD τ sig (Elt F) Λ₀ .tc) PUnit :=
  if Scalar.cmpi .ne (Scalar.extui (uncrossed a m e l) : BitVec 32) 0#32 = 1#1 then
    fastP a m e l t C arg2 harg2 arg3 harg3 arg4 harg4 arg5 harg5 arg6 harg6 arg7 harg7 arg8 harg8
      (if Scalar.cmpi .ne (Scalar.extui (Scalar.xori (uncrossed a m e l) 1#1) : BitVec 32) 0#32 = 1#1 then slowP a m e l t C arg2 harg2 arg3 harg3 arg4 harg4 arg5 harg5 arg6 harg6 arg7 harg7 arg8 harg8 k else k)
  else if Scalar.cmpi .ne (Scalar.extui (Scalar.xori (uncrossed a m e l) 1#1) : BitVec 32) 0#32 = 1#1 then slowP a m e l t C arg2 harg2 arg3 harg3 arg4 harg4 arg5 harg5 arg6 harg6 arg7 harg7 arg8 harg8 k else k

def loadsP (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (k : FVec F S4096x512 .f32 → IVec S4096x512 1 → FVec F S4096x512 .f32 → Vec F S4096x1 .f32 → Vec F S4096x1 .f32 → Vec F S512x4 .f32 → Prog (TpuEff nD τ sig (Elt F) Λ₀ .tc) PUnit) : Prog (TpuEff nD τ sig (Elt F) Λ₀ .tc) PUnit := do
  let ⟨a, m, e⟩ : Σ' (v50 : FVec F S4096x512 .f32) (v52 : IVec S4096x512 1), FVec F S4096x512 .f32 ← k1_part1 i arg2 harg2 arg3 harg3 arg4 harg4 arg5 harg5 arg6 harg6 arg7 harg7 arg8 harg8
  let l ← Prog.lift (.load arg7 (Rect.unit (s := S4096x1) ![0, 0] S4096x1.size inb_S4096x1_S4096x1_0_0).toLoadRect (View.loadsAt_vmem h_S4096x1))
  let t ← Prog.lift (.load arg8 (Rect.unit (s := S4096x1) ![0, 0] S4096x1.size inb_S4096x1_S4096x1_0_0).toLoadRect (View.loadsAt_vmem h_S4096x1))
  let C ← Prog.lift (.load arg3 (Rect.unit (s := S512x4) ![0, 0] S512x4.size inb_S512x4_S512x4_0_0).toLoadRect (View.loadsAt_vmem h_S512x4))
  k a m e l t C

def midP (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (k : Prog (TpuEff nD τ sig (Elt F) Λ₀ .tc) PUnit) : Prog (TpuEff nD τ sig (Elt F) Λ₀ .tc) PUnit := do
  let l ← Prog.lift (.load arg7 (Rect.unit (s := S4096x1) ![0, 0] S4096x1.size inb_S4096x1_S4096x1_0_0).toLoadRect (View.loadsAt_vmem h_S4096x1))
  if alive l = 1#1 then loadsP i arg2 harg2 arg3 harg3 arg4 harg4 arg5 harg5 arg6 harg6 arg7 harg7 arg8 harg8 (fun a m e l t C => branchP a m e l t C arg2 harg2 arg3 harg3 arg4 harg4 arg5 harg5 arg6 harg6 arg7 harg7 arg8 harg8 k)
  else k

def finP (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) : Prog (TpuEff nD τ sig (Elt F) Λ₀ .tc) PUnit := do
  if isLast i = 1#1 then do
    let o ← Prog.lift (.load arg6 (Rect.unit (s := S4096x4) ![0, 0] S4096x4.size inb_S4096x4_S4096x4_0_0).toLoadRect (View.loadsAt_vmem h_S4096x4))
    let t ← Prog.lift (.load arg8 (Rect.unit (s := S4096x1) ![0, 0] S4096x1.size inb_S4096x1_S4096x1_0_0).toLoadRect (View.loadsAt_vmem h_S4096x1))
    let B ← Prog.lift (.load arg5 (Rect.unit (s := S1x4) ![0, 0] S1x4.size inb_S1x4_S1x4_0_0).toLoadRect (View.loadsAt_vmem h_S1x4))
    let _ ← Prog.lift (.load arg6 (Rect.unit (s := S4096x4) ![0, 0] S4096x4.size inb_S4096x4_S4096x4_0_0).toLoadRect (View.loadsAt_vmem h_S4096x4))
    Prog.lift (.store arg6 (Rect.unit (s := S4096x4) ![0, 0] S4096x4.size inb_S4096x4_S4096x4_0_0) (k1_pay20 o t B) Finset.univ (View.stores_vmem_bits_univ h_S4096x4 rfl) (.inl rfl))
    pure ⟨⟩
  else pure ⟨⟩

set_option maxHeartbeats 4000000 in
/-- The body is its three stages in a row. -/
theorem body_stages (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) :
    cc1__raster_kernel (F := F) i arg2 harg2 arg3 harg3 arg4 harg4 arg5 harg5 arg6 harg6 arg7 harg7 arg8 harg8 = initP i arg2 harg2 arg3 harg3 arg4 harg4 arg5 harg5 arg6 harg6 arg7 harg7 arg8 harg8 (midP i arg2 harg2 arg3 harg3 arg4 harg4 arg5 harg5 arg6 harg6 arg7 harg7 arg8 harg8 (finP i arg2 harg2 arg3 harg3 arg4 harg4 arg5 harg5 arg6 harg6 arg7 harg7 arg8 harg8)) := by
  rw [cc1__raster_kernel_eq_skeleton]
  unfold cc1__raster_kernel_skel initP midP finP loadsP branchP fastP slowP isFirst isLast alive uncrossed thr
  rfl

/-- A load or a store of a whole block reads or leaves the block. -/
theorem loaded_4096x4 (v : View sig .tc .vmem S4096x4 .f32) (f : v.ty.Contents (Elt F)) :
    v.readAt (Elt F) (Rect.unit (s := S4096x4) ![0, 0] ![4096, 4] inb_S4096x4_S4096x4_0_0).toLoadRect f = v.read (Elt F) f := View.readAt_full v f inb_S4096x4_S4096x4_0_0
theorem stored_4096x4 (v : View sig .tc .vmem S4096x4 .f32) (f : v.ty.Contents (Elt F)) (w : Vec F S4096x4 .f32) :
    v.read (Elt F) (v.writes (Elt F) f [⟨Rect.unit (s := S4096x4) ![0, 0] ![4096, 4] inb_S4096x4_S4096x4_0_0, w⟩]) = w := View.read_writes_full v f inb_S4096x4_S4096x4_0_0 w []
theorem loaded_4096x1 (v : View sig .tc .vmem S4096x1 .f32) (f : v.ty.Contents (Elt F)) :
    v.readAt (Elt F) (Rect.unit (s := S4096x1) ![0, 0] ![4096, 1] inb_S4096x1_S4096x1_0_0).toLoadRect f = v.read (Elt F) f := View.readAt_full v f inb_S4096x1_S4096x1_0_0
theorem stored_4096x1 (v : View sig .tc .vmem S4096x1 .f32) (f : v.ty.Contents (Elt F)) (w : Vec F S4096x1 .f32) :
    v.read (Elt F) (v.writes (Elt F) f [⟨Rect.unit (s := S4096x1) ![0, 0] ![4096, 1] inb_S4096x1_S4096x1_0_0, w⟩]) = w := View.read_writes_full v f inb_S4096x1_S4096x1_0_0 w []
theorem loaded_512x4 (v : View sig .tc .vmem S512x4 .f32) (f : v.ty.Contents (Elt F)) :
    v.readAt (Elt F) (Rect.unit (s := S512x4) ![0, 0] ![512, 4] inb_S512x4_S512x4_0_0).toLoadRect f = v.read (Elt F) f := View.readAt_full v f inb_S512x4_S512x4_0_0
theorem stored_512x4 (v : View sig .tc .vmem S512x4 .f32) (f : v.ty.Contents (Elt F)) (w : Vec F S512x4 .f32) :
    v.read (Elt F) (v.writes (Elt F) f [⟨Rect.unit (s := S512x4) ![0, 0] ![512, 4] inb_S512x4_S512x4_0_0, w⟩]) = w := View.read_writes_full v f inb_S512x4_S512x4_0_0 w []
theorem loaded_1x4 (v : View sig .tc .vmem S1x4 .f32) (f : v.ty.Contents (Elt F)) :
    v.readAt (Elt F) (Rect.unit (s := S1x4) ![0, 0] ![1, 4] inb_S1x4_S1x4_0_0).toLoadRect f = v.read (Elt F) f := View.readAt_full v f inb_S1x4_S1x4_0_0
theorem stored_1x4 (v : View sig .tc .vmem S1x4 .f32) (f : v.ty.Contents (Elt F)) (w : Vec F S1x4 .f32) :
    v.read (Elt F) (v.writes (Elt F) f [⟨Rect.unit (s := S1x4) ![0, 0] ![1, 4] inb_S1x4_S1x4_0_0, w⟩]) = w := View.read_writes_full v f inb_S1x4_S1x4_0_0 w []

/-- A load through a whole memref that reads `X` reads a window of `X`. -/
theorem readAt_unread_ld {s : Shape} {e : EltTy} {κ : Kind} {sp : Space} (m : Memref sig κ sp s e) (h : m.IsWhole) (X : s.Idx → Elt F e) (B : Rect s) :
    View.readAt (Elt F) m.view B.toLoadRect (h.unread X) = View.ld X B :=
  funext fun x => Memref.IsWhole.readAt_unread h X B.toLoadRect x

set_option maxHeartbeats 4000000

/-- The first stage leaves the carried arrays started. -/
theorem init_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F)  (k : Prog (TpuEff nD τ sig (Elt F) Λ₀ .tc) PUnit) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare (startSt (isFirst i) s).out ∗ owns (c : Thread nD τ) arg7 fullShare (startSt (isFirst i) s).lT ∗ owns (c : Thread nD τ) arg8 fullShare (startSt (isFirst i) s).te)) -∗ wp frame (wpE (defs₀ (F := F)) Variants.none c none) E k K)) ⊢ wp frame (wpE (defs₀ (F := F)) Variants.none c none) E (initP i arg2 harg2 arg3 harg3 arg4 harg4 arg5 harg5 arg6 harg6 arg7 harg7 arg8 harg8 k) K := by
  unfold initP startSt
  by_cases hb : isFirst i = 1#1
  · simp only [if_pos hb]
    unfold owns
    iintro ⟨⟨⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    iapply Hk
    isplitl [H2 H3 H4 H5]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      iexists _; isplitr; · ipureintro; exact harg5.read_unread _
      iexact H5
    isplitl [H6]
    · iexists _; isplitr
      swap; · iexact H6
      ipureintro; exact stored_4096x4 _ _ _
    isplitl [H7]
    · iexists _; isplitr
      swap; · iexact H7
      ipureintro; exact stored_4096x1 _ _ _
    iexists _; isplitr
    swap; · iexact H8
    ipureintro; exact stored_4096x1 _ _ _
  · simp only [if_neg hb]
    iintro ⟨H, Hs, Hk⟩
    iapply Hk
    isplitl [H]; · iexact H
    iexact Hs

/-- The fast branch adds the block. -/
theorem fast_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F) (a : FVec F S4096x512 .f32) (m : IVec S4096x512 1) (e : FVec F S4096x512 .f32) (k : Prog (TpuEff nD τ sig (Elt F) Λ₀ .tc) PUnit) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare (Carry.mk (k1_pay13 a m e s.lT) (k1_pay14 a m e s.lT s.te) (k1_pay12 a m e s.lT s.te C s.out)).out ∗ owns (c : Thread nD τ) arg7 fullShare (Carry.mk (k1_pay13 a m e s.lT) (k1_pay14 a m e s.lT s.te) (k1_pay12 a m e s.lT s.te C s.out)).lT ∗ owns (c : Thread nD τ) arg8 fullShare (Carry.mk (k1_pay13 a m e s.lT) (k1_pay14 a m e s.lT s.te) (k1_pay12 a m e s.lT s.te C s.out)).te)) -∗ wp frame (wpE (defs₀ (F := F)) Variants.none c none) E k K)) ⊢ wp frame (wpE (defs₀ (F := F)) Variants.none c none) E (fastP a m e s.lT s.te C arg2 harg2 arg3 harg3 arg4 harg4 arg5 harg5 arg6 harg6 arg7 harg7 arg8 harg8 k) K := by
  unfold fastP
  unfold owns
  iintro ⟨⟨⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  simp only [loaded_4096x4, loaded_4096x1, loaded_512x4, loaded_1x4, Memref.IsWhole.read_unread]
  iapply Hk
  isplitl [H2 H3 H4 H5]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr
    swap; · iexact H6
    ipureintro; exact stored_4096x4 _ _ _
  isplitl [H7]
  · iexists _; isplitr
    swap; · iexact H7
    ipureintro; exact stored_4096x1 _ _ _
  iexists _; isplitr
  swap; · iexact H8
  ipureintro; exact stored_4096x1 _ _ _

/-- The slow branch adds the block. -/
theorem slow_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F) (a : FVec F S4096x512 .f32) (m : IVec S4096x512 1) (e : FVec F S4096x512 .f32) (k : Prog (TpuEff nD τ sig (Elt F) Λ₀ .tc) PUnit) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare (Carry.mk (k1_pay18 a m e s.lT) (k1_pay19 a m e s.lT s.te) (k1_pay17 a m e s.lT s.te C s.out)).out ∗ owns (c : Thread nD τ) arg7 fullShare (Carry.mk (k1_pay18 a m e s.lT) (k1_pay19 a m e s.lT s.te) (k1_pay17 a m e s.lT s.te C s.out)).lT ∗ owns (c : Thread nD τ) arg8 fullShare (Carry.mk (k1_pay18 a m e s.lT) (k1_pay19 a m e s.lT s.te) (k1_pay17 a m e s.lT s.te C s.out)).te)) -∗ wp frame (wpE (defs₀ (F := F)) Variants.none c none) E k K)) ⊢ wp frame (wpE (defs₀ (F := F)) Variants.none c none) E (slowP a m e s.lT s.te C arg2 harg2 arg3 harg3 arg4 harg4 arg5 harg5 arg6 harg6 arg7 harg7 arg8 harg8 k) K := by
  unfold slowP
  unfold owns
  iintro ⟨⟨⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  simp only [loaded_4096x4, loaded_4096x1, loaded_512x4, loaded_1x4, Memref.IsWhole.read_unread]
  iapply Hk
  isplitl [H2 H3 H4 H5]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr
    swap; · iexact H6
    ipureintro; exact stored_4096x4 _ _ _
  isplitl [H7]
  · iexists _; isplitr
    swap; · iexact H7
    ipureintro; exact stored_4096x1 _ _ _
  iexists _; isplitr
  swap; · iexact H8
  ipureintro; exact stored_4096x1 _ _ _

/-- The two loads of a block: its opacities and what is carried. -/
theorem loads_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F) (k : FVec F S4096x512 .f32 → IVec S4096x512 1 → FVec F S4096x512 .f32 → Vec F S4096x1 .f32 → Vec F S4096x1 .f32 → Vec F S512x4 .f32 → Prog (TpuEff nD τ sig (Elt F) Λ₀ .tc) PUnit) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te)) -∗ wp frame (wpE (defs₀ (F := F)) Variants.none c none) E (k (opac P G) (posPow P G) least s.lT s.te C) K)) ⊢ wp frame (wpE (defs₀ (F := F)) Variants.none c none) E (loadsP i arg2 harg2 arg3 harg3 arg4 harg4 arg5 harg5 arg6 harg6 arg7 harg7 arg8 harg8 k) K := by
  unfold loadsP
  rw [k1_part1_eq_skeleton]; unfold k1_part1_skel
  unfold owns
  iintro ⟨⟨⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  simp only [loaded_4096x4, loaded_4096x1, loaded_512x4, loaded_1x4, Memref.IsWhole.read_unread]
  simp only [readAt_unread_ld]
  iapply Hk
  isplitl [H2 H3 H4 H5]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

/-- The load that the test of the block reads. -/
theorem peek_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F) (k : Vec F S4096x1 .f32 → Prog (TpuEff nD τ sig (Elt F) Λ₀ .tc) PUnit) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te)) -∗ wp frame (wpE (defs₀ (F := F)) Variants.none c none) E (k s.lT) K)) ⊢ wp frame (wpE (defs₀ (F := F)) Variants.none c none) E (Prog.lift (.load arg7 (Rect.unit (s := S4096x1) ![0, 0] S4096x1.size inb_S4096x1_S4096x1_0_0).toLoadRect (View.loadsAt_vmem h_S4096x1)) >>= k) K := by
  unfold owns
  iintro ⟨⟨⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  simp only [loaded_4096x4, loaded_4096x1, loaded_512x4, loaded_1x4, Memref.IsWhole.read_unread]
  iapply Hk
  isplitl [H2 H3 H4 H5]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  iexists _; isplitr; · ipureintro; exact harg8.read_unread _
  iexact H8

theorem test_of_true {b : BitVec 1} (h : b = 1#1) : Scalar.cmpi .ne (Scalar.extui b : BitVec 32) 0#32 = 1#1 := by subst h; rfl
theorem test_of_false {b : BitVec 1} (h : ¬ b = 1#1) : ¬ Scalar.cmpi .ne (Scalar.extui b : BitVec 32) 0#32 = 1#1 := by
  have : b = 0#1 := by revert h; revert b; decide
  subst this; decide
theorem not_true {b : BitVec 1} (h : b = 1#1) : ¬ Scalar.xori b 1#1 = 1#1 := by subst h; decide
theorem not_false {b : BitVec 1} (h : ¬ b = 1#1) : Scalar.xori b 1#1 = 1#1 := by revert h; revert b; decide

/-- The second stage adds the block where some pixel is live. -/
theorem mid_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F)  (k : Prog (TpuEff nD τ sig (Elt F) Λ₀ .tc) PUnit) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare (blockSt P C G s).out ∗ owns (c : Thread nD τ) arg7 fullShare (blockSt P C G s).lT ∗ owns (c : Thread nD τ) arg8 fullShare (blockSt P C G s).te)) -∗ wp frame (wpE (defs₀ (F := F)) Variants.none c none) E k K)) ⊢ wp frame (wpE (defs₀ (F := F)) Variants.none c none) E (midP i arg2 harg2 arg3 harg3 arg4 harg4 arg5 harg5 arg6 harg6 arg7 harg7 arg8 harg8 k) K := by
  unfold midP
  iintro ⟨HI, HS, Hk⟩
  iapply (peek_stage c i arg2 harg2 arg3 harg3 arg4 harg4 arg5 harg5 arg6 harg6 arg7 harg7 arg8 harg8 P C G B s _ E K)
  isplitl [HI]; · iexact HI
  isplitl [HS]; · iexact HS
  iintro ⟨HI, HS⟩
  unfold blockSt
  by_cases ha : alive s.lT = 1#1
  · simp only [if_pos ha]
    iapply (loads_stage c i arg2 harg2 arg3 harg3 arg4 harg4 arg5 harg5 arg6 harg6 arg7 harg7 arg8 harg8 P C G B s _ E K)
    isplitl [HI]; · iexact HI
    isplitl [HS]; · iexact HS
    iintro ⟨HI, HS⟩
    unfold branchP
    by_cases hu : uncrossed (opac P G) (posPow P G) least s.lT = 1#1
    · simp only [if_pos hu, if_pos (test_of_true hu), if_neg (test_of_false (not_true hu))]
      iapply (fast_stage c i arg2 harg2 arg3 harg3 arg4 harg4 arg5 harg5 arg6 harg6 arg7 harg7 arg8 harg8 P C G B s _ _ _ _ E K)
      isplitl [HI]; · iexact HI
      isplitl [HS]; · iexact HS
      iexact Hk
    · simp only [if_neg hu, if_neg (test_of_false hu), if_pos (test_of_true (not_false hu))]
      iapply (slow_stage c i arg2 harg2 arg3 harg3 arg4 harg4 arg5 harg5 arg6 harg6 arg7 harg7 arg8 harg8 P C G B s _ _ _ _ E K)
      isplitl [HI]; · iexact HI
      isplitl [HS]; · iexact HS
      iexact Hk
  · simp only [if_neg ha]
    iapply Hk
    isplitl [HI]; · iexact HI
    iexact HS

/-- The third stage adds the background at the last block. -/
theorem fin_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare (finSt (isLast i) B s).out ∗ owns (c : Thread nD τ) arg7 fullShare (finSt (isLast i) B s).lT ∗ owns (c : Thread nD τ) arg8 fullShare (finSt (isLast i) B s).te)) -∗ K ⟨⟩)) ⊢ wp frame (wpE (defs₀ (F := F)) Variants.none c none) E (finP i arg2 harg2 arg3 harg3 arg4 harg4 arg5 harg5 arg6 harg6 arg7 harg7 arg8 harg8) K := by
  unfold finP finSt
  by_cases hb : isLast i = 1#1
  · simp only [if_pos hb]
    unfold owns
    iintro ⟨⟨⟨%f2, %hf2, H2⟩, ⟨%f3, %hf3, H3⟩, ⟨%f4, %hf4, H4⟩, ⟨%f5, %hf5, H5⟩⟩, ⟨⟨%f6, %hf6, H6⟩, ⟨%f7, %hf7, H7⟩, ⟨%f8, %hf8, H8⟩⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    sl_step
    simp only [loaded_4096x4, loaded_4096x1, loaded_512x4, loaded_1x4, Memref.IsWhole.read_unread]
    iapply Hk
    isplitl [H2 H3 H4 H5]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      iexists _; isplitr; · ipureintro; exact harg5.read_unread _
      iexact H5
    isplitl [H6]
    · iexists _; isplitr
      swap; · iexact H6
      ipureintro; exact stored_4096x4 _ _ _
    isplitl [H7]
    · iexists _; isplitr; · ipureintro; exact harg7.read_unread _
      iexact H7
    iexists _; isplitr; · ipureintro; exact harg8.read_unread _
    iexact H8
  · simp only [if_neg hb]
    iintro ⟨H, Hs, Hk⟩
    sl_step
    iapply Hk
    isplitl [H]; · iexact H
    iexact Hs

/-- The whole body: start, add, finish. -/
theorem body_stage (c : Dev nD) (i : grid1.Coords) (arg2 : Memref sig .tc .vmem S8x512 .f32) (harg2 : arg2.IsWhole) (arg3 : Memref sig .tc .vmem S512x4 .f32) (harg3 : arg3.IsWhole) (arg4 : Memref sig .tc .vmem S4096x2 .f32) (harg4 : arg4.IsWhole) (arg5 : Memref sig .tc .vmem S1x4 .f32) (harg5 : arg5.IsWhole) (arg6 : Memref sig .tc .vmem S4096x4 .f32) (harg6 : arg6.IsWhole) (arg7 : Memref sig .tc .vmem S4096x1 .f32) (harg7 : arg7.IsWhole) (arg8 : Memref sig .tc .vmem S4096x1 .f32) (harg8 : arg8.IsWhole) (P : Vec F S8x512 .f32) (C : Vec F S512x4 .f32) (G : Vec F S4096x2 .f32) (B : Vec F S1x4 .f32) (s : Carry F) (E : Set ℕ) (K : PUnit → sProp 𝕄) :
    iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare s.out ∗ owns (c : Thread nD τ) arg7 fullShare s.lT ∗ owns (c : Thread nD τ) arg8 fullShare s.te) ∗ (iprop((owns (c : Thread nD τ) arg2 fullShare P ∗ owns (c : Thread nD τ) arg3 fullShare C ∗ owns (c : Thread nD τ) arg4 fullShare G ∗ owns (c : Thread nD τ) arg5 fullShare B) ∗ (owns (c : Thread nD τ) arg6 fullShare (finSt (isLast i) B (blockSt P C G (startSt (isFirst i) s))).out ∗ owns (c : Thread nD τ) arg7 fullShare (finSt (isLast i) B (blockSt P C G (startSt (isFirst i) s))).lT ∗ owns (c : Thread nD τ) arg8 fullShare (finSt (isLast i) B (blockSt P C G (startSt (isFirst i) s))).te)) -∗ K ⟨⟩)) ⊢ wp frame (wpE (defs₀ (F := F)) Variants.none c none) E (cc1__raster_kernel (F := F) i arg2 harg2 arg3 harg3 arg4 harg4 arg5 harg5 arg6 harg6 arg7 harg7 arg8 harg8) K := by
  rw [body_stages]
  iintro ⟨HI, HS, Hk⟩
  iapply (init_stage c i arg2 harg2 arg3 harg3 arg4 harg4 arg5 harg5 arg6 harg6 arg7 harg7 arg8 harg8 P C G B s _ E K)
  isplitl [HI]; · iexact HI
  isplitl [HS]; · iexact HS
  iintro ⟨HI, HS⟩
  iapply (mid_stage c i arg2 harg2 arg3 harg3 arg4 harg4 arg5 harg5 arg6 harg6 arg7 harg7 arg8 harg8 P C G B _ _ E K)
  isplitl [HI]; · iexact HI
  isplitl [HS]; · iexact HS
  iintro ⟨HI, HS⟩
  iapply (fin_stage c i arg2 harg2 arg3 harg3 arg4 harg4 arg5 harg5 arg6 harg6 arg7 harg7 arg8 harg8 P C G B _ E K)
  isplitl [HI]; · iexact HI
  isplitl [HS]; · iexact HS
  iexact Hk

end Cert.KernelIdeal.Hand
-- ==== Proof.IdealRegion1Data.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealRegion1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The rasteriser's launch: the data of its eight points -/

variable (V : (c : Dev nD) → (b : Ref sig .tc) → Buf (Elt F) ((c : Thread nD τ).loc b))

/-- The block of window `w` at point `t`, as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of input 0 holds its block when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 1 holds its block when the body starts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 2 holds its block when the body starts. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The buffer of input 3 holds its block when the body starts. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
abbrev ms1_0 (t : Fin cfg1.N) : Memref sig .tc .vmem S8x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x4 .f32 := win1_4.stage (cfg1.slots t 4)
abbrev hs1_4 (t : Fin cfg1.N) : (ms1_4 t).IsWhole := hstage1_4 ((cfg1.slots t 4).cast nbuf1_4)

/-- One point of the grid: the carried arrays after it, from those before it. -/
def stepAt (c : Dev nD) (t : Fin cfg1.N) (s : Carry F) : Carry F :=
  finSt (isLast (grid1.coords t)) (iblk1 V c 3 t)
    (blockSt (iblk1 V c 0 t) (iblk1 V c 1 t) (iblk1 V c 2 t) (startSt (isFirst (grid1.coords t)) s))

/-- The carried arrays after the points up to `n`. -/
def carry (c : Dev nD) : (n : ℕ) → n < cfg1.N → Carry F
  | 0, h => stepAt V c ⟨0, h⟩ ⟨k1_pay1, k1_pay2, k1_pay3⟩
  | n + 1, h => stepAt V c ⟨n + 1, h⟩ (carry c n (Nat.lt_of_succ_lt h))

theorem isFirst_zero : ∀ h : 0 < cfg1.N, isFirst (grid1.coords ⟨0, h⟩) = 1#1 := by decide +kernel

/-- A point leaves `carry`, from the arrays of the point before, or from any at the first point. -/
theorem stepAt_carry (c : Dev nD) (t : Fin cfg1.N) (s : Carry F)
    (hs : (h : t.val ≠ 0) → s = carry V c (t.val - 1) (Nat.lt_of_le_of_lt (Nat.sub_le _ _) t.isLt)) : stepAt V c t s = carry V c t.val t.isLt := by
  obtain ⟨n, hn⟩ := t
  cases n with
  | zero =>
    show _ = stepAt V c ⟨0, hn⟩ _
    unfold stepAt startSt
    rw [if_pos (isFirst_zero hn), if_pos (isFirst_zero hn)]
  | succ n => rw [hs (Nat.succ_ne_zero n)]; rfl

/-- What the two scratch buffers hold before point `n`: the carried arrays, unknown before the first point. -/
def held1 (c : Dev nD) (n : Fin (cfg1.N + 1)) : sProp 𝕄 :=
  iprop((∃ s : Carry F, ⌜(h : n.val ≠ 0) → s = carry V c (n.val - 1) (by have := n.isLt; omega)⌝
    ∗ owns (c : Thread nD τ) (Memref.whole cc1_scratch0) fullShare s.lT ∗ owns (c : Thread nD τ) (Memref.whole cc1_scratch1) fullShare s.te)
    ∗ Pipeline.scopedRestBut (Ix := Unit) (Name := ℕ) (U := UR sig nD τ) (Lvl := ℕ) (Val := Elt F) spec1 c [cc1_scratch0, cc1_scratch1]
    ∗ ∃ r, prngReg c r)

/-- The second call's data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (carry V c t.val t.isLt).out
  Φ n := held1 V c n
  q _ := fullShare
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (carry V c t.val t.isLt).out := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- After the first point the output's buffer holds what the point before left. -/
theorem before1_4 (c : Dev nD) (t : Fin cfg1.N) (h0 : t.val ≠ 0) (d) :
    (dat1 V c).before 4 t d = (carry V c (t.val - 1) (Nat.lt_of_le_of_lt (Nat.sub_le _ _) t.isLt)).out := by
  have hN : t.val < 8 := lt_of_lt_of_eq t.isLt (show cfg1.N = 8 from N_1)
  rw [Dat.before_out_kept _ 4 rfl t (by omega) (Bool.eq_false_iff.mpr fun h => by have := (flush1_4 _).mp h; dsimp only at this; omega)
    (fun _ => rfl) (fun _ _ => rfl)]
  dsimp only [dat1]

/-- What the body starts from. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
/-- What it leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.castSucc = held1 V c t.castSucc from rfl, show (dat1 V c).Φ t.succ = held1 V c t.succ from rfl,
    after1_0, after1_1, after1_2, after1_3, after1_4]
  unfold held1
  iintro ⟨⟨⟨%s, %hs, Hl, Ht⟩, Hrest⟩, Ho, ⟨%d0, H0⟩, ⟨%d1, H1⟩, ⟨%d2, H2⟩, ⟨%d3, H3⟩, ⟨%d4, H4⟩⟩
  have hst : stepAt V c t ⟨s.lT, s.te, (dat1 V c).before 4 t d4⟩ = carry V c t.val t.isLt := by
    refine stepAt_carry V c t _ fun h => ?_
    rw [before1_4 V c t h, hs h]; rfl
  rw [← hst]
  iapply (body_stage c (grid1.coords t) (ms1_0 t) (hs1_0 t) (ms1_1 t) (hs1_1 t) (ms1_2 t) (hs1_2 t) (ms1_3 t) (hs1_3 t) (ms1_4 t) (hs1_4 t)
    (Memref.whole cc1_scratch0) (Memref.isWhole_whole _) (Memref.whole cc1_scratch1) (Memref.isWhole_whole _)
    (iblk1 V c 0 t) (iblk1 V c 1 t) (iblk1 V c 2 t) (iblk1 V c 3 t) ⟨s.lT, s.te, (dat1 V c).before 4 t d4⟩ Set.univ _)
  isplitl [H0 H1 H2 H3]
  · isplitl [H0]; · iexact H0
    isplitl [H1]; · iexact H1
    isplitl [H2]; · iexact H2
    iexact H3
  isplitl [H4 Hl Ht]
  · isplitl [H4]; · iexact H4
    isplitl [Hl]; · iexact Hl
    iexact Ht
  iintro ⟨⟨H0, H1, H2, H3⟩, ⟨H4, Hl, Ht⟩⟩
  isplitl [Hl Ht Hrest]
  · isplitl [Hl Ht]
    · iexists (stepAt V c t ⟨s.lT, s.te, (dat1 V c).before 4 t d4⟩)
      isplitr
      · ipureintro
        exact fun _ => hst
      isplitl [Hl]; · iexact Hl
      iexact Ht
    iexact Hrest
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

/-- The call's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem scratch_split (c : Dev nD) :
    (Pipeline.scopedRest (Ix := Unit) (Name := ℕ) (U := UR sig nD τ) (Lvl := ℕ) (Val := Elt F) spec1 c : sProp 𝕄)
      = iprop(((∃ f, owns (c : Thread nD τ) (Memref.whole cc1_scratch0) fullShare f) ∗ (∃ f, owns (c : Thread nD τ) (Memref.whole cc1_scratch1) fullShare f))
        ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [owns_whole]
  rfl

/-- Before the first point the scratch buffers hold anything. -/
theorem held1_in (c : Dev nD) : Pipeline.ΦA (U := UR sig nD τ) (Val := Elt F) spec1 c ⊢ held1 V c 0 := by
  unfold Pipeline.ΦA held1
  rw [scratch_split]
  iintro ⟨⟨⟨⟨%f, Hl⟩, ⟨%g, Ht⟩⟩, Hr⟩, Hp⟩
  isplitl [Hl Ht]
  · iexists (Carry.mk f g k1_pay3)
    isplitr
    · ipureintro; exact fun h => absurd rfl h
    isplitl [Hl]; · iexact Hl
    iexact Ht
  isplitl [Hr]; · iexact Hr
  iexact Hp

/-- After the last point they are given back. -/
theorem held1_out (c : Dev nD) (n : Fin (cfg1.N + 1)) : held1 V c n ⊢ Pipeline.ΦA (U := UR sig nD τ) (Val := Elt F) spec1 c := by
  unfold Pipeline.ΦA held1
  rw [scratch_split]
  iintro ⟨⟨%s, -, Hl, Ht⟩, Hr, Hp⟩
  isplitl [Hl Ht Hr]
  · isplitl [Hl Ht]
    · isplitl [Hl]; · iexists s.lT; iexact Hl
      iexists s.te; iexact Ht
    iexact Hr
  iexact Hp

end Cert.KernelIdeal.Hand
-- ==== Proof.IdealLaunch.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IdealRegion0
public import proofs.«01_k».proof.Proof.IdealRegion1Data
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The whole program: five host stretches and two launches -/

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9]

/-- Core `c`'s buffers at the launch, and after each stretch and each call. -/
abbrev W0 : Dev nD → Valuation τ sig (Elt F) := fun c b => m ((c : Dev nD), b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
abbrev U2 : (c : Dev nD) → (b : Ref sig .tc) → Buf (Elt F) ((c : Thread nD τ).loc b) := fun c b => W2 m c b
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev U5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (U5 m) c).arrAt w cfg1.N
abbrev U6 : (c : Dev nD) → (b : Ref sig .tc) → Buf (Elt F) ((c : Thread nD τ).loc b) := fun c b => W6 m c b
abbrev W7 : Dev nD → Valuation τ sig (Elt F) := fun c => StableHlo.after hostOps2 (W6 m c)

theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A buffer that call 0 doesn't write keeps its contents. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (U1 m) c).arrAt_in w (h w rfl) _).trans (A_eq0 (U1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- A buffer that call 1 doesn't write keeps its contents. -/
theorem W6_of (c : Dev nD) (r : Ref sig .tc) (h : ∀ w : Fin cfg1.W, Pipeline.arrRef spec1 w = r → (cfg1.win w).isOut = false) :
    W6 m c (Proc.devRef .tc r) = W5 m c (Proc.devRef .tc r) := by
  by_cases hw : ∃ w : Fin cfg1.W, Pipeline.arrRef spec1 w = r
  · obtain ⟨w, rfl⟩ := hw
    exact (W6_arr m c w).trans (((dat1 (U5 m) c).arrAt_in w (h w rfl) _).trans (A_eq1 (U5 m) c w))
  · exact W6_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem hF1 (c : Dev nD) (w : Fin cfg1.W) : (dat1 (U5 m) c).arrAt w cfg1.N = U6 m c (Pipeline.arrRef spec1 w) :=
  (W6_arr m c w).symm
theorem hrest1 (c : Dev nD) : ∀ b, b ∉ Finset.univ.image (Pipeline.arrRef spec1) → U6 m c b = U5 m c b :=
  fun b hb => W6_of_ne m c b fun w e => hb (Finset.mem_image.mpr ⟨w, Finset.mem_univ _, e⟩)
theorem hostOps0_args : ∀ a ∈ argRefs, a ∉ hostOps0_W := ListAll.forall_mem_of_all_decide (by decide +kernel)
theorem W1_of (c : Dev nD) (r : Ref sig .tc) (h : r ∉ hostOps0_W) : W1 m c (Proc.devRef .tc r) = W0 m c (Proc.devRef .tc r) :=
  StableHlo.after_of_writes_sub hostOps0 _ hostOps0_writes h
theorem hostOps1_args : ∀ a ∈ argRefs, a ∉ hostOps1_W := ListAll.forall_mem_of_all_decide (by decide +kernel)
theorem W3_of (c : Dev nD) (r : Ref sig .tc) (h : r ∉ hostOps1_W) : W3 m c (Proc.devRef .tc r) = W2 m c (Proc.devRef .tc r) :=
  StableHlo.after_of_writes_sub hostOps1 _ hostOps1_writes h
theorem hostOps1_1_args : ∀ a ∈ argRefs, a ∉ hostOps1_1_W := ListAll.forall_mem_of_all_decide (by decide +kernel)
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem hostOps1_2_args : ∀ a ∈ argRefs, a ∉ hostOps1_2_W := ListAll.forall_mem_of_all_decide (by decide +kernel)
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem hostOps2_args : ∀ a ∈ argRefs, a ∉ hostOps2_W := ListAll.forall_mem_of_all_decide (by decide +kernel)
theorem W7_of (c : Dev nD) (r : Ref sig .tc) (h : r ∉ hostOps2_W) : W7 m c (Proc.devRef .tc r) = W6 m c (Proc.devRef .tc r) :=
  StableHlo.after_of_writes_sub hostOps2 _ hostOps2_writes h
/-- The arguments end as launched. -/
theorem W7_args (c : Dev nD) : ∀ a ∈ argRefs, W7 m c (Proc.devRef .tc a) = m ((c : Thread nD τ).loc a) := fun a ha =>
  (W7_of m c a (hostOps2_args a ha)).trans <| (W6_of m c a (argsIn1 a ha)).trans <| (W5_of m c a (hostOps1_2_args a ha)).trans <|
    (W4_of m c a (hostOps1_1_args a ha)).trans <| (W3_of m c a (hostOps1_args a ha)).trans <| (W2_of m c a (argsIn0 a ha)).trans <|
    W1_of m c a (hostOps0_args a ha)

/-! ## The launch's set-up -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

set_option backward.isDefEq.respectTransparency.types false in
/-- Call 0 as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) (A_eq0 (U1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) (A_eq1 (U5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = held1 (U5 m) c 0 from rfl]
    iintro ⟨Hp, -, Hr⟩
    iapply (held1_in (U5 m) c)
    unfold Pipeline.ΦA
    isplitl [Hr]; · iexact Hr
    iexact Hp
  hout c := by
    rw [Pipeline.ownSems0_none, show (pdats m 1 c).Φ (Fin.last _) = held1 (U5 m) c (Fin.last _) from rfl]
    have h := held1_out (U5 m) c (Fin.last _)
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as its seven segments. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)) ]
theorem main_run (c : Dev nD) : main (F := F) c = Pipeline.Seg.run (segs m) := (main_chain c).trans (by chain_rfl)

set_option backward.isDefEq.respectTransparency.types false in
/-- Every run of the program ends, with every semaphore at zero and every buffer of @main at the contents `W7`. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W7 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨fun c => h c, funext fun g => hz g (.inr (regions_no_unscoped g.2))⟩)

/-- A final buffer of @main read off `run_all`. -/
theorem final_read {mem : (ℓ : Loc nD τ sig) → Buf (Elt F) ℓ} (c : Dev nD) (h : ∀ b ∈ Pipeline.ucRefs τ sig, mem (((c : Thread nD τ)).1, b) = W7 m c b)
    (b : Ref sig .tc) (hb : ¬ (Proc.devRef .tc b : DevRef τ sig).isScoped) : mem ((c.tc : Thread nD τ).loc b) = W7 m c (Proc.devRef .tc b) :=
  h _ (mem_uc b hb)

end Cert.KernelIdeal.Hand
-- ==== Proof.RefFrame.lean ====
/- The reference program leaves its ten arguments alone and ends with every semaphore at zero. -/
module

public import proofs.«01_k».proof.Proof.Gen.ReferenceIdeal.Run
public import Idealize.ShloMosaic.Lib.Quiescent
public import Idealize.ShloMosaic.Lib.Claim

@[expose] public section

set_option maxRecDepth 16384

noncomputable section

namespace Cert.ReferenceIdeal.Hand

open Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- A buffer that no list of operations writes keeps its contents through all of them. -/
theorem afterL_keep {r : Ref sig .tc} : ∀ (items : List (List (HloOp τ sig (Elt F)))),
    (∀ ops ∈ items, ∀ V, after ops V (Proc.devRef .tc r) = V (Proc.devRef .tc r)) →
    ∀ V, afterL items V (Proc.devRef .tc r) = V (Proc.devRef .tc r)
  | [], _, _ => rfl
  | ops :: rest, h, V => by
    rw [afterL_cons, afterL_keep rest (fun o ho => h o (List.mem_cons_of_mem _ ho)), h ops List.mem_cons_self]

/-- What the stretch of operations after the loop writes. -/
abbrev post_W : List (Ref sig .tc) := [main_v256, main_v257, main_v258, main_v259, main_v260, main_v261, main_v262, main_v263, main_cst_48, main_v264, main_v265, main_v266, main_v267, main_v268, main_v269, main_v270, main_v271, main_cst_49, main_v272, main_v273, main_v274, main_v275, main_cst_50, main_v276, main_v277, main_v278, main_v279, main_v280, main_cst_51, main_v281, main_v282, main_v283, main_cst_52]
theorem post_writes : (hostOps0_25 : List (HloOp τ sig (Elt F))).Forall fun op => op.writes ⊆ (post_W.map (Proc.devRef (τ := τ) .tc)).toFinset :=
  StableHlo.forall_writes_sub_of_map rfl
theorem post1_writes : (hostOps0_26 : List (HloOp τ sig (Elt F))).Forall fun op => op.writes ⊆ (([main_call18_v0, main_call18_v1, main_v284] : List (Ref sig .tc)).map (Proc.devRef (τ := τ) .tc)).toFinset :=
  StableHlo.forall_writes_sub_of_map rfl
theorem post2_writes : (hostOps0_27 : List (HloOp τ sig (Elt F))).Forall fun op => op.writes ⊆ (([main_v285] : List (Ref sig .tc)).map (Proc.devRef (τ := τ) .tc)).toFinset :=
  StableHlo.forall_writes_sub_of_map rfl

/-- What the operations of one trip and of its test write. -/
abbrev trip_W : List (Ref sig .tc) := condOps_W ++ while0Ops0_W ++ while0Ops0_1_W ++ while0Ops0_2_W ++ while0Ops0_3_W

/-- The ten arguments. -/
abbrev args : List (Ref sig .tc) := [main_arg0, main_arg1, main_arg2, main_arg3, main_arg4, main_arg5, main_arg6, main_arg7, main_arg8, main_arg9]

/-- A buffer the loop doesn't write keeps its contents through one trip, its test included. -/
theorem trip_keep {r : Ref sig .tc} (h : r ∉ trip_W) (V : Valuation τ sig (Elt F)) :
    afterL bodyI (after condOps V) (Proc.devRef .tc r) = V (Proc.devRef .tc r) := by
  simp only [trip_W, List.mem_append, not_or] at h
  obtain ⟨⟨⟨⟨h0, h1⟩, h2⟩, h3⟩, h4⟩ := h
  simp only [afterL_cons, afterL_nil]
  rw [after_of_writes_sub _ _ while0Ops0_3_writes h4, after_of_writes_sub _ _ while0Ops0_2_writes h3,
    after_of_writes_sub _ _ while0Ops0_1_writes h2, after_of_writes_sub _ _ while0Ops0_writes h1,
    after_of_writes_sub _ _ condOps_writes h0]

/-- And through the whole loop. -/
theorem loop_keep {r : Ref sig .tc} (h : r ∉ trip_W) (W₀ : Dev nD → Valuation τ sig (Elt F)) (c : Dev nD) :
    ∀ k, atTrip condOps bodyI W₀ k c (Proc.devRef .tc r) = W₀ c (Proc.devRef .tc r)
  | 0 => rfl
  | k + 1 => by rw [atTrip_succ, trip_keep h, loop_keep h W₀ c k]

theorem keep_hostOps0 {r : Ref sig .tc} (hr : r ∈ args) (V : Valuation τ sig (Elt F)) : after hostOps0 V (Proc.devRef .tc r) = V (Proc.devRef .tc r) :=
  after_of_writes_sub hostOps0 V hostOps0_writes ((by decide +kernel : ∀ r ∈ args, r ∉ hostOps0_W) r hr)
theorem keep_hostOps0_1 {r : Ref sig .tc} (hr : r ∈ args) (V : Valuation τ sig (Elt F)) : after hostOps0_1 V (Proc.devRef .tc r) = V (Proc.devRef .tc r) :=
  after_of_writes_sub hostOps0_1 V hostOps0_1_writes ((by decide +kernel : ∀ r ∈ args, r ∉ hostOps0_1_W) r hr)
theorem keep_hostOps0_2 {r : Ref sig .tc} (hr : r ∈ args) (V : Valuation τ sig (Elt F)) : after hostOps0_2 V (Proc.devRef .tc r) = V (Proc.devRef .tc r) :=
  after_of_writes_sub hostOps0_2 V hostOps0_2_writes ((by decide +kernel : ∀ r ∈ args, r ∉ hostOps0_2_W) r hr)
theorem keep_hostOps0_3 {r : Ref sig .tc} (hr : r ∈ args) (V : Valuation τ sig (Elt F)) : after hostOps0_3 V (Proc.devRef .tc r) = V (Proc.devRef .tc r) :=
  after_of_writes_sub hostOps0_3 V hostOps0_3_writes ((by decide +kernel : ∀ r ∈ args, r ∉ hostOps0_3_W) r hr)
theorem keep_hostOps0_4 {r : Ref sig .tc} (hr : r ∈ args) (V : Valuation τ sig (Elt F)) : after hostOps0_4 V (Proc.devRef .tc r) = V (Proc.devRef .tc r) :=
  after_of_writes_sub hostOps0_4 V hostOps0_4_writes ((by decide +kernel : ∀ r ∈ args, r ∉ hostOps0_4_W) r hr)
theorem keep_hostOps0_5 {r : Ref sig .tc} (hr : r ∈ args) (V : Valuation τ sig (Elt F)) : after hostOps0_5 V (Proc.devRef .tc r) = V (Proc.devRef .tc r) :=
  after_of_writes_sub hostOps0_5 V hostOps0_5_writes ((by decide +kernel : ∀ r ∈ args, r ∉ hostOps0_5_W) r hr)
theorem keep_hostOps0_6 {r : Ref sig .tc} (hr : r ∈ args) (V : Valuation τ sig (Elt F)) : after hostOps0_6 V (Proc.devRef .tc r) = V (Proc.devRef .tc r) :=
  after_of_writes_sub hostOps0_6 V hostOps0_6_writes ((by decide +kernel : ∀ r ∈ args, r ∉ hostOps0_6_W) r hr)
theorem keep_hostOps0_7 {r : Ref sig .tc} (hr : r ∈ args) (V : Valuation τ sig (Elt F)) : after hostOps0_7 V (Proc.devRef .tc r) = V (Proc.devRef .tc r) :=
  after_of_writes_sub hostOps0_7 V hostOps0_7_writes ((by decide +kernel : ∀ r ∈ args, r ∉ hostOps0_7_W) r hr)
theorem keep_hostOps0_8 {r : Ref sig .tc} (hr : r ∈ args) (V : Valuation τ sig (Elt F)) : after hostOps0_8 V (Proc.devRef .tc r) = V (Proc.devRef .tc r) :=
  after_of_writes_sub hostOps0_8 V hostOps0_8_writes ((by decide +kernel : ∀ r ∈ args, r ∉ hostOps0_8_W) r hr)
theorem keep_hostOps0_9 {r : Ref sig .tc} (hr : r ∈ args) (V : Valuation τ sig (Elt F)) : after hostOps0_9 V (Proc.devRef .tc r) = V (Proc.devRef .tc r) :=
  after_of_writes_sub hostOps0_9 V hostOps0_9_writes ((by decide +kernel : ∀ r ∈ args, r ∉ hostOps0_9_W) r hr)
theorem keep_hostOps0_10 {r : Ref sig .tc} (hr : r ∈ args) (V : Valuation τ sig (Elt F)) : after hostOps0_10 V (Proc.devRef .tc r) = V (Proc.devRef .tc r) :=
  after_of_writes_sub hostOps0_10 V hostOps0_10_writes ((by decide +kernel : ∀ r ∈ args, r ∉ hostOps0_10_W) r hr)
theorem keep_hostOps0_11 {r : Ref sig .tc} (hr : r ∈ args) (V : Valuation τ sig (Elt F)) : after hostOps0_11 V (Proc.devRef .tc r) = V (Proc.devRef .tc r) :=
  after_of_writes_sub hostOps0_11 V hostOps0_11_writes ((by decide +kernel : ∀ r ∈ args, r ∉ hostOps0_11_W) r hr)
theorem keep_hostOps0_12 {r : Ref sig .tc} (hr : r ∈ args) (V : Valuation τ sig (Elt F)) : after hostOps0_12 V (Proc.devRef .tc r) = V (Proc.devRef .tc r) :=
  after_of_writes_sub hostOps0_12 V hostOps0_12_writes ((by decide +kernel : ∀ r ∈ args, r ∉ hostOps0_12_W) r hr)
theorem keep_hostOps0_13 {r : Ref sig .tc} (hr : r ∈ args) (V : Valuation τ sig (Elt F)) : after hostOps0_13 V (Proc.devRef .tc r) = V (Proc.devRef .tc r) :=
  after_of_writes_sub hostOps0_13 V hostOps0_13_writes ((by decide +kernel : ∀ r ∈ args, r ∉ hostOps0_13_W) r hr)
theorem keep_hostOps0_14 {r : Ref sig .tc} (hr : r ∈ args) (V : Valuation τ sig (Elt F)) : after hostOps0_14 V (Proc.devRef .tc r) = V (Proc.devRef .tc r) :=
  after_of_writes_sub hostOps0_14 V hostOps0_14_writes ((by decide +kernel : ∀ r ∈ args, r ∉ hostOps0_14_W) r hr)
theorem keep_hostOps0_15 {r : Ref sig .tc} (hr : r ∈ args) (V : Valuation τ sig (Elt F)) : after hostOps0_15 V (Proc.devRef .tc r) = V (Proc.devRef .tc r) :=
  after_of_writes_sub hostOps0_15 V hostOps0_15_writes ((by decide +kernel : ∀ r ∈ args, r ∉ hostOps0_15_W) r hr)
theorem keep_hostOps0_16 {r : Ref sig .tc} (hr : r ∈ args) (V : Valuation τ sig (Elt F)) : after hostOps0_16 V (Proc.devRef .tc r) = V (Proc.devRef .tc r) :=
  after_of_writes_sub hostOps0_16 V hostOps0_16_writes ((by decide +kernel : ∀ r ∈ args, r ∉ hostOps0_16_W) r hr)
theorem keep_hostOps0_17 {r : Ref sig .tc} (hr : r ∈ args) (V : Valuation τ sig (Elt F)) : after hostOps0_17 V (Proc.devRef .tc r) = V (Proc.devRef .tc r) :=
  after_of_writes_sub hostOps0_17 V hostOps0_17_writes ((by decide +kernel : ∀ r ∈ args, r ∉ hostOps0_17_W) r hr)
theorem keep_hostOps0_18 {r : Ref sig .tc} (hr : r ∈ args) (V : Valuation τ sig (Elt F)) : after hostOps0_18 V (Proc.devRef .tc r) = V (Proc.devRef .tc r) :=
  after_of_writes_sub hostOps0_18 V hostOps0_18_writes ((by decide +kernel : ∀ r ∈ args, r ∉ hostOps0_18_W) r hr)
theorem keep_hostOps0_19 {r : Ref sig .tc} (hr : r ∈ args) (V : Valuation τ sig (Elt F)) : after hostOps0_19 V (Proc.devRef .tc r) = V (Proc.devRef .tc r) :=
  after_of_writes_sub hostOps0_19 V hostOps0_19_writes ((by decide +kernel : ∀ r ∈ args, r ∉ hostOps0_19_W) r hr)
theorem keep_hostOps0_20 {r : Ref sig .tc} (hr : r ∈ args) (V : Valuation τ sig (Elt F)) : after hostOps0_20 V (Proc.devRef .tc r) = V (Proc.devRef .tc r) :=
  after_of_writes_sub hostOps0_20 V hostOps0_20_writes ((by decide +kernel : ∀ r ∈ args, r ∉ hostOps0_20_W) r hr)
theorem keep_hostOps0_21 {r : Ref sig .tc} (hr : r ∈ args) (V : Valuation τ sig (Elt F)) : after hostOps0_21 V (Proc.devRef .tc r) = V (Proc.devRef .tc r) :=
  after_of_writes_sub hostOps0_21 V hostOps0_21_writes ((by decide +kernel : ∀ r ∈ args, r ∉ hostOps0_21_W) r hr)
theorem keep_hostOps0_22 {r : Ref sig .tc} (hr : r ∈ args) (V : Valuation τ sig (Elt F)) : after hostOps0_22 V (Proc.devRef .tc r) = V (Proc.devRef .tc r) :=
  after_of_writes_sub hostOps0_22 V hostOps0_22_writes ((by decide +kernel : ∀ r ∈ args, r ∉ hostOps0_22_W) r hr)
theorem keep_hostOps0_23 {r : Ref sig .tc} (hr : r ∈ args) (V : Valuation τ sig (Elt F)) : after hostOps0_23 V (Proc.devRef .tc r) = V (Proc.devRef .tc r) :=
  after_of_writes_sub hostOps0_23 V hostOps0_23_writes ((by decide +kernel : ∀ r ∈ args, r ∉ hostOps0_23_W) r hr)
theorem keep_hostOps0_24 {r : Ref sig .tc} (hr : r ∈ args) (V : Valuation τ sig (Elt F)) : after hostOps0_24 V (Proc.devRef .tc r) = V (Proc.devRef .tc r) :=
  after_of_writes_sub hostOps0_24 V hostOps0_24_writes ((by decide +kernel : ∀ r ∈ args, r ∉ hostOps0_24_W) r hr)

/-- An argument keeps its contents through everything before the loop. -/
theorem entry_args (m : (ℓ : Loc nD τ sig) → Buf (Elt F) ℓ) (c : Dev nD) (r : Ref sig .tc) (hr : r ∈ args) :
    entryContents preI m c (Proc.devRef .tc r) = m ((c.tc : Thread nD τ).loc r) := by
  refine (afterL_keep preI (List.forall_iff_forall_mem.mp ?_) _).trans rfl
  exact ⟨keep_hostOps0 hr, keep_hostOps0_1 hr, keep_hostOps0_2 hr, keep_hostOps0_3 hr, keep_hostOps0_4 hr, keep_hostOps0_5 hr, keep_hostOps0_6 hr, keep_hostOps0_7 hr, keep_hostOps0_8 hr, keep_hostOps0_9 hr, keep_hostOps0_10 hr, keep_hostOps0_11 hr, keep_hostOps0_12 hr, keep_hostOps0_13 hr, keep_hostOps0_14 hr, keep_hostOps0_15 hr, keep_hostOps0_16 hr, keep_hostOps0_17 hr, keep_hostOps0_18 hr, keep_hostOps0_19 hr, keep_hostOps0_20 hr, keep_hostOps0_21 hr, keep_hostOps0_22 hr, keep_hostOps0_23 hr, keep_hostOps0_24 hr⟩

/-- An argument keeps its contents through the whole program, whatever the number of trips. -/
theorem final_args (m : (ℓ : Loc nD τ sig) → Buf (Elt F) ℓ) (c : Dev nD) (r : Ref sig .tc) (hr : r ∈ args) (n : ℕ) :
    finalContents condOps preI bodyI postI n m c (Proc.devRef .tc r) = m ((c.tc : Thread nD τ).loc r) := by
  unfold finalContents
  rw [afterL_keep postI (List.forall_iff_forall_mem.mp ⟨
      fun V => after_of_writes_sub hostOps0_25 V post_writes ((by decide +kernel : ∀ r ∈ args, r ∉ post_W) r hr),
      fun V => after_of_writes_sub hostOps0_26 V post1_writes ((by decide +kernel : ∀ r ∈ args, r ∉ [main_call18_v0, main_call18_v1, main_v284]) r hr),
      fun V => after_of_writes_sub hostOps0_27 V post2_writes ((by decide +kernel : ∀ r ∈ args, r ∉ [main_v285]) r hr)⟩),
    after_of_writes_sub condOps _ condOps_writes ((by decide +kernel : ∀ r ∈ args, r ∉ condOps_W) r hr),
    loop_keep ((by decide +kernel : ∀ r ∈ args, r ∉ trip_W) r hr), entry_args m c r hr]

/-- Every run of the reference ends with each device buffer at its final contents and every semaphore at zero. -/
theorem run_all (m : (ℓ : Loc nD τ sig) → Buf (Elt F) ℓ) (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = finalContents condOps preI bodyI postI 4096 m c (Proc.devRef .tc b))
        ∧ r.2.sem = fun _ => 0) :=
  θ_run_mono (run_fold m ρ) fun r h => ⟨h, sem_eq_zero_of_no_sems (by decide) r.2⟩

end Cert.ReferenceIdeal.Hand

end
-- ==== Proof.Spec.lean ====
/- What the projection computes of one Gaussian, number by number: its position in the camera, its
   covariance on the screen, the conic, the pixel it falls on and its radius. No program occurs here; the
   kernel's buffers and the reference's are both read as these numbers. -/
module

public import Idealize.ShloMosaic.Lib.Pointwise

@[expose] public section

noncomputable section

namespace Cert.Spec

open Idealize.ShloMosaic Idealize.SL.Sem

/-- The number that a float32 word names. -/
abbrev lit (b : BitVec 32) : EReal := Ideal.ofBits .f32 b

/-- One Gaussian and the two camera matrices: mean, scale, quaternion, view, projection. -/
structure Gin where
  m : Fin 3 → EReal
  s : Fin 3 → EReal
  q : Fin 4 → EReal
  V : Fin 4 → Fin 4 → EReal
  P : Fin 4 → Fin 4 → EReal

namespace Gin

variable (g : Gin)

/-- The quaternion's length, kept away from zero. -/
def nrm : EReal := Ideal.sqrt (g.q 0 * g.q 0 + g.q 1 * g.q 1 + g.q 2 * g.q 2 + g.q 3 * g.q 3) + lit 0x2B8CBCCC#32

/-- The normalised quaternion. -/
def u (i : Fin 4) : EReal := Ideal.div (g.q i) g.nrm

/-- The rotation matrix of the normalised quaternion. -/
def rot : Fin 3 → Fin 3 → EReal
  | 0, 0 => 1 - lit 0x40000000#32 * (g.u 2 * g.u 2 + g.u 3 * g.u 3)
  | 0, 1 => lit 0x40000000#32 * (g.u 1 * g.u 2 - g.u 0 * g.u 3)
  | 0, 2 => lit 0x40000000#32 * (g.u 1 * g.u 3 + g.u 0 * g.u 2)
  | 1, 0 => lit 0x40000000#32 * (g.u 1 * g.u 2 + g.u 0 * g.u 3)
  | 1, 1 => 1 - lit 0x40000000#32 * (g.u 1 * g.u 1 + g.u 3 * g.u 3)
  | 1, 2 => lit 0x40000000#32 * (g.u 2 * g.u 3 - g.u 0 * g.u 1)
  | 2, 0 => lit 0x40000000#32 * (g.u 1 * g.u 3 - g.u 0 * g.u 2)
  | 2, 1 => lit 0x40000000#32 * (g.u 2 * g.u 3 + g.u 0 * g.u 1)
  | 2, 2 => 1 - lit 0x40000000#32 * (g.u 1 * g.u 1 + g.u 2 * g.u 2)

/-- Rotation times scale. -/
def M (i j : Fin 3) : EReal := g.rot i j * g.s j

/-- The covariance in space. -/
def cov3 (i j : Fin 3) : EReal := g.M i 0 * g.M j 0 + g.M i 1 * g.M j 1 + g.M i 2 * g.M j 2

/-- The mean seen from the camera. -/
def t (i : Fin 4) : EReal := g.V i 0 * g.m 0 + g.V i 1 * g.m 1 + g.V i 2 * g.m 2 + g.V i 3

/-- The mean after the projection, before the division. -/
def h (i : Fin 4) : EReal := g.P i 0 * g.m 0 + g.P i 1 * g.m 1 + g.P i 2 * g.m 2 + g.P i 3

def pw : EReal := Ideal.div 1 (g.h 3 + lit 0x33D6BF95#32)

/-- The depth, kept away from zero. -/
def tzc : EReal := if FloatOps.absf (F := Ideal) (φ := .f32) (g.t 2) < lit 0x358637BD#32 then lit 0x358637BD#32 else g.t 2

/-- A camera coordinate clipped to the field of view. -/
def clip (x : EReal) : EReal :=
  min (lit 0x3F266666#32) (max (lit 0xBF266666#32) (Ideal.div x g.tzc)) * g.tzc

def jd : EReal := Ideal.div (lit 0x42800000#32) g.tzc

def jo (x : EReal) : EReal := Ideal.div (lit 0xC2800000#32 * g.clip x) (g.tzc * g.tzc)

/-- The linear part of the projection to the screen, in the camera's frame. -/
def T : Fin 2 → Fin 3 → EReal
  | 0, j => g.jd * g.V 0 j.castSucc + g.jo (g.t 0) * g.V 2 j.castSucc
  | 1, j => g.jd * g.V 1 j.castSucc + g.jo (g.t 1) * g.V 2 j.castSucc

def U (i : Fin 2) (j : Fin 3) : EReal := g.T i 0 * g.cov3 0 j + g.T i 1 * g.cov3 1 j + g.T i 2 * g.cov3 2 j

/-- The covariance on the screen. -/
def cov2 (i j : Fin 2) : EReal := g.U i 0 * g.T j 0 + g.U i 1 * g.T j 1 + g.U i 2 * g.T j 2

def a : EReal := g.cov2 0 0 + lit 0x3E99999A#32
def b : EReal := g.cov2 0 1
def c : EReal := g.cov2 1 1 + lit 0x3E99999A#32
def det : EReal := g.a * g.c - g.b * g.b

/-- Whether the Gaussian is drawn, as the programs' bit. -/
def valid : BitVec 1 :=
  IntOp.andi (BitVec.ofBool (decide (0 < g.det))) (BitVec.ofBool (decide (lit 0x3E4CCCCD#32 < g.t 2)))

def ds : EReal := Scalar.select g.valid g.det 1

def cA : EReal := Ideal.div g.c g.ds
def cB : EReal := Ideal.div (-g.b) g.ds
def cC : EReal := Ideal.div g.a g.ds

/-- The pixel coordinate of a projected one. -/
def pix (x : EReal) : EReal :=
  ((x * g.pw + 1) * lit 0x42800000#32 - 1) * lit 0x3F000000#32

def mid : EReal := lit 0x3F000000#32 * (g.a + g.c)

def radius : BitVec 32 :=
  FloatOps.fptosi (F := Ideal) (φ := .f32) 32 (Scalar.select g.valid
    (Ideal.liftRound Int.ceil (lit 0x40400000#32 * Ideal.sqrt (g.mid + Ideal.sqrt (max (g.mid * g.mid - g.det) (lit 0x3DCCCCCD#32)))))
    0)

end Gin

/-- The eight numbers the rasteriser reads of a Gaussian, with its opacity `o`: pixel, conic, opacity (zero if it is
    not drawn), depth, and a zero. -/
def prm (g : Gin) (o : EReal) (r : Fin 8) : EReal :=
  match r with
  | 0 => g.pix (g.h 0)
  | 1 => g.pix (g.h 1)
  | 2 => g.cA
  | 3 => g.cB + g.cB
  | 4 => g.cC
  | 5 => Scalar.select g.valid o 0
  | 6 => g.t 2
  | 7 => 0

/-- The four numbers a Gaussian adds to a pixel: its colour and its inverse depth. -/
def col (g : Gin) (k : Fin 3 → EReal) (r : Fin 4) : EReal :=
  match r with
  | 0 => k 0
  | 1 => k 1
  | 2 => k 2
  | 3 => Ideal.div 1 g.tzc

/-- Gaussian `n` of the arguments: means, scales, quaternions, view and projection matrices. -/
def ginA (a0 a4 : (⟨2, ![4096, 3]⟩ : Shape).Idx → EReal) (a5 : (⟨2, ![4096, 4]⟩ : Shape).Idx → EReal)
    (a6 a7 : (⟨2, ![4, 4]⟩ : Shape).Idx → EReal) (n : Fin 4096) : Gin where
  m i := a0 (ix2 n i)
  s i := a4 (ix2 n i)
  q i := a5 (ix2 n i)
  V i j := a6 (ix2 i j)
  P i j := a7 (ix2 i j)

end Cert.Spec
-- ==== Proof.KProj.lean ====
/- The projection call's arithmetic: each value its body names, read at one Gaussian, is the number of the
   same name in the specification. -/
module

public import proofs.«01_k».proof.Proof.IdealRegion0
public import proofs.«01_k».proof.Proof.Spec

@[expose] public section

set_option maxRecDepth 16384

noncomputable section

namespace Cert.KernelIdeal.Hand

open Cert.KernelIdeal Cert.KernelIdeal.Gen Cert.Spec Idealize.ShloMosaic Idealize.SL.Sem Idealize.ShloMosaic.TcCoe

/-- The Gaussian in column `n` of the call's operands. -/
def gin (x0 x1 : Vec Ideal S3x4096 .f32) (x2 : Vec Ideal S4x4096 .f32) (x5 x6 : Vec Ideal S4x4 .f32) (n : Fin 4096) : Gin where
  m i := x0 (ix2 i n)
  s i := x1 (ix2 i n)
  q i := x2 (ix2 i n)
  V i j := x5 (ix2 i j)
  P i j := x6 (ix2 i j)

namespace Proj

variable (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg5 : Memref sig .tc .smem S4x4 .f32) (harg5 : arg5.IsWhole) (arg6 : Memref sig .tc .smem S4x4 .f32) (harg6 : arg6.IsWhole)
  (x0 x1 : Vec Ideal S3x4096 .f32) (x2 : Vec Ideal S4x4096 .f32) (x5 x6 : Vec Ideal S4x4 .f32) (n : Fin 4096)

include c arg0 harg0 arg1 harg1 arg2 harg2 arg5 harg5 arg6 harg6 x0 x1 x2 x5 x6 n

theorem r_at : run0.sl.r c arg0 harg0 x0 (ix2 0 n) = (gin x0 x1 x2 x5 x6 n).m 0 := by
  pointwise [run0.sl.r, k0_pay1, View.readAt_eq_ld, harg0.read_unread]
  try rfl

theorem r_1_at : run0.sl.r_1 c arg0 harg0 x0 (ix2 0 n) = (gin x0 x1 x2 x5 x6 n).m 1 := by
  pointwise [run0.sl.r_1, k0_pay2, View.readAt_eq_ld, harg0.read_unread]
  try rfl

theorem r_2_at : run0.sl.r_2 c arg0 harg0 x0 (ix2 0 n) = (gin x0 x1 x2 x5 x6 n).m 2 := by
  pointwise [run0.sl.r_2, k0_pay3, View.readAt_eq_ld, harg0.read_unread]
  try rfl

theorem r_3_at : run0.sl.r_3 c arg1 harg1 x1 (ix2 0 n) = (gin x0 x1 x2 x5 x6 n).s 0 := by
  pointwise [run0.sl.r_3, k0_pay4, View.readAt_eq_ld, harg1.read_unread]
  try rfl

theorem r_4_at : run0.sl.r_4 c arg1 harg1 x1 (ix2 0 n) = (gin x0 x1 x2 x5 x6 n).s 1 := by
  pointwise [run0.sl.r_4, k0_pay5, View.readAt_eq_ld, harg1.read_unread]
  try rfl

theorem r_5_at : run0.sl.r_5 c arg1 harg1 x1 (ix2 0 n) = (gin x0 x1 x2 x5 x6 n).s 2 := by
  pointwise [run0.sl.r_5, k0_pay6, View.readAt_eq_ld, harg1.read_unread]
  try rfl

theorem r_6_at : run0.sl.r_6 c arg2 harg2 x2 (ix2 0 n) = (gin x0 x1 x2 x5 x6 n).u 0 := by
  pointwise [run0.sl.r_6, k0_pay7, k0_pay8, k0_pay9, k0_pay10, k0_pay11, k0_pay12, View.readAt_eq_ld, harg2.read_unread]
  try rfl

theorem r_7_at : run0.sl.r_7 c arg2 harg2 x2 (ix2 0 n) = (gin x0 x1 x2 x5 x6 n).u 1 := by
  pointwise [run0.sl.r_7, k0_pay7, k0_pay8, k0_pay9, k0_pay10, k0_pay11, k0_pay13, View.readAt_eq_ld, harg2.read_unread]
  try rfl

theorem r_8_at : run0.sl.r_8 c arg2 harg2 x2 (ix2 0 n) = (gin x0 x1 x2 x5 x6 n).u 2 := by
  pointwise [run0.sl.r_8, k0_pay7, k0_pay8, k0_pay9, k0_pay10, k0_pay11, k0_pay14, View.readAt_eq_ld, harg2.read_unread]
  try rfl

theorem r_9_at : run0.sl.r_9 c arg2 harg2 x2 (ix2 0 n) = (gin x0 x1 x2 x5 x6 n).u 3 := by
  pointwise [run0.sl.r_9, k0_pay7, k0_pay8, k0_pay9, k0_pay10, k0_pay11, k0_pay15, View.readAt_eq_ld, harg2.read_unread]
  try rfl

theorem r_10_at : run0.sl.r_10 c arg2 harg2 x2 (ix2 0 n) = (gin x0 x1 x2 x5 x6 n).u 2 * (gin x0 x1 x2 x5 x6 n).u 2 + (gin x0 x1 x2 x5 x6 n).u 3 * (gin x0 x1 x2 x5 x6 n).u 3 := by
  pointwise [run0.sl.r_10, k0_pay7, k0_pay8, k0_pay9, k0_pay10, k0_pay11, k0_pay14, k0_pay15, k0_pay16, View.readAt_eq_ld, harg2.read_unread]
  try rfl

theorem r_11_at : run0.sl.r_11 c arg2 harg2 x2 (ix2 0 n) = (gin x0 x1 x2 x5 x6 n).rot 0 1 := by
  pointwise [run0.sl.r_11, k0_pay18, r_6_at c arg0 harg0 arg1 harg1 arg2 harg2 arg5 harg5 arg6 harg6 x0 x1 x2 x5 x6 n, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_12_at : run0.sl.r_12 c arg2 harg2 x2 (ix2 0 n) = (gin x0 x1 x2 x5 x6 n).rot 0 2 := by
  pointwise [run0.sl.r_12, k0_pay19, r_6_at c arg0 harg0 arg1 harg1 arg2 harg2 arg5 harg5 arg6 harg6 x0 x1 x2 x5 x6 n, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_13_at : run0.sl.r_13 c arg2 harg2 x2 (ix2 0 n) = (gin x0 x1 x2 x5 x6 n).rot 1 0 := by
  pointwise [run0.sl.r_13, k0_pay20, r_6_at c arg0 harg0 arg1 harg1 arg2 harg2 arg5 harg5 arg6 harg6 x0 x1 x2 x5 x6 n, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_14_at : run0.sl.r_14 c arg2 harg2 x2 (ix2 0 n) = (gin x0 x1 x2 x5 x6 n).rot 1 1 := by
  pointwise [run0.sl.r_14, k0_pay21, r_7_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_15_at : run0.sl.r_15 c arg2 harg2 x2 (ix2 0 n) = (gin x0 x1 x2 x5 x6 n).rot 1 2 := by
  pointwise [run0.sl.r_15, k0_pay22, r_6_at c arg0 harg0 arg1 harg1 arg2 harg2 arg5 harg5 arg6 harg6 x0 x1 x2 x5 x6 n, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_16_at : run0.sl.r_16 c arg2 harg2 x2 (ix2 0 n) = (gin x0 x1 x2 x5 x6 n).rot 2 0 := by
  pointwise [run0.sl.r_16, k0_pay23, r_6_at c arg0 harg0 arg1 harg1 arg2 harg2 arg5 harg5 arg6 harg6 x0 x1 x2 x5 x6 n, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_17_at : run0.sl.r_17 c arg2 harg2 x2 (ix2 0 n) = (gin x0 x1 x2 x5 x6 n).rot 2 1 := by
  pointwise [run0.sl.r_17, k0_pay24, r_6_at c arg0 harg0 arg1 harg1 arg2 harg2 arg5 harg5 arg6 harg6 x0 x1 x2 x5 x6 n, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n, r_9_at c arg0 harg0 arg1 harg1 arg2 harg2 arg5 harg5 arg6 harg6 x0 x1 x2 x5 x6 n]
  try rfl

theorem r_18_at : run0.sl.r_18 c arg2 harg2 x2 (ix2 0 n) = (gin x0 x1 x2 x5 x6 n).rot 2 2 := by
  pointwise [run0.sl.r_18, k0_pay25, r_7_at c arg0 harg0 arg1 harg1 arg2 harg2 arg5 harg5 arg6 harg6 x0 x1 x2 x5 x6 n, r_8_at c arg0 harg0 arg1 harg1 arg2 harg2 arg5 harg5 arg6 harg6 x0 x1 x2 x5 x6 n]
  try rfl

theorem r_19_at : run0.sl.r_19 c arg1 harg1 arg2 harg2 x1 x2 (ix2 0 n) = (gin x0 x1 x2 x5 x6 n).M 0 0 := by
  pointwise [run0.sl.r_19, k0_pay17, k0_pay26, r_3_at c arg0 harg0 arg1 harg1 arg2 harg2 arg5 harg5 arg6 harg6 x0 x1 x2 x5 x6 n, r_10_at c arg0 harg0 arg1 harg1 arg2 harg2 arg5 harg5 arg6 harg6 x0 x1 x2 x5 x6 n]
  try rfl

theorem r_20_at : run0.sl.r_20 c arg1 harg1 arg2 harg2 x1 x2 (ix2 0 n) = (gin x0 x1 x2 x5 x6 n).M 0 0 := by
  pointwise [run0.sl.r_20, k0_pay27, r_19_at c arg0 harg0 arg1 harg1 arg2 harg2 arg5 harg5 arg6 harg6 x0 x1 x2 x5 x6 n]
  try rfl

theorem r_21_at : run0.sl.r_21 c arg1 harg1 arg2 harg2 x1 x2 (ix2 0 n) = (gin x0 x1 x2 x5 x6 n).M 0 1 := by
  pointwise [run0.sl.r_21, k0_pay28, r_4_at c arg0 harg0 arg1 harg1 arg2 harg2 arg5 harg5 arg6 harg6 x0 x1 x2 x5 x6 n, r_11_at c arg0 harg0 arg1 harg1 arg2 harg2 arg5 harg5 arg6 harg6 x0 x1 x2 x5 x6 n]
  try rfl

theorem r_22_at : run0.sl.r_22 c arg1 harg1 arg2 harg2 x1 x2 (ix2 0 n) = (gin x0 x1 x2 x5 x6 n).M 0 2 := by
  pointwise [run0.sl.r_22, k0_pay29, r_5_at c arg0 harg0 arg1 harg1 arg2 harg2 arg5 harg5 arg6 harg6 x0 x1 x2 x5 x6 n, r_12_at c arg0 harg0 arg1 harg1 arg2 harg2 arg5 harg5 arg6 harg6 x0 x1 x2 x5 x6 n]
  try rfl

theorem r_23_at : run0.sl.r_23 c arg1 harg1 arg2 harg2 x1 x2 (ix2 0 n) = (gin x0 x1 x2 x5 x6 n).M 1 0 := by
  pointwise [run0.sl.r_23, k0_pay30, r_3_at c arg0 harg0 arg1 harg1 arg2 harg2 arg5 harg5 arg6 harg6 x0 x1 x2 x5 x6 n, r_13_at c arg0 harg0 arg1 harg1 arg2 harg2 arg5 harg5 arg6 harg6 x0 x1 x2 x5 x6 n]
  try rfl

theorem r_24_at : run0.sl.r_24 c arg1 harg1 arg2 harg2 x1 x2 (ix2 0 n) = (gin x0 x1 x2 x5 x6 n).M 1 1 := by
  pointwise [run0.sl.r_24, k0_pay31, r_4_at c arg0 harg0 arg1 harg1 arg2 harg2 arg5 harg5 arg6 harg6 x0 x1 x2 x5 x6 n, r_14_at c arg0 harg0 arg1 harg1 arg2 harg2 arg5 harg5 arg6 harg6 x0 x1 x2 x5 x6 n]
  try rfl

theorem r_25_at : run0.sl.r_25 c arg1 harg1 arg2 harg2 x1 x2 (ix2 0 n) = (gin x0 x1 x2 x5 x6 n).M 1 2 := by
  pointwise [run0.sl.r_25, k0_pay32, r_5_at c arg0 harg0 arg1 harg1 arg2 harg2 arg5 harg5 arg6 harg6 x0 x1 x2 x5 x6 n, r_15_at c arg0 harg0 arg1 harg1 arg2 harg2 arg5 harg5 arg6 harg6 x0 x1 x2 x5 x6 n]
  try rfl

theorem r_26_at : run0.sl.r_26 c arg1 harg1 arg2 harg2 x1 x2 (ix2 0 n) = (gin x0 x1 x2 x5 x6 n).M 2 0 := by
  pointwise [run0.sl.r_26, k0_pay33, r_3_at c arg0 harg0 arg1 harg1 arg2 harg2 arg5 harg5 arg6 harg6 x0 x1 x2 x5 x6 n, r_16_at c arg0 harg0 arg1 harg1 arg2 harg2 arg5 harg5 arg6 harg6 x0 x1 x2 x5 x6 n]
  try rfl

theorem r_27_at : run0.sl.r_27 c arg1 harg1 arg2 harg2 x1 x2 (ix2 0 n) = (gin x0 x1 x2 x5 x6 n).M 2 1 := by
  pointwise [run0.sl.r_27, k0_pay34, r_4_at c arg0 harg0 arg1 harg1 arg2 harg2 arg5 harg5 arg6 harg6 x0 x1 x2 x5 x6 n, r_17_at c arg0 harg0 arg1 harg1 arg2 harg2 arg5 harg5 arg6 harg6 x0 x1 x2 x5 x6 n]
  try rfl

theorem r_28_at : run0.sl.r_28 c arg1 harg1 arg2 harg2 x1 x2 (ix2 0 n) = (gin x0 x1 x2 x5 x6 n).M 2 2 := by
  pointwise [run0.sl.r_28, k0_pay35, r_5_at c arg0 harg0 arg1 harg1 arg2 harg2 arg5 harg5 arg6 harg6 x0 x1 x2 x5 x6 n, r_18_at c arg0 harg0 arg1 harg1 arg2 harg2 arg5 harg5 arg6 harg6 x0 x1 x2 x5 x6 n]
  try rfl

theorem r_29_at : run0.sl.r_29 c arg1 harg1 arg2 harg2 x1 x2 (ix2 0 n) = (gin x0 x1 x2 x5 x6 n).cov3 0 0 := by
  pointwise [run0.sl.r_29, k0_pay27, k0_pay28, k0_pay29, k0_pay36, r_4_at c arg0 harg0 arg1 harg1 arg2 harg2 arg5 harg5 arg6 harg6 x0 x1 x2 x5 x6 n, r_5_at c arg0 harg0 arg1 harg1 arg2 harg2 arg5 harg5 arg6 harg6 x0 x1 x2 x5 x6 n, r_11_at c arg0 harg0 arg1 harg1 arg2 harg2 arg5 harg5 arg6 harg6 x0 x1 x2 x5 x6 n, r_12_at c arg0 harg0 arg1 harg1 arg2 harg2 arg5 harg5 arg6 harg6 x0 x1 x2 x5 x6 n, r_19_at c arg0 harg0 arg1 harg1 arg2 harg2 arg5 harg5 arg6 harg6 x0 x1 x2 x5 x6 n]
  try rfl

theorem r_30_at : run0.sl.r_30 c arg1 harg1 arg2 harg2 x1 x2 (ix2 0 n) = (gin x0 x1 x2 x5 x6 n).cov3 0 1 := by
  pointwise [run0.sl.r_30, k0_pay27, k0_pay28, k0_pay29, k0_pay30, k0_pay31, k0_pay32, k0_pay37, r_3_at c arg0 harg0 arg1 harg1 arg2 harg2 arg5 harg5 arg6 harg6 x0 x1 x2 x5 x6 n, r_4_at c arg0 harg0 arg1 harg1 arg2 harg2 arg5 harg5 arg6 harg6 x0 x1 x2 x5 x6 n, r_5_at c arg0 harg0 arg1 harg1 arg2 harg2 arg5 harg5 arg6 harg6 x0 x1 x2 x5 x6 n, r_11_at c arg0 harg0 arg1 harg1 arg2 harg2 arg5 harg5 arg6 harg6 x0 x1 x2 x5 x6 n, r_12_at c arg0 harg0 arg1 harg1 arg2 harg2 arg5 harg5 arg6 harg6 x0 x1 x2 x5 x6 n, r_13_at c arg0 harg0 arg1 harg1 arg2 harg2 arg5 harg5 arg6 harg6 x0 x1 x2 x5 x6 n, r_14_at c arg0 harg0 arg1 harg1 arg2 harg2 arg5 harg5 arg6 harg6 x0 x1 x2 x5 x6 n, r_15_at c arg0 harg0 arg1 harg1 arg2 harg2 arg5 harg5 arg6 harg6 x0 x1 x2 x5 x6 n, r_19_at c arg0 harg0 arg1 harg1 arg2 harg2 arg5 harg5 arg6 harg6 x0 x1 x2 x5 x6 n]
  try rfl

theorem r_31_at : run0.sl.r_31 c arg1 harg1 arg2 harg2 x1 x2 (ix2 0 n) = (gin x0 x1 x2 x5 x6 n).cov3 0 2 := by
  pointwise [run0.sl.r_31, k0_pay27, k0_pay28, k0_pay29, k0_pay33, k0_pay34, k0_pay35, k0_pay38, r_3_at c arg0 harg0 arg1 harg1 arg2 harg2 arg5 harg5 arg6 harg6 x0 x1 x2 x5 x6 n, r_4_at c arg0 harg0 arg1 harg1 arg2 harg2 arg5 harg5 arg6 harg6 x0 x1 x2 x5 x6 n, r_5_at c arg0 harg0 arg1 harg1 arg2 harg2 arg5 harg5 arg6 harg6 x0 x1 x2 x5 x6 n, r_11_at c arg0 harg0 arg1 harg1 arg2 harg2 arg5 harg5 arg6 harg6 x0 x1 x2 x5 x6 n, r_12_at c arg0 harg0 arg1 harg1 arg2 harg2 arg5 harg5 arg6 harg6 x0 x1 x2 x5 x6 n, r_16_at c arg0 harg0 arg1 harg1 arg2 harg2 arg5 harg5 arg6 harg6 x0 x1 x2 x5 x6 n, r_17_at c arg0 harg0 arg1 harg1 arg2 harg2 arg5 harg5 arg6 harg6 x0 x1 x2 x5 x6 n, r_18_at c arg0 harg0 arg1 harg1 arg2 harg2 arg5 harg5 arg6 harg6 x0 x1 x2 x5 x6 n, r_19_at c arg0 harg0 arg1 harg1 arg2 harg2 arg5 harg5 arg6 harg6 x0 x1 x2 x5 x6 n]
  try rfl

theorem r_32_at : run0.sl.r_32 c arg1 harg1 arg2 harg2 x1 x2 (ix2 0 n) = (gin x0 x1 x2 x5 x6 n).cov3 1 0 := by
  pointwise [run0.sl.r_32, k0_pay27, k0_pay28, k0_pay29, k0_pay30, k0_pay31, k0_pay32, k0_pay39, r_3_at c arg0 harg0 arg1 harg1 arg2 harg2 arg5 harg5 arg6 harg6 x0 x1 x2 x5 x6 n, r_4_at c arg0 harg0 arg1 harg1 arg2 harg2 arg5 harg5 arg6 harg6 x0 x1 x2 x5 x6 n, r_5_at c arg0 harg0 arg1 harg1 arg2 harg2 arg5 harg5 arg6 harg6 x0 x1 x2 x5 x6 n, r_11_at c arg0 harg0 arg1 harg1 arg2 harg2 arg5 harg5 arg6 harg6 x0 x1 x2 x5 x6 n, r_12_at c arg0 harg0 arg1 harg1 arg2 harg2 arg5 harg5 arg6 harg6 x0 x1 x2 x5 x6 n, r_13_at c arg0 harg0 arg1 harg1 arg2 harg2 arg5 harg5 arg6 harg6 x0 x1 x2 x5 x6 n, r_14_at c arg0 harg0 arg1 harg1 arg2 harg2 arg5 harg5 arg6 harg6 x0 x1 x2 x5 x6 n, r_15_at c arg0 harg0 arg1 harg1 arg2 harg2 arg5 harg5 arg6 harg6 x0 x1 x2 x5 x6 n, r_19_at c arg0 harg0 arg1 harg1 arg2 harg2 arg5 harg5 arg6 harg6 x0 x1 x2 x5 x6 n]
  try rfl

theorem r_33_at : run0.sl.r_33 c arg1 harg1 arg2 harg2 x1 x2 (ix2 0 n) = (gin x0 x1 x2 x5 x6 n).M 1 0 * (gin x0 x1 x2 x5 x6 n).M 1 0 := by
  pointwise [run0.sl.r_33, k0_pay30, k0_pay40, r_3_at c arg0 harg0 arg1 harg1 arg2 harg2 arg5 harg5 arg6 harg6 x0 x1 x2 x5 x6 n, r_13_at c arg0 harg0 arg1 harg1 arg2 harg2 arg5 harg5 arg6 harg6 x0 x1 x2 x5 x6 n]
  try rfl

theorem r_34_at : run0.sl.r_34 c arg5 harg5 x5 = (gin x0 x1 x2 x5 x6 n).V 0 0 := by
  pointwise [run0.sl.r_34, View.readAt_eq_ld, harg5.read_unread]
  try rfl

theorem r_35_at : run0.sl.r_35 c arg5 harg5 x5 = (gin x0 x1 x2 x5 x6 n).V 0 1 := by
  pointwise [run0.sl.r_35, View.readAt_eq_ld, harg5.read_unread]
  try rfl

theorem r_36_at : run0.sl.r_36 c arg5 harg5 x5 = (gin x0 x1 x2 x5 x6 n).V 0 2 := by
  pointwise [run0.sl.r_36, View.readAt_eq_ld, harg5.read_unread]
  try rfl

theorem r_37_at : run0.sl.r_37 c arg5 harg5 x5 = (gin x0 x1 x2 x5 x6 n).V 0 3 := by
  pointwise [run0.sl.r_37, View.readAt_eq_ld, harg5.read_unread]
  try rfl

theorem r_38_at : run0.sl.r_38 c arg5 harg5 x5 = (gin x0 x1 x2 x5 x6 n).V 1 0 := by
  pointwise [run0.sl.r_38, View.readAt_eq_ld, harg5.read_unread]
  try rfl

theorem r_39_at : run0.sl.r_39 c arg5 harg5 x5 = (gin x0 x1 x2 x5 x6 n).V 1 1 := by
  pointwise [run0.sl.r_39, View.readAt_eq_ld, harg5.read_unread]
  try rfl

theorem r_40_at : run0.sl.r_40 c arg5 harg5 x5 = (gin x0 x1 x2 x5 x6 n).V 1 2 := by
  pointwise [run0.sl.r_40, View.readAt_eq_ld, harg5.read_unread]
  try rfl

theorem r_41_at : run0.sl.r_41 c arg1 harg1 arg2 harg2 x1 x2 (ix2 0 n) = (gin x0 x1 x2 x5 x6 n).cov3 1 1 := by
  pointwise [run0.sl.r_41, k0_pay41, k0_pay42, r_24_at c arg0 harg0 arg1 harg1 arg2 harg2 arg5 harg5 arg6 harg6 x0 x1 x2 x5 x6 n, r_25_at c arg0 harg0 arg1 harg1 arg2 harg2 arg5 harg5 arg6 harg6 x0 x1 x2 x5 x6 n, r_33_at c arg0 harg0 arg1 harg1 arg2 harg2 arg5 harg5 arg6 harg6 x0 x1 x2 x5 x6 n]
  try rfl

theorem r_42_at : run0.sl.r_42 c arg1 harg1 arg2 harg2 x1 x2 (ix2 0 n) = (gin x0 x1 x2 x5 x6 n).cov3 1 2 := by
  pointwise [run0.sl.r_42, k0_pay43, r_23_at c arg0 harg0 arg1 harg1 arg2 harg2 arg5 harg5 arg6 harg6 x0 x1 x2 x5 x6 n, r_24_at c arg0 harg0 arg1 harg1 arg2 harg2 arg5 harg5 arg6 harg6 x0 x1 x2 x5 x6 n, r_25_at c arg0 harg0 arg1 harg1 arg2 harg2 arg5 harg5 arg6 harg6 x0 x1 x2 x5 x6 n, r_26_at c arg0 harg0 arg1 harg1 arg2 harg2 arg5 harg5 arg6 harg6 x0 x1 x2 x5 x6 n, r_27_at c arg0 harg0 arg1 harg1 arg2 harg2 arg5 harg5 arg6 harg6 x0 x1 x2 x5 x6 n, r_28_at c arg0 harg0 arg1 harg1 arg2 harg2 arg5 harg5 arg6 harg6 x0 x1 x2 x5 x6 n]
  try rfl

theorem r_43_at : run0.sl.r_43 c arg1 harg1 arg2 harg2 x1 x2 (ix2 0 n) = (gin x0 x1 x2 x5 x6 n).cov3 2 0 := by
  pointwise [run0.sl.r_43, k0_pay44, r_20_at c arg0 harg0 arg1 harg1 arg2 harg2 arg5 harg5 arg6 harg6 x0 x1 x2 x5 x6 n, r_21_at c arg0 harg0 arg1 harg1 arg2 harg2 arg5 harg5 arg6 harg6 x0 x1 x2 x5 x6 n, r_22_at c arg0 harg0 arg1 harg1 arg2 harg2 arg5 harg5 arg6 harg6 x0 x1 x2 x5 x6 n, r_26_at c arg0 harg0 arg1 harg1 arg2 harg2 arg5 harg5 arg6 harg6 x0 x1 x2 x5 x6 n, r_27_at c arg0 harg0 arg1 harg1 arg2 harg2 arg5 harg5 arg6 harg6 x0 x1 x2 x5 x6 n, r_28_at c arg0 harg0 arg1 harg1 arg2 harg2 arg5 harg5 arg6 harg6 x0 x1 x2 x5 x6 n]
  try rfl

theorem r_44_at : run0.sl.r_44 c arg1 harg1 arg2 harg2 x1 x2 (ix2 0 n) = (gin x0 x1 x2 x5 x6 n).cov3 2 1 := by
  pointwise [run0.sl.r_44, k0_pay45, r_23_at c arg0 harg0 arg1 harg1 arg2 harg2 arg5 harg5 arg6 harg6 x0 x1 x2 x5 x6 n, r_24_at c arg0 harg0 arg1 harg1 arg2 harg2 arg5 harg5 arg6 harg6 x0 x1 x2 x5 x6 n, r_25_at c arg0 harg0 arg1 harg1 arg2 harg2 arg5 harg5 arg6 harg6 x0 x1 x2 x5 x6 n, r_26_at c arg0 harg0 arg1 harg1 arg2 harg2 arg5 harg5 arg6 harg6 x0 x1 x2 x5 x6 n, r_27_at c arg0 harg0 arg1 harg1 arg2 harg2 arg5 harg5 arg6 harg6 x0 x1 x2 x5 x6 n, r_28_at c arg0 harg0 arg1 harg1 arg2 harg2 arg5 harg5 arg6 harg6 x0 x1 x2 x5 x6 n]
  try rfl

theorem r_45_at : run0.sl.r_45 c arg1 harg1 arg2 harg2 x1 x2 (ix2 0 n) = (gin x0 x1 x2 x5 x6 n).cov3 2 2 := by
  pointwise [run0.sl.r_45, k0_pay46, r_26_at c arg0 harg0 arg1 harg1 arg2 harg2 arg5 harg5 arg6 harg6 x0 x1 x2 x5 x6 n, r_27_at c arg0 harg0 arg1 harg1 arg2 harg2 arg5 harg5 arg6 harg6 x0 x1 x2 x5 x6 n, r_28_at c arg0 harg0 arg1 harg1 arg2 harg2 arg5 harg5 arg6 harg6 x0 x1 x2 x5 x6 n]
  try rfl

theorem r_46_at : run0.sl.r_46 c arg5 harg5 x5 = (gin x0 x1 x2 x5 x6 n).V 1 3 := by
  pointwise [run0.sl.r_46, View.readAt_eq_ld, harg5.read_unread]
  try rfl

theorem r_47_at : run0.sl.r_47 c arg5 harg5 x5 = (gin x0 x1 x2 x5 x6 n).V 2 0 := by
  pointwise [run0.sl.r_47, View.readAt_eq_ld, harg5.read_unread]
  try rfl

theorem r_48_at : run0.sl.r_48 c arg5 harg5 x5 = (gin x0 x1 x2 x5 x6 n).V 2 1 := by
  pointwise [run0.sl.r_48, View.readAt_eq_ld, harg5.read_unread]
  try rfl

theorem r_49_at : run0.sl.r_49 c arg5 harg5 x5 = (gin x0 x1 x2 x5 x6 n).V 2 2 := by
  pointwise [run0.sl.r_49, View.readAt_eq_ld, harg5.read_unread]
  try rfl

theorem r_50_at : run0.sl.r_50 c arg5 harg5 x5 = (gin x0 x1 x2 x5 x6 n).V 2 3 := by
  pointwise [run0.sl.r_50, View.readAt_eq_ld, harg5.read_unread]
  try rfl

theorem r_51_at : run0.sl.r_51 c arg6 harg6 x6 = (gin x0 x1 x2 x5 x6 n).P 0 0 := by
  pointwise [run0.sl.r_51, View.readAt_eq_ld, harg6.read_unread]
  try rfl

theorem r_52_at : run0.sl.r_52 c arg6 harg6 x6 = (gin x0 x1 x2 x5 x6 n).P 0 1 := by
  pointwise [run0.sl.r_52, View.readAt_eq_ld, harg6.read_unread]
  try rfl

theorem r_53_at : run0.sl.r_53 c arg6 harg6 x6 = (gin x0 x1 x2 x5 x6 n).P 0 2 := by
  pointwise [run0.sl.r_53, View.readAt_eq_ld, harg6.read_unread]
  try rfl

theorem r_54_at : run0.sl.r_54 c arg6 harg6 x6 = (gin x0 x1 x2 x5 x6 n).P 0 3 := by
  pointwise [run0.sl.r_54, View.readAt_eq_ld, harg6.read_unread]
  try rfl

theorem r_55_at : run0.sl.r_55 c arg6 harg6 x6 = (gin x0 x1 x2 x5 x6 n).P 1 0 := by
  pointwise [run0.sl.r_55, View.readAt_eq_ld, harg6.read_unread]
  try rfl

theorem r_56_at : run0.sl.r_56 c arg6 harg6 x6 = (gin x0 x1 x2 x5 x6 n).P 1 1 := by
  pointwise [run0.sl.r_56, View.readAt_eq_ld, harg6.read_unread]
  try rfl

theorem r_57_at : run0.sl.r_57 c arg6 harg6 x6 = (gin x0 x1 x2 x5 x6 n).P 1 2 := by
  pointwise [run0.sl.r_57, View.readAt_eq_ld, harg6.read_unread]
  try rfl

theorem r_58_at : run0.sl.r_58 c arg6 harg6 x6 = (gin x0 x1 x2 x5 x6 n).P 1 3 := by
  pointwise [run0.sl.r_58, View.readAt_eq_ld, harg6.read_unread]
  try rfl

theorem r_59_at : run0.sl.r_59 c arg6 harg6 x6 = (gin x0 x1 x2 x5 x6 n).P 3 0 := by
  pointwise [run0.sl.r_59, View.readAt_eq_ld, harg6.read_unread]
  try rfl

theorem r_60_at : run0.sl.r_60 c arg6 harg6 x6 = (gin x0 x1 x2 x5 x6 n).P 3 1 := by
  pointwise [run0.sl.r_60, View.readAt_eq_ld, harg6.read_unread]
  try rfl

theorem r_61_at : run0.sl.r_61 c arg6 harg6 x6 = (gin x0 x1 x2 x5 x6 n).P 3 2 := by
  pointwise [run0.sl.r_61, View.readAt_eq_ld, harg6.read_unread]
  try rfl

theorem r_62_at : run0.sl.r_62 c arg6 harg6 x6 = (gin x0 x1 x2 x5 x6 n).P 3 3 := by
  pointwise [run0.sl.r_62, View.readAt_eq_ld, harg6.read_unread]
  try rfl

theorem r_63_at : run0.sl.r_63 c arg0 harg0 x0 (ix2 0 n) = (gin x0 x1 x2 x5 x6 n).m 0 := by
  pointwise [run0.sl.r_63, k0_pay47, r_at c arg0 harg0 arg1 harg1 arg2 harg2 arg5 harg5 arg6 harg6 x0 x1 x2 x5 x6 n]
  try rfl

theorem r_64_at : run0.sl.r_64 c arg0 harg0 x0 (ix2 0 n) = (gin x0 x1 x2 x5 x6 n).m 1 := by
  pointwise [run0.sl.r_64, k0_pay48, r_1_at c arg0 harg0 arg1 harg1 arg2 harg2 arg5 harg5 arg6 harg6 x0 x1 x2 x5 x6 n]
  try rfl

theorem r_65_at : run0.sl.r_65 c arg0 harg0 x0 (ix2 0 n) = (gin x0 x1 x2 x5 x6 n).m 2 := by
  pointwise [run0.sl.r_65, k0_pay49, r_2_at c arg0 harg0 arg1 harg1 arg2 harg2 arg5 harg5 arg6 harg6 x0 x1 x2 x5 x6 n]
  try rfl

theorem r_66_at : run0.sl.r_66 c arg0 harg0 arg5 harg5 x0 x5 (ix2 0 n) = (gin x0 x1 x2 x5 x6 n).V 0 0 * (gin x0 x1 x2 x5 x6 n).m 0 + (gin x0 x1 x2 x5 x6 n).V 0 1 * (gin x0 x1 x2 x5 x6 n).m 1 := by
  pointwise [run0.sl.r_66, k0_pay47, k0_pay48, k0_pay50, r_at c arg0 harg0 arg1 harg1 arg2 harg2 arg5 harg5 arg6 harg6 x0 x1 x2 x5 x6 n, r_1_at c arg0 harg0 arg1 harg1 arg2 harg2 arg5 harg5 arg6 harg6 x0 x1 x2 x5 x6 n, r_34_at c arg0 harg0 arg1 harg1 arg2 harg2 arg5 harg5 arg6 harg6 x0 x1 x2 x5 x6 n, r_35_at c arg0 harg0 arg1 harg1 arg2 harg2 arg5 harg5 arg6 harg6 x0 x1 x2 x5 x6 n]
  try rfl

theorem r_67_at : run0.sl.r_67 c arg0 harg0 arg5 harg5 x0 x5 (ix2 0 n) = (gin x0 x1 x2 x5 x6 n).t 0 := by
  pointwise [run0.sl.r_67, k0_pay51, r_36_at c arg0 harg0 arg1 harg1 arg2 harg2 arg5 harg5 arg6 harg6 x0 x1 x2 x5 x6 n, r_37_at c arg0 harg0 arg1 harg1 arg2 harg2 arg5 harg5 arg6 harg6 x0 x1 x2 x5 x6 n, r_65_at c arg0 harg0 arg1 harg1 arg2 harg2 arg5 harg5 arg6 harg6 x0 x1 x2 x5 x6 n, r_66_at c arg0 harg0 arg1 harg1 arg2 harg2 arg5 harg5 arg6 harg6 x0 x1 x2 x5 x6 n]
  try rfl

theorem r_68_at : run0.sl.r_68 c arg0 harg0 arg5 harg5 x0 x5 (ix2 0 n) = (gin x0 x1 x2 x5 x6 n).t 1 := by
  pointwise [run0.sl.r_68, k0_pay52, r_38_at c arg0 harg0 arg1 harg1 arg2 harg2 arg5 harg5 arg6 harg6 x0 x1 x2 x5 x6 n, r_39_at c arg0 harg0 arg1 harg1 arg2 harg2 arg5 harg5 arg6 harg6 x0 x1 x2 x5 x6 n, r_40_at c arg0 harg0 arg1 harg1 arg2 harg2 arg5 harg5 arg6 harg6 x0 x1 x2 x5 x6 n, r_46_at c arg0 harg0 arg1 harg1 arg2 harg2 arg5 harg5 arg6 harg6 x0 x1 x2 x5 x6 n, r_63_at c arg0 harg0 arg1 harg1 arg2 harg2 arg5 harg5 arg6 harg6 x0 x1 x2 x5 x6 n, r_64_at c arg0 harg0 arg1 harg1 arg2 harg2 arg5 harg5 arg6 harg6 x0 x1 x2 x5 x6 n, r_65_at c arg0 harg0 arg1 harg1 arg2 harg2 arg5 harg5 arg6 harg6 x0 x1 x2 x5 x6 n]
  try rfl

theorem r_69_at : run0.sl.r_69 c arg0 harg0 arg5 harg5 x0 x5 (ix2 0 n) = (gin x0 x1 x2 x5 x6 n).t 2 := by
  pointwise [run0.sl.r_69, k0_pay53, r_47_at c arg0 harg0 arg1 harg1 arg2 harg2 arg5 harg5 arg6 harg6 x0 x1 x2 x5 x6 n, r_48_at c arg0 harg0 arg1 harg1 arg2 harg2 arg5 harg5 arg6 harg6 x0 x1 x2 x5 x6 n, r_49_at c arg0 harg0 arg1 harg1 arg2 harg2 arg5 harg5 arg6 harg6 x0 x1 x2 x5 x6 n, r_50_at c arg0 harg0 arg1 harg1 arg2 harg2 arg5 harg5 arg6 harg6 x0 x1 x2 x5 x6 n, r_63_at c arg0 harg0 arg1 harg1 arg2 harg2 arg5 harg5 arg6 harg6 x0 x1 x2 x5 x6 n, r_64_at c arg0 harg0 arg1 harg1 arg2 harg2 arg5 harg5 arg6 harg6 x0 x1 x2 x5 x6 n, r_65_at c arg0 harg0 arg1 harg1 arg2 harg2 arg5 harg5 arg6 harg6 x0 x1 x2 x5 x6 n]
  try rfl

theorem r_70_at : run0.sl.r_70 c arg0 harg0 arg6 harg6 x0 x6 (ix2 0 n) = (gin x0 x1 x2 x5 x6 n).h 0 := by
  pointwise [run0.sl.r_70, k0_pay54, r_51_at c arg0 harg0 arg1 harg1 arg2 harg2 arg5 harg5 arg6 harg6 x0 x1 x2 x5 x6 n, r_52_at c arg0 harg0 arg1 harg1 arg2 harg2 arg5 harg5 arg6 harg6 x0 x1 x2 x5 x6 n, r_53_at c arg0 harg0 arg1 harg1 arg2 harg2 arg5 harg5 arg6 harg6 x0 x1 x2 x5 x6 n, r_54_at c arg0 harg0 arg1 harg1 arg2 harg2 arg5 harg5 arg6 harg6 x0 x1 x2 x5 x6 n, r_63_at c arg0 harg0 arg1 harg1 arg2 harg2 arg5 harg5 arg6 harg6 x0 x1 x2 x5 x6 n, r_64_at c arg0 harg0 arg1 harg1 arg2 harg2 arg5 harg5 arg6 harg6 x0 x1 x2 x5 x6 n, r_65_at c arg0 harg0 arg1 harg1 arg2 harg2 arg5 harg5 arg6 harg6 x0 x1 x2 x5 x6 n]
  try rfl

theorem r_71_at : run0.sl.r_71 c arg0 harg0 arg6 harg6 x0 x6 (ix2 0 n) = (gin x0 x1 x2 x5 x6 n).h 1 := by
  pointwise [run0.sl.r_71, k0_pay55, r_55_at c arg0 harg0 arg1 harg1 arg2 harg2 arg5 harg5 arg6 harg6 x0 x1 x2 x5 x6 n, r_56_at c arg0 harg0 arg1 harg1 arg2 harg2 arg5 harg5 arg6 harg6 x0 x1 x2 x5 x6 n, r_57_at c arg0 harg0 arg1 harg1 arg2 harg2 arg5 harg5 arg6 harg6 x0 x1 x2 x5 x6 n, r_58_at c arg0 harg0 arg1 harg1 arg2 harg2 arg5 harg5 arg6 harg6 x0 x1 x2 x5 x6 n, r_63_at c arg0 harg0 arg1 harg1 arg2 harg2 arg5 harg5 arg6 harg6 x0 x1 x2 x5 x6 n, r_64_at c arg0 harg0 arg1 harg1 arg2 harg2 arg5 harg5 arg6 harg6 x0 x1 x2 x5 x6 n, r_65_at c arg0 harg0 arg1 harg1 arg2 harg2 arg5 harg5 arg6 harg6 x0 x1 x2 x5 x6 n]
  try rfl

theorem r_72_at : run0.sl.r_72 c arg0 harg0 arg6 harg6 x0 x6 (ix2 0 n) = (gin x0 x1 x2 x5 x6 n).h 3 + lit 0x33D6BF95#32 := by
  pointwise [run0.sl.r_72, k0_pay56, r_59_at c arg0 harg0 arg1 harg1 arg2 harg2 arg5 harg5 arg6 harg6 x0 x1 x2 x5 x6 n, r_60_at c arg0 harg0 arg1 harg1 arg2 harg2 arg5 harg5 arg6 harg6 x0 x1 x2 x5 x6 n, r_61_at c arg0 harg0 arg1 harg1 arg2 harg2 arg5 harg5 arg6 harg6 x0 x1 x2 x5 x6 n, r_62_at c arg0 harg0 arg1 harg1 arg2 harg2 arg5 harg5 arg6 harg6 x0 x1 x2 x5 x6 n, r_63_at c arg0 harg0 arg1 harg1 arg2 harg2 arg5 harg5 arg6 harg6 x0 x1 x2 x5 x6 n, r_64_at c arg0 harg0 arg1 harg1 arg2 harg2 arg5 harg5 arg6 harg6 x0 x1 x2 x5 x6 n, r_65_at c arg0 harg0 arg1 harg1 arg2 harg2 arg5 harg5 arg6 harg6 x0 x1 x2 x5 x6 n]
  try rfl

theorem r_73_at : run0.sl.r_73 c arg0 harg0 arg6 harg6 x0 x6 (ix2 0 n) = (gin x0 x1 x2 x5 x6 n).h 0 * (gin x0 x1 x2 x5 x6 n).pw := by
  pointwise [run0.sl.r_73, k0_pay57, k0_pay58, k0_pay59, r_70_at c arg0 harg0 arg1 harg1 arg2 harg2 arg5 harg5 arg6 harg6 x0 x1 x2 x5 x6 n, r_72_at c arg0 harg0 arg1 harg1 arg2 harg2 arg5 harg5 arg6 harg6 x0 x1 x2 x5 x6 n]
  try rfl

theorem r_74_at : run0.sl.r_74 c arg0 harg0 arg6 harg6 x0 x6 (ix2 0 n) = (gin x0 x1 x2 x5 x6 n).h 1 * (gin x0 x1 x2 x5 x6 n).pw := by
  pointwise [run0.sl.r_74, k0_pay57, k0_pay58, k0_pay60, r_71_at c arg0 harg0 arg1 harg1 arg2 harg2 arg5 harg5 arg6 harg6 x0 x1 x2 x5 x6 n, r_72_at c arg0 harg0 arg1 harg1 arg2 harg2 arg5 harg5 arg6 harg6 x0 x1 x2 x5 x6 n]
  try rfl

theorem r_75_at : run0.sl.r_75 c arg0 harg0 arg5 harg5 x0 x5 (ix2 0 n) = Ideal.div 1 (gin x0 x1 x2 x5 x6 n).tzc := by
  pointwise [run0.sl.r_75, k0_pay61, k0_pay62, r_69_at c arg0 harg0 arg1 harg1 arg2 harg2 arg5 harg5 arg6 harg6 x0 x1 x2 x5 x6 n]
  try rfl

theorem r_76_at : run0.sl.r_76 c arg0 harg0 arg5 harg5 x0 x5 (ix2 0 n) = (gin x0 x1 x2 x5 x6 n).jd := by
  pointwise [run0.sl.r_76, k0_pay61, k0_pay63, r_69_at c arg0 harg0 arg1 harg1 arg2 harg2 arg5 harg5 arg6 harg6 x0 x1 x2 x5 x6 n]
  try rfl

theorem r_77_at : run0.sl.r_77 c arg0 harg0 arg5 harg5 x0 x5 (ix2 0 n) = (gin x0 x1 x2 x5 x6 n).jo ((gin x0 x1 x2 x5 x6 n).t 0) := by
  pointwise [run0.sl.r_77, k0_pay61, k0_pay64, r_67_at c arg0 harg0 arg1 harg1 arg2 harg2 arg5 harg5 arg6 harg6 x0 x1 x2 x5 x6 n, r_69_at c arg0 harg0 arg1 harg1 arg2 harg2 arg5 harg5 arg6 harg6 x0 x1 x2 x5 x6 n]
  try rfl

theorem r_78_at : run0.sl.r_78 c arg0 harg0 arg5 harg5 x0 x5 (ix2 0 n) = (gin x0 x1 x2 x5 x6 n).jd := by
  pointwise [run0.sl.r_78, k0_pay61, k0_pay65, r_69_at c arg0 harg0 arg1 harg1 arg2 harg2 arg5 harg5 arg6 harg6 x0 x1 x2 x5 x6 n]
  try rfl

theorem r_79_at : run0.sl.r_79 c arg0 harg0 arg5 harg5 x0 x5 (ix2 0 n) = (gin x0 x1 x2 x5 x6 n).jo ((gin x0 x1 x2 x5 x6 n).t 1) := by
  pointwise [run0.sl.r_79, k0_pay61, k0_pay66, r_68_at c arg0 harg0 arg1 harg1 arg2 harg2 arg5 harg5 arg6 harg6 x0 x1 x2 x5 x6 n, r_69_at c arg0 harg0 arg1 harg1 arg2 harg2 arg5 harg5 arg6 harg6 x0 x1 x2 x5 x6 n]
  try rfl

theorem r_80_at : run0.sl.r_80 c arg0 harg0 arg5 harg5 x0 x5 (ix2 0 n) = (gin x0 x1 x2 x5 x6 n).T 0 0 := by
  pointwise [run0.sl.r_80, k0_pay61, k0_pay63, k0_pay64, k0_pay67, r_34_at c arg0 harg0 arg1 harg1 arg2 harg2 arg5 harg5 arg6 harg6 x0 x1 x2 x5 x6 n, r_47_at c arg0 harg0 arg1 harg1 arg2 harg2 arg5 harg5 arg6 harg6 x0 x1 x2 x5 x6 n, r_67_at c arg0 harg0 arg1 harg1 arg2 harg2 arg5 harg5 arg6 harg6 x0 x1 x2 x5 x6 n, r_69_at c arg0 harg0 arg1 harg1 arg2 harg2 arg5 harg5 arg6 harg6 x0 x1 x2 x5 x6 n]
  try rfl

theorem r_81_at : run0.sl.r_81 c arg0 harg0 arg5 harg5 x0 x5 (ix2 0 n) = (gin x0 x1 x2 x5 x6 n).jd * (gin x0 x1 x2 x5 x6 n).V 0 1 := by
  pointwise [run0.sl.r_81, k0_pay61, k0_pay63, k0_pay68, r_35_at c arg0 harg0 arg1 harg1 arg2 harg2 arg5 harg5 arg6 harg6 x0 x1 x2 x5 x6 n, r_69_at c arg0 harg0 arg1 harg1 arg2 harg2 arg5 harg5 arg6 harg6 x0 x1 x2 x5 x6 n]
  try rfl

theorem r_82_at : run0.sl.r_82 c arg0 harg0 arg5 harg5 x0 x5 (ix2 0 n) = (gin x0 x1 x2 x5 x6 n).T 0 0 := by
  pointwise [run0.sl.r_82, k0_pay69, r_80_at c arg0 harg0 arg1 harg1 arg2 harg2 arg5 harg5 arg6 harg6 x0 x1 x2 x5 x6 n]
  try rfl

theorem r_83_at : run0.sl.r_83 c arg0 harg0 arg5 harg5 x0 x5 (ix2 0 n) = (gin x0 x1 x2 x5 x6 n).T 0 1 := by
  pointwise [run0.sl.r_83, k0_pay70, r_48_at c arg0 harg0 arg1 harg1 arg2 harg2 arg5 harg5 arg6 harg6 x0 x1 x2 x5 x6 n, r_77_at c arg0 harg0 arg1 harg1 arg2 harg2 arg5 harg5 arg6 harg6 x0 x1 x2 x5 x6 n, r_81_at c arg0 harg0 arg1 harg1 arg2 harg2 arg5 harg5 arg6 harg6 x0 x1 x2 x5 x6 n]
  try rfl

theorem r_84_at : run0.sl.r_84 c arg0 harg0 arg5 harg5 x0 x5 (ix2 0 n) = (gin x0 x1 x2 x5 x6 n).T 0 2 := by
  pointwise [run0.sl.r_84, k0_pay71, r_36_at c arg0 harg0 arg1 harg1 arg2 harg2 arg5 harg5 arg6 harg6 x0 x1 x2 x5 x6 n, r_49_at c arg0 harg0 arg1 harg1 arg2 harg2 arg5 harg5 arg6 harg6 x0 x1 x2 x5 x6 n, r_76_at c arg0 harg0 arg1 harg1 arg2 harg2 arg5 harg5 arg6 harg6 x0 x1 x2 x5 x6 n, r_77_at c arg0 harg0 arg1 harg1 arg2 harg2 arg5 harg5 arg6 harg6 x0 x1 x2 x5 x6 n]
  try rfl

theorem r_85_at : run0.sl.r_85 c arg0 harg0 arg5 harg5 x0 x5 (ix2 0 n) = (gin x0 x1 x2 x5 x6 n).T 1 0 := by
  pointwise [run0.sl.r_85, k0_pay72, r_38_at c arg0 harg0 arg1 harg1 arg2 harg2 arg5 harg5 arg6 harg6 x0 x1 x2 x5 x6 n, r_47_at c arg0 harg0 arg1 harg1 arg2 harg2 arg5 harg5 arg6 harg6 x0 x1 x2 x5 x6 n, r_78_at c arg0 harg0 arg1 harg1 arg2 harg2 arg5 harg5 arg6 harg6 x0 x1 x2 x5 x6 n, r_79_at c arg0 harg0 arg1 harg1 arg2 harg2 arg5 harg5 arg6 harg6 x0 x1 x2 x5 x6 n]
  try rfl

theorem r_86_at : run0.sl.r_86 c arg0 harg0 arg5 harg5 x0 x5 (ix2 0 n) = (gin x0 x1 x2 x5 x6 n).T 1 1 := by
  pointwise [run0.sl.r_86, k0_pay73, r_39_at c arg0 harg0 arg1 harg1 arg2 harg2 arg5 harg5 arg6 harg6 x0 x1 x2 x5 x6 n, r_48_at c arg0 harg0 arg1 harg1 arg2 harg2 arg5 harg5 arg6 harg6 x0 x1 x2 x5 x6 n, r_78_at c arg0 harg0 arg1 harg1 arg2 harg2 arg5 harg5 arg6 harg6 x0 x1 x2 x5 x6 n, r_79_at c arg0 harg0 arg1 harg1 arg2 harg2 arg5 harg5 arg6 harg6 x0 x1 x2 x5 x6 n]
  try rfl

theorem r_87_at : run0.sl.r_87 c arg0 harg0 arg5 harg5 x0 x5 (ix2 0 n) = (gin x0 x1 x2 x5 x6 n).T 1 2 := by
  pointwise [run0.sl.r_87, k0_pay74, r_40_at c arg0 harg0 arg1 harg1 arg2 harg2 arg5 harg5 arg6 harg6 x0 x1 x2 x5 x6 n, r_49_at c arg0 harg0 arg1 harg1 arg2 harg2 arg5 harg5 arg6 harg6 x0 x1 x2 x5 x6 n, r_78_at c arg0 harg0 arg1 harg1 arg2 harg2 arg5 harg5 arg6 harg6 x0 x1 x2 x5 x6 n, r_79_at c arg0 harg0 arg1 harg1 arg2 harg2 arg5 harg5 arg6 harg6 x0 x1 x2 x5 x6 n]
  try rfl

theorem r_88_at : run0.sl.r_88 c arg1 harg1 arg2 harg2 x1 x2 (ix2 0 n) = (gin x0 x1 x2 x5 x6 n).cov3 0 0 := by
  pointwise [run0.sl.r_88, k0_pay75, r_29_at c arg0 harg0 arg1 harg1 arg2 harg2 arg5 harg5 arg6 harg6 x0 x1 x2 x5 x6 n]
  try rfl

theorem r_89_at : run0.sl.r_89 c arg1 harg1 arg2 harg2 x1 x2 (ix2 0 n) = (gin x0 x1 x2 x5 x6 n).cov3 0 1 := by
  pointwise [run0.sl.r_89, k0_pay76, r_30_at c arg0 harg0 arg1 harg1 arg2 harg2 arg5 harg5 arg6 harg6 x0 x1 x2 x5 x6 n]
  try rfl

theorem r_90_at : run0.sl.r_90 c arg1 harg1 arg2 harg2 x1 x2 (ix2 0 n) = (gin x0 x1 x2 x5 x6 n).cov3 0 2 := by
  pointwise [run0.sl.r_90, k0_pay77, r_31_at c arg0 harg0 arg1 harg1 arg2 harg2 arg5 harg5 arg6 harg6 x0 x1 x2 x5 x6 n]
  try rfl

theorem r_91_at : run0.sl.r_91 c arg1 harg1 arg2 harg2 x1 x2 (ix2 0 n) = (gin x0 x1 x2 x5 x6 n).cov3 1 0 := by
  pointwise [run0.sl.r_91, k0_pay78, r_32_at c arg0 harg0 arg1 harg1 arg2 harg2 arg5 harg5 arg6 harg6 x0 x1 x2 x5 x6 n]
  try rfl

theorem r_92_at : run0.sl.r_92 c arg1 harg1 arg2 harg2 x1 x2 (ix2 0 n) = (gin x0 x1 x2 x5 x6 n).cov3 1 1 := by
  pointwise [run0.sl.r_92, k0_pay79, r_41_at c arg0 harg0 arg1 harg1 arg2 harg2 arg5 harg5 arg6 harg6 x0 x1 x2 x5 x6 n]
  try rfl

theorem r_93_at : run0.sl.r_93 c arg1 harg1 arg2 harg2 x1 x2 (ix2 0 n) = (gin x0 x1 x2 x5 x6 n).cov3 1 2 := by
  pointwise [run0.sl.r_93, k0_pay80, r_42_at c arg0 harg0 arg1 harg1 arg2 harg2 arg5 harg5 arg6 harg6 x0 x1 x2 x5 x6 n]
  try rfl

theorem r_94_at : run0.sl.r_94 c arg1 harg1 arg2 harg2 x1 x2 (ix2 0 n) = (gin x0 x1 x2 x5 x6 n).cov3 2 0 := by
  pointwise [run0.sl.r_94, k0_pay81, r_43_at c arg0 harg0 arg1 harg1 arg2 harg2 arg5 harg5 arg6 harg6 x0 x1 x2 x5 x6 n]
  try rfl

theorem r_95_at : run0.sl.r_95 c arg1 harg1 arg2 harg2 x1 x2 (ix2 0 n) = (gin x0 x1 x2 x5 x6 n).cov3 2 1 := by
  pointwise [run0.sl.r_95, k0_pay82, r_44_at c arg0 harg0 arg1 harg1 arg2 harg2 arg5 harg5 arg6 harg6 x0 x1 x2 x5 x6 n]
  try rfl

theorem r_96_at : run0.sl.r_96 c arg1 harg1 arg2 harg2 x1 x2 (ix2 0 n) = (gin x0 x1 x2 x5 x6 n).cov3 2 2 := by
  pointwise [run0.sl.r_96, k0_pay83, r_45_at c arg0 harg0 arg1 harg1 arg2 harg2 arg5 harg5 arg6 harg6 x0 x1 x2 x5 x6 n]
  try rfl

theorem r_97_at : run0.sl.r_97 c arg0 harg0 arg1 harg1 arg2 harg2 arg5 harg5 x0 x1 x2 x5 (ix2 0 n) = (gin x0 x1 x2 x5 x6 n).T 0 0 * (gin x0 x1 x2 x5 x6 n).cov3 0 0 + (gin x0 x1 x2 x5 x6 n).T 0 1 * (gin x0 x1 x2 x5 x6 n).cov3 1 0 := by
  pointwise [run0.sl.r_97, k0_pay69, k0_pay70, k0_pay75, k0_pay78, k0_pay84, r_29_at c arg0 harg0 arg1 harg1 arg2 harg2 arg5 harg5 arg6 harg6 x0 x1 x2 x5 x6 n, r_32_at c arg0 harg0 arg1 harg1 arg2 harg2 arg5 harg5 arg6 harg6 x0 x1 x2 x5 x6 n, r_48_at c arg0 harg0 arg1 harg1 arg2 harg2 arg5 harg5 arg6 harg6 x0 x1 x2 x5 x6 n, r_77_at c arg0 harg0 arg1 harg1 arg2 harg2 arg5 harg5 arg6 harg6 x0 x1 x2 x5 x6 n, r_80_at c arg0 harg0 arg1 harg1 arg2 harg2 arg5 harg5 arg6 harg6 x0 x1 x2 x5 x6 n, r_81_at c arg0 harg0 arg1 harg1 arg2 harg2 arg5 harg5 arg6 harg6 x0 x1 x2 x5 x6 n]
  try rfl

theorem r_98_at : run0.sl.r_98 c arg0 harg0 arg1 harg1 arg2 harg2 arg5 harg5 x0 x1 x2 x5 (ix2 0 n) = (gin x0 x1 x2 x5 x6 n).T 0 2 * (gin x0 x1 x2 x5 x6 n).cov3 2 0 := by
  pointwise [run0.sl.r_98, k0_pay71, k0_pay81, k0_pay85, r_36_at c arg0 harg0 arg1 harg1 arg2 harg2 arg5 harg5 arg6 harg6 x0 x1 x2 x5 x6 n, r_43_at c arg0 harg0 arg1 harg1 arg2 harg2 arg5 harg5 arg6 harg6 x0 x1 x2 x5 x6 n, r_49_at c arg0 harg0 arg1 harg1 arg2 harg2 arg5 harg5 arg6 harg6 x0 x1 x2 x5 x6 n, r_76_at c arg0 harg0 arg1 harg1 arg2 harg2 arg5 harg5 arg6 harg6 x0 x1 x2 x5 x6 n, r_77_at c arg0 harg0 arg1 harg1 arg2 harg2 arg5 harg5 arg6 harg6 x0 x1 x2 x5 x6 n]
  try rfl

theorem r_99_at : run0.sl.r_99 c arg0 harg0 arg1 harg1 arg2 harg2 arg5 harg5 x0 x1 x2 x5 (ix2 0 n) = (gin x0 x1 x2 x5 x6 n).U 0 0 := by
  pointwise [run0.sl.r_99, k0_pay86, r_97_at c arg0 harg0 arg1 harg1 arg2 harg2 arg5 harg5 arg6 harg6 x0 x1 x2 x5 x6 n, r_98_at c arg0 harg0 arg1 harg1 arg2 harg2 arg5 harg5 arg6 harg6 x0 x1 x2 x5 x6 n]
  try rfl

theorem r_100_at : run0.sl.r_100 c arg0 harg0 arg1 harg1 arg2 harg2 arg5 harg5 x0 x1 x2 x5 (ix2 0 n) = (gin x0 x1 x2 x5 x6 n).U 0 1 := by
  pointwise [run0.sl.r_100, k0_pay87, r_82_at c arg0 harg0 arg1 harg1 arg2 harg2 arg5 harg5 arg6 harg6 x0 x1 x2 x5 x6 n, r_83_at c arg0 harg0 arg1 harg1 arg2 harg2 arg5 harg5 arg6 harg6 x0 x1 x2 x5 x6 n, r_84_at c arg0 harg0 arg1 harg1 arg2 harg2 arg5 harg5 arg6 harg6 x0 x1 x2 x5 x6 n, r_89_at c arg0 harg0 arg1 harg1 arg2 harg2 arg5 harg5 arg6 harg6 x0 x1 x2 x5 x6 n, r_92_at c arg0 harg0 arg1 harg1 arg2 harg2 arg5 harg5 arg6 harg6 x0 x1 x2 x5 x6 n, r_95_at c arg0 harg0 arg1 harg1 arg2 harg2 arg5 harg5 arg6 harg6 x0 x1 x2 x5 x6 n]
  try rfl

theorem r_101_at : run0.sl.r_101 c arg0 harg0 arg1 harg1 arg2 harg2 arg5 harg5 x0 x1 x2 x5 (ix2 0 n) = (gin x0 x1 x2 x5 x6 n).U 0 2 := by
  pointwise [run0.sl.r_101, k0_pay88, r_82_at c arg0 harg0 arg1 harg1 arg2 harg2 arg5 harg5 arg6 harg6 x0 x1 x2 x5 x6 n, r_83_at c arg0 harg0 arg1 harg1 arg2 harg2 arg5 harg5 arg6 harg6 x0 x1 x2 x5 x6 n, r_84_at c arg0 harg0 arg1 harg1 arg2 harg2 arg5 harg5 arg6 harg6 x0 x1 x2 x5 x6 n, r_90_at c arg0 harg0 arg1 harg1 arg2 harg2 arg5 harg5 arg6 harg6 x0 x1 x2 x5 x6 n, r_93_at c arg0 harg0 arg1 harg1 arg2 harg2 arg5 harg5 arg6 harg6 x0 x1 x2 x5 x6 n, r_96_at c arg0 harg0 arg1 harg1 arg2 harg2 arg5 harg5 arg6 harg6 x0 x1 x2 x5 x6 n]
  try rfl

theorem r_102_at : run0.sl.r_102 c arg0 harg0 arg1 harg1 arg2 harg2 arg5 harg5 x0 x1 x2 x5 (ix2 0 n) = (gin x0 x1 x2 x5 x6 n).U 1 0 := by
  pointwise [run0.sl.r_102, k0_pay89, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_88_at c arg0 harg0 arg1 harg1 arg2 harg2 arg5 harg5 arg6 harg6 x0 x1 x2 x5 x6 n, r_91_at c arg0 harg0 arg1 harg1 arg2 harg2 arg5 harg5 arg6 harg6 x0 x1 x2 x5 x6 n, r_94_at c arg0 harg0 arg1 harg1 arg2 harg2 arg5 harg5 arg6 harg6 x0 x1 x2 x5 x6 n]
  try rfl

theorem r_103_at : run0.sl.r_103 c arg0 harg0 arg1 harg1 arg2 harg2 arg5 harg5 x0 x1 x2 x5 (ix2 0 n) = (gin x0 x1 x2 x5 x6 n).U 1 1 := by
  pointwise [run0.sl.r_103, k0_pay90, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_89_at c arg0 harg0 arg1 harg1 arg2 harg2 arg5 harg5 arg6 harg6 x0 x1 x2 x5 x6 n, r_92_at c arg0 harg0 arg1 harg1 arg2 harg2 arg5 harg5 arg6 harg6 x0 x1 x2 x5 x6 n, r_95_at c arg0 harg0 arg1 harg1 arg2 harg2 arg5 harg5 arg6 harg6 x0 x1 x2 x5 x6 n]
  try rfl

theorem r_104_at : run0.sl.r_104 c arg0 harg0 arg1 harg1 arg2 harg2 arg5 harg5 x0 x1 x2 x5 (ix2 0 n) = (gin x0 x1 x2 x5 x6 n).U 1 2 := by
  pointwise [run0.sl.r_104, k0_pay91, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_90_at c arg0 harg0 arg1 harg1 arg2 harg2 arg5 harg5 arg6 harg6 x0 x1 x2 x5 x6 n, r_93_at c arg0 harg0 arg1 harg1 arg2 harg2 arg5 harg5 arg6 harg6 x0 x1 x2 x5 x6 n, r_96_at c arg0 harg0 arg1 harg1 arg2 harg2 arg5 harg5 arg6 harg6 x0 x1 x2 x5 x6 n]
  try rfl

theorem r_105_at : run0.sl.r_105 c arg0 harg0 arg1 harg1 arg2 harg2 arg5 harg5 x0 x1 x2 x5 (ix2 0 n) = (gin x0 x1 x2 x5 x6 n).U 0 0 * (gin x0 x1 x2 x5 x6 n).T 0 0 + (gin x0 x1 x2 x5 x6 n).U 0 1 * (gin x0 x1 x2 x5 x6 n).T 0 1 := by
  pointwise [run0.sl.r_105, k0_pay86, k0_pay87, k0_pay92, r_82_at c arg0 harg0 arg1 harg1 arg2 harg2 arg5 harg5 arg6 harg6 x0 x1 x2 x5 x6 n, r_83_at c arg0 harg0 arg1 harg1 arg2 harg2 arg5 harg5 arg6 harg6 x0 x1 x2 x5 x6 n, r_84_at c arg0 harg0 arg1 harg1 arg2 harg2 arg5 harg5 arg6 harg6 x0 x1 x2 x5 x6 n, r_89_at c arg0 harg0 arg1 harg1 arg2 harg2 arg5 harg5 arg6 harg6 x0 x1 x2 x5 x6 n, r_92_at c arg0 harg0 arg1 harg1 arg2 harg2 arg5 harg5 arg6 harg6 x0 x1 x2 x5 x6 n, r_95_at c arg0 harg0 arg1 harg1 arg2 harg2 arg5 harg5 arg6 harg6 x0 x1 x2 x5 x6 n, r_97_at c arg0 harg0 arg1 harg1 arg2 harg2 arg5 harg5 arg6 harg6 x0 x1 x2 x5 x6 n, r_98_at c arg0 harg0 arg1 harg1 arg2 harg2 arg5 harg5 arg6 harg6 x0 x1 x2 x5 x6 n]
  try rfl

theorem r_106_at : run0.sl.r_106 c arg0 harg0 arg1 harg1 arg2 harg2 arg5 harg5 x0 x1 x2 x5 (ix2 0 n) = (gin x0 x1 x2 x5 x6 n).U 0 2 * (gin x0 x1 x2 x5 x6 n).T 0 2 := by
  pointwise [run0.sl.r_106, k0_pay88, k0_pay93, r_82_at c arg0 harg0 arg1 harg1 arg2 harg2 arg5 harg5 arg6 harg6 x0 x1 x2 x5 x6 n, r_83_at c arg0 harg0 arg1 harg1 arg2 harg2 arg5 harg5 arg6 harg6 x0 x1 x2 x5 x6 n, r_84_at c arg0 harg0 arg1 harg1 arg2 harg2 arg5 harg5 arg6 harg6 x0 x1 x2 x5 x6 n, r_90_at c arg0 harg0 arg1 harg1 arg2 harg2 arg5 harg5 arg6 harg6 x0 x1 x2 x5 x6 n, r_93_at c arg0 harg0 arg1 harg1 arg2 harg2 arg5 harg5 arg6 harg6 x0 x1 x2 x5 x6 n, r_96_at c arg0 harg0 arg1 harg1 arg2 harg2 arg5 harg5 arg6 harg6 x0 x1 x2 x5 x6 n]
  try rfl

theorem r_107_at : run0.sl.r_107 c arg0 harg0 arg1 harg1 arg2 harg2 arg5 harg5 x0 x1 x2 x5 (ix2 0 n) = (gin x0 x1 x2 x5 x6 n).a := by
  pointwise [run0.sl.r_107, k0_pay95, r_105_at c arg0 harg0 arg1 harg1 arg2 harg2 arg5 harg5 arg6 harg6 x0 x1 x2 x5 x6 n, r_106_at c arg0 harg0 arg1 harg1 arg2 harg2 arg5 harg5 arg6 harg6 x0 x1 x2 x5 x6 n]
  try rfl

theorem r_108_at : run0.sl.r_108 c arg0 harg0 arg1 harg1 arg2 harg2 arg5 harg5 x0 x1 x2 x5 (ix2 0 n) = (gin x0 x1 x2 x5 x6 n).c := by
  pointwise [run0.sl.r_108, k0_pay96, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_102_at c arg0 harg0 arg1 harg1 arg2 harg2 arg5 harg5 arg6 harg6 x0 x1 x2 x5 x6 n, r_103_at c arg0 harg0 arg1 harg1 arg2 harg2 arg5 harg5 arg6 harg6 x0 x1 x2 x5 x6 n, r_104_at c arg0 harg0 arg1 harg1 arg2 harg2 arg5 harg5 arg6 harg6 x0 x1 x2 x5 x6 n]
  try rfl

theorem r_109_at : run0.sl.r_109 c arg0 harg0 arg1 harg1 arg2 harg2 arg5 harg5 x0 x1 x2 x5 (ix2 0 n) = (gin x0 x1 x2 x5 x6 n).det := by
  pointwise [run0.sl.r_109, k0_pay94, k0_pay95, k0_pay96, k0_pay97, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_99_at c arg0 harg0 arg1 harg1 arg2 harg2 arg5 harg5 arg6 harg6 x0 x1 x2 x5 x6 n, r_100_at c arg0 harg0 arg1 harg1 arg2 harg2 arg5 harg5 arg6 harg6 x0 x1 x2 x5 x6 n, r_101_at c arg0 harg0 arg1 harg1 arg2 harg2 arg5 harg5 arg6 harg6 x0 x1 x2 x5 x6 n, r_102_at c arg0 harg0 arg1 harg1 arg2 harg2 arg5 harg5 arg6 harg6 x0 x1 x2 x5 x6 n, r_103_at c arg0 harg0 arg1 harg1 arg2 harg2 arg5 harg5 arg6 harg6 x0 x1 x2 x5 x6 n, r_104_at c arg0 harg0 arg1 harg1 arg2 harg2 arg5 harg5 arg6 harg6 x0 x1 x2 x5 x6 n, r_105_at c arg0 harg0 arg1 harg1 arg2 harg2 arg5 harg5 arg6 harg6 x0 x1 x2 x5 x6 n, r_106_at c arg0 harg0 arg1 harg1 arg2 harg2 arg5 harg5 arg6 harg6 x0 x1 x2 x5 x6 n]
  try rfl

theorem r_110_at : run0.sl.r_110 c arg0 harg0 arg1 harg1 arg2 harg2 arg5 harg5 x0 x1 x2 x5 (ix2 0 n) = (gin x0 x1 x2 x5 x6 n).valid := by
  pointwise [run0.sl.r_110, k0_pay94, k0_pay95, k0_pay96, k0_pay97, k0_pay98, r_69_at c arg0 harg0 arg1 harg1 arg2 harg2 arg5 harg5 arg6 harg6 x0 x1 x2 x5 x6 n, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_99_at c arg0 harg0 arg1 harg1 arg2 harg2 arg5 harg5 arg6 harg6 x0 x1 x2 x5 x6 n, r_100_at c arg0 harg0 arg1 harg1 arg2 harg2 arg5 harg5 arg6 harg6 x0 x1 x2 x5 x6 n, r_101_at c arg0 harg0 arg1 harg1 arg2 harg2 arg5 harg5 arg6 harg6 x0 x1 x2 x5 x6 n, r_102_at c arg0 harg0 arg1 harg1 arg2 harg2 arg5 harg5 arg6 harg6 x0 x1 x2 x5 x6 n, r_103_at c arg0 harg0 arg1 harg1 arg2 harg2 arg5 harg5 arg6 harg6 x0 x1 x2 x5 x6 n, r_104_at c arg0 harg0 arg1 harg1 arg2 harg2 arg5 harg5 arg6 harg6 x0 x1 x2 x5 x6 n, r_105_at c arg0 harg0 arg1 harg1 arg2 harg2 arg5 harg5 arg6 harg6 x0 x1 x2 x5 x6 n, r_106_at c arg0 harg0 arg1 harg1 arg2 harg2 arg5 harg5 arg6 harg6 x0 x1 x2 x5 x6 n]
  try rfl

theorem r_111_at : run0.sl.r_111 c arg0 harg0 arg1 harg1 arg2 harg2 arg5 harg5 x0 x1 x2 x5 (ix2 0 n) = (gin x0 x1 x2 x5 x6 n).cA := by
  pointwise [run0.sl.r_111, k0_pay94, k0_pay95, k0_pay96, k0_pay97, k0_pay98, k0_pay99, k0_pay100, r_69_at c arg0 harg0 arg1 harg1 arg2 harg2 arg5 harg5 arg6 harg6 x0 x1 x2 x5 x6 n, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_99_at c arg0 harg0 arg1 harg1 arg2 harg2 arg5 harg5 arg6 harg6 x0 x1 x2 x5 x6 n, r_100_at c arg0 harg0 arg1 harg1 arg2 harg2 arg5 harg5 arg6 harg6 x0 x1 x2 x5 x6 n, r_101_at c arg0 harg0 arg1 harg1 arg2 harg2 arg5 harg5 arg6 harg6 x0 x1 x2 x5 x6 n, r_102_at c arg0 harg0 arg1 harg1 arg2 harg2 arg5 harg5 arg6 harg6 x0 x1 x2 x5 x6 n, r_103_at c arg0 harg0 arg1 harg1 arg2 harg2 arg5 harg5 arg6 harg6 x0 x1 x2 x5 x6 n, r_104_at c arg0 harg0 arg1 harg1 arg2 harg2 arg5 harg5 arg6 harg6 x0 x1 x2 x5 x6 n, r_105_at c arg0 harg0 arg1 harg1 arg2 harg2 arg5 harg5 arg6 harg6 x0 x1 x2 x5 x6 n, r_106_at c arg0 harg0 arg1 harg1 arg2 harg2 arg5 harg5 arg6 harg6 x0 x1 x2 x5 x6 n]
  try rfl

theorem r_112_at : run0.sl.r_112 c arg0 harg0 arg1 harg1 arg2 harg2 arg5 harg5 x0 x1 x2 x5 (ix2 0 n) = (gin x0 x1 x2 x5 x6 n).cB := by
  pointwise [run0.sl.r_112, k0_pay94, k0_pay95, k0_pay96, k0_pay97, k0_pay98, k0_pay99, k0_pay101, r_69_at c arg0 harg0 arg1 harg1 arg2 harg2 arg5 harg5 arg6 harg6 x0 x1 x2 x5 x6 n, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_99_at c arg0 harg0 arg1 harg1 arg2 harg2 arg5 harg5 arg6 harg6 x0 x1 x2 x5 x6 n, r_100_at c arg0 harg0 arg1 harg1 arg2 harg2 arg5 harg5 arg6 harg6 x0 x1 x2 x5 x6 n, r_101_at c arg0 harg0 arg1 harg1 arg2 harg2 arg5 harg5 arg6 harg6 x0 x1 x2 x5 x6 n, r_102_at c arg0 harg0 arg1 harg1 arg2 harg2 arg5 harg5 arg6 harg6 x0 x1 x2 x5 x6 n, r_103_at c arg0 harg0 arg1 harg1 arg2 harg2 arg5 harg5 arg6 harg6 x0 x1 x2 x5 x6 n, r_104_at c arg0 harg0 arg1 harg1 arg2 harg2 arg5 harg5 arg6 harg6 x0 x1 x2 x5 x6 n, r_105_at c arg0 harg0 arg1 harg1 arg2 harg2 arg5 harg5 arg6 harg6 x0 x1 x2 x5 x6 n, r_106_at c arg0 harg0 arg1 harg1 arg2 harg2 arg5 harg5 arg6 harg6 x0 x1 x2 x5 x6 n, sub_eq_add_neg, zero_add]
  try rfl

theorem r_113_at : run0.sl.r_113 c arg0 harg0 arg1 harg1 arg2 harg2 arg5 harg5 x0 x1 x2 x5 (ix2 0 n) = (gin x0 x1 x2 x5 x6 n).cC := by
  pointwise [run0.sl.r_113, k0_pay94, k0_pay95, k0_pay96, k0_pay97, k0_pay98, k0_pay99, k0_pay102, r_69_at c arg0 harg0 arg1 harg1 arg2 harg2 arg5 harg5 arg6 harg6 x0 x1 x2 x5 x6 n, r_85_at c arg0 harg0 arg1 harg1 arg2 harg2 arg5 harg5 arg6 harg6 x0 x1 x2 x5 x6 n, r_86_at c arg0 harg0 arg1 harg1 arg2 harg2 arg5 harg5 arg6 harg6 x0 x1 x2 x5 x6 n, r_87_at c arg0 harg0 arg1 harg1 arg2 harg2 arg5 harg5 arg6 harg6 x0 x1 x2 x5 x6 n, r_99_at c arg0 harg0 arg1 harg1 arg2 harg2 arg5 harg5 arg6 harg6 x0 x1 x2 x5 x6 n, r_100_at c arg0 harg0 arg1 harg1 arg2 harg2 arg5 harg5 arg6 harg6 x0 x1 x2 x5 x6 n, r_101_at c arg0 harg0 arg1 harg1 arg2 harg2 arg5 harg5 arg6 harg6 x0 x1 x2 x5 x6 n, r_102_at c arg0 harg0 arg1 harg1 arg2 harg2 arg5 harg5 arg6 harg6 x0 x1 x2 x5 x6 n, r_103_at c arg0 harg0 arg1 harg1 arg2 harg2 arg5 harg5 arg6 harg6 x0 x1 x2 x5 x6 n, r_104_at c arg0 harg0 arg1 harg1 arg2 harg2 arg5 harg5 arg6 harg6 x0 x1 x2 x5 x6 n, r_105_at c arg0 harg0 arg1 harg1 arg2 harg2 arg5 harg5 arg6 harg6 x0 x1 x2 x5 x6 n, r_106_at c arg0 harg0 arg1 harg1 arg2 harg2 arg5 harg5 arg6 harg6 x0 x1 x2 x5 x6 n]
  try rfl

theorem r_114_at : run0.sl.r_114 c arg0 harg0 arg6 harg6 x0 x6 (ix2 0 n) = (gin x0 x1 x2 x5 x6 n).pix ((gin x0 x1 x2 x5 x6 n).h 0) := by
  pointwise [run0.sl.r_114, k0_pay103, r_73_at c arg0 harg0 arg1 harg1 arg2 harg2 arg5 harg5 arg6 harg6 x0 x1 x2 x5 x6 n]
  try rfl

theorem r_115_at : run0.sl.r_115 c arg0 harg0 arg6 harg6 x0 x6 (ix2 0 n) = ((gin x0 x1 x2 x5 x6 n).h 1 * (gin x0 x1 x2 x5 x6 n).pw + 1) * lit 0x42800000#32 := by
  pointwise [run0.sl.r_115, k0_pay104, r_74_at c arg0 harg0 arg1 harg1 arg2 harg2 arg5 harg5 arg6 harg6 x0 x1 x2 x5 x6 n]
  try rfl

theorem v479_at : run0.sl.v479 c arg0 harg0 arg6 harg6 x0 x6 (ix2 0 n) = (gin x0 x1 x2 x5 x6 n).pix ((gin x0 x1 x2 x5 x6 n).h 1) := by
  pointwise [run0.sl.v479, run0.sl.cst_119, run0.sl.cst_120, run0.sl.v476, run0.sl.v477, run0.sl.v478, r_115_at c arg0 harg0 arg1 harg1 arg2 harg2 arg5 harg5 arg6 harg6 x0 x1 x2 x5 x6 n]
  try rfl

theorem v495_at : run0.sl.v495 c arg0 harg0 arg1 harg1 arg2 harg2 arg5 harg5 x0 x1 x2 x5 (ix2 0 n) = (gin x0 x1 x2 x5 x6 n).radius := by
  pointwise [run0.sl.v495, run0.sl.cst_120, run0.sl.cst_122, run0.sl.cst_123, run0.sl.cst_124, run0.sl.v478, run0.sl.v480, run0.sl.v482, run0.sl.v483, run0.sl.v484, run0.sl.v485, run0.sl.v486, run0.sl.v487, run0.sl.v488, run0.sl.v489, run0.sl.v490, run0.sl.v491, run0.sl.v492, run0.sl.v493, run0.sl.v494, r_107_at c arg0 harg0 arg1 harg1 arg2 harg2 arg5 harg5 arg6 harg6 x0 x1 x2 x5 x6 n, r_108_at c arg0 harg0 arg1 harg1 arg2 harg2 arg5 harg5 arg6 harg6 x0 x1 x2 x5 x6 n, r_109_at c arg0 harg0 arg1 harg1 arg2 harg2 arg5 harg5 arg6 harg6 x0 x1 x2 x5 x6 n, r_110_at c arg0 harg0 arg1 harg1 arg2 harg2 arg5 harg5 arg6 harg6 x0 x1 x2 x5 x6 n]
  try rfl

end Proj

end Cert.KernelIdeal.Hand
-- ==== Proof.KOut.lean ====
/- What the projection call leaves in its three output arrays, in terms of the kernel's arguments. -/
module

public import proofs.«01_k».proof.Proof.KProj
public import proofs.«01_k».proof.Proof.IdealLaunch
public import Idealize.ShloMosaic.Lib.Pipeline.ValueKit
public import Idealize.ShloMosaic.Lib.StableHlo.RunRead

@[expose] public section

set_option maxRecDepth 16384

noncomputable section

namespace Cert.KernelIdeal.Hand

open Cert.KernelIdeal Cert.KernelIdeal.Gen Cert.Spec Idealize.ShloMosaic Idealize.SL.Sem Idealize.ShloMosaic.TcCoe
open Idealize.ShloMosaic.Pipeline (Dat Cfg Window cellOf)

theorem hz2 : (![0, 0] : Fin 2 → ℕ) = fun _ => 0 := by funext i; fin_cases i <;> rfl

section Body

variable (c : Dev nD) (arg0 : Memref sig .tc .vmem S3x4096 .f32) (harg0 : arg0.IsWhole) (arg1 : Memref sig .tc .vmem S3x4096 .f32) (harg1 : arg1.IsWhole) (arg2 : Memref sig .tc .vmem S4x4096 .f32) (harg2 : arg2.IsWhole) (arg3 : Memref sig .tc .vmem S1x4096 .f32) (harg3 : arg3.IsWhole) (arg4 : Memref sig .tc .vmem S3x4096 .f32) (harg4 : arg4.IsWhole) (arg5 : Memref sig .tc .smem S4x4 .f32) (harg5 : arg5.IsWhole) (arg6 : Memref sig .tc .smem S4x4 .f32) (harg6 : arg6.IsWhole) (arg7 : Memref sig .tc .vmem S8x4096 .f32) (harg7 : arg7.IsWhole) (arg8 : Memref sig .tc .vmem S4x4096 .f32) (harg8 : arg8.IsWhole) (arg9 : Memref sig .tc .vmem S1x4096 .i32) (harg9 : arg9.IsWhole)
    (x0 : Vec Ideal S3x4096 .f32) (x1 : Vec Ideal S3x4096 .f32) (x2 : Vec Ideal S4x4096 .f32) (x3 : Vec Ideal S1x4096 .f32) (x4 : Vec Ideal S3x4096 .f32) (x5 : Vec Ideal S4x4 .f32) (x6 : Vec Ideal S4x4 .f32) (n : Fin 4096)

theorem out0_7_eq : out0_7 c arg0 harg0 arg1 harg1 arg2 harg2 arg3 harg3 arg4 harg4 arg5 harg5 arg6 harg6 arg7 harg7 arg8 harg8 arg9 harg9 x0 x1 x2 x3 x4 x5 x6
    = run0.sl.v502 c arg0 harg0 arg1 harg1 arg2 harg2 arg3 harg3 arg5 harg5 arg6 harg6 x0 x1 x2 x3 x5 x6 := by
  unfold out0_7
  rw [View.read_writes_eq_canon _ _ _ (cover0_7 c arg0 harg0 arg1 harg1 arg2 harg2 arg3 harg3 arg4 harg4 arg5 harg5 arg6 harg6 arg7 harg7 arg8 harg8 arg9 harg9 x0 x1 x2 x3 x4 x5 x6)]
  unfold run0
  dsimp only
  rw [View.canon_unit_zero hz2]

theorem out0_8_eq : out0_8 c arg0 harg0 arg1 harg1 arg2 harg2 arg3 harg3 arg4 harg4 arg5 harg5 arg6 harg6 arg7 harg7 arg8 harg8 arg9 harg9 x0 x1 x2 x3 x4 x5 x6
    = run0.sl.v510 c arg0 harg0 arg4 harg4 arg5 harg5 x0 x4 x5 := by
  unfold out0_8
  rw [View.read_writes_eq_canon _ _ _ (cover0_8 c arg0 harg0 arg1 harg1 arg2 harg2 arg3 harg3 arg4 harg4 arg5 harg5 arg6 harg6 arg7 harg7 arg8 harg8 arg9 harg9 x0 x1 x2 x3 x4 x5 x6)]
  unfold run0
  dsimp only
  rw [View.canon_unit_zero hz2]

theorem out0_9_eq : out0_9 c arg0 harg0 arg1 harg1 arg2 harg2 arg3 harg3 arg4 harg4 arg5 harg5 arg6 harg6 arg7 harg7 arg8 harg8 arg9 harg9 x0 x1 x2 x3 x4 x5 x6
    = run0.sl.v495 c arg0 harg0 arg1 harg1 arg2 harg2 arg5 harg5 x0 x1 x2 x5 := by
  unfold out0_9
  rw [View.read_writes_eq_canon _ _ _ (cover0_9 c arg0 harg0 arg1 harg1 arg2 harg2 arg3 harg3 arg4 harg4 arg5 harg5 arg6 harg6 arg7 harg7 arg8 harg8 arg9 harg9 x0 x1 x2 x3 x4 x5 x6)]
  unfold run0
  dsimp only
  rw [View.canon_unit_zero hz2]

theorem v502_at (r : Fin 8) : run0.sl.v502 c arg0 harg0 arg1 harg1 arg2 harg2 arg3 harg3 arg5 harg5 arg6 harg6 x0 x1 x2 x3 x5 x6 (ix2 r n)
    = prm (gin x0 x1 x2 x5 x6 n) (x3 (ix2 0 n)) r := by
  fin_cases r <;> unfold run0.sl.v502 <;>
  pointwise [Proj.r_114_at c arg0 harg0 arg1 harg1 arg2 harg2 arg5 harg5 arg6 harg6 x0 x1 x2 x5 x6 n,
    Proj.v479_at c arg0 harg0 arg1 harg1 arg2 harg2 arg5 harg5 arg6 harg6 x0 x1 x2 x5 x6 n,
    Proj.r_111_at c arg0 harg0 arg1 harg1 arg2 harg2 arg5 harg5 arg6 harg6 x0 x1 x2 x5 x6 n,
    Proj.r_112_at c arg0 harg0 arg1 harg1 arg2 harg2 arg5 harg5 arg6 harg6 x0 x1 x2 x5 x6 n,
    Proj.r_113_at c arg0 harg0 arg1 harg1 arg2 harg2 arg5 harg5 arg6 harg6 x0 x1 x2 x5 x6 n,
    Proj.r_110_at c arg0 harg0 arg1 harg1 arg2 harg2 arg5 harg5 arg6 harg6 x0 x1 x2 x5 x6 n,
    Proj.r_69_at c arg0 harg0 arg1 harg1 arg2 harg2 arg5 harg5 arg6 harg6 x0 x1 x2 x5 x6 n,
    run0.sl.v501, run0.sl.v499, run0.sl.v497, run0.sl.v493, run0.sl.cst_124, View.readAt_eq_ld, harg3.read_unread] <;> try rfl

include arg1 harg1 arg2 harg2 arg6 harg6 in
theorem v510_at (r : Fin 4) : run0.sl.v510 c arg0 harg0 arg4 harg4 arg5 harg5 x0 x4 x5 (ix2 r n)
    = col (gin x0 x1 x2 x5 x6 n) (fun i => x4 (ix2 i n)) r := by
  fin_cases r <;> unfold run0.sl.v510 <;>
  pointwise [Proj.r_75_at c arg0 harg0 arg1 harg1 arg2 harg2 arg5 harg5 arg6 harg6 x0 x1 x2 x5 x6 n,
    run0.sl.v505, run0.sl.v507, run0.sl.v509, View.readAt_eq_ld, harg4.read_unread] <;> try rfl

end Body

theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD)

/-- Gaussian `n` of the arguments that `m` holds. -/
def gK (n : Fin 4096) : Gin :=
  ginA (m ((c : Thread nD τ).loc main_arg0)) (m ((c : Thread nD τ).loc main_arg4)) (m ((c : Thread nD τ).loc main_arg5))
    (m ((c : Thread nD τ).loc main_arg6)) (m ((c : Thread nD τ).loc main_arg7)) n

theorem W1_v0 (i : Fin 3) (n : Fin 4096) : W1 m c (Proc.devRef .tc main_v0) (ix2 i n) = m ((c : Thread nD τ).loc main_arg0) (ix2 n i) := by
  show StableHlo.after hostOps0 (W0 m c) (Proc.devRef .tc main_v0) (ix2 i n) = _
  after_reads_simp
  pointwise
theorem W1_v1 (i : Fin 3) (n : Fin 4096) : W1 m c (Proc.devRef .tc main_v1) (ix2 i n) = m ((c : Thread nD τ).loc main_arg4) (ix2 n i) := by
  show StableHlo.after hostOps0 (W0 m c) (Proc.devRef .tc main_v1) (ix2 i n) = _
  after_reads_simp
  pointwise
theorem W1_v2 (i : Fin 4) (n : Fin 4096) : W1 m c (Proc.devRef .tc main_v2) (ix2 i n) = m ((c : Thread nD τ).loc main_arg5) (ix2 n i) := by
  show StableHlo.after hostOps0 (W0 m c) (Proc.devRef .tc main_v2) (ix2 i n) = _
  after_reads_simp
  pointwise
theorem W1_v3 (i : Fin 1) (n : Fin 4096) : W1 m c (Proc.devRef .tc main_v3) (ix2 i n) = m ((c : Thread nD τ).loc main_arg2) (ix2 n i) := by
  show StableHlo.after hostOps0 (W0 m c) (Proc.devRef .tc main_v3) (ix2 i n) = _
  obtain rfl : i = 0 := Subsingleton.elim _ _
  after_reads_simp
  pointwise
  try rfl
theorem W1_v4 (i : Fin 3) (n : Fin 4096) : W1 m c (Proc.devRef .tc main_v4) (ix2 i n) = m ((c : Thread nD τ).loc main_arg3) (ix2 n i) := by
  show StableHlo.after hostOps0 (W0 m c) (Proc.devRef .tc main_v4) (ix2 i n) = _
  after_reads_simp
  pointwise
theorem W1_v6 (i : Fin 4) (n : Fin 4) : W1 m c (Proc.devRef .tc main_v6) (ix2 i n) = m ((c : Thread nD τ).loc main_arg6) (ix2 i n) := by
  show StableHlo.after hostOps0 (W0 m c) (Proc.devRef .tc main_v6) (ix2 i n) = _
  after_reads_simp
  pointwise
theorem W1_v8 (i : Fin 4) (n : Fin 4) : W1 m c (Proc.devRef .tc main_v8) (ix2 i n) = m ((c : Thread nD τ).loc main_arg7) (ix2 i n) := by
  show StableHlo.after hostOps0 (W0 m c) (Proc.devRef .tc main_v8) (ix2 i n) = _
  after_reads_simp
  pointwise

section Blocks

variable (t : Fin cfg0.N)

theorem blk0_0 (i : Fin 3) (n : Fin 4096) : iblk0 (U1 m) c 0 t (ix2 i n) = W1 m c (Proc.devRef .tc main_v0) (ix2 i n) := by
  blk_ext [iblk0, (idx0 t).1]
theorem blk0_1 (i : Fin 3) (n : Fin 4096) : iblk0 (U1 m) c 1 t (ix2 i n) = W1 m c (Proc.devRef .tc main_v1) (ix2 i n) := by
  blk_ext [iblk0, (idx0 t).2.1]
theorem blk0_2 (i : Fin 4) (n : Fin 4096) : iblk0 (U1 m) c 2 t (ix2 i n) = W1 m c (Proc.devRef .tc main_v2) (ix2 i n) := by
  blk_ext [iblk0, (idx0 t).2.2.1]
theorem blk0_3 (i : Fin 1) (n : Fin 4096) : iblk0 (U1 m) c 3 t (ix2 i n) = W1 m c (Proc.devRef .tc main_v3) (ix2 i n) := by
  blk_ext [iblk0, (idx0 t).2.2.2.1]
theorem blk0_4 (i : Fin 3) (n : Fin 4096) : iblk0 (U1 m) c 4 t (ix2 i n) = W1 m c (Proc.devRef .tc main_v4) (ix2 i n) := by
  blk_ext [iblk0, (idx0 t).2.2.2.2.1]
theorem blk0_5 (i : Fin 4) (n : Fin 4) : iblk0 (U1 m) c 5 t (ix2 i n) = W1 m c (Proc.devRef .tc main_v6) (ix2 i n) := by
  blk_ext [iblk0, (idx0 t).2.2.2.2.2.1]
theorem blk0_6 (i : Fin 4) (n : Fin 4) : iblk0 (U1 m) c 6 t (ix2 i n) = W1 m c (Proc.devRef .tc main_v8) (ix2 i n) := by
  blk_ext [iblk0, (idx0 t).2.2.2.2.2.2.1]

theorem gin_blocks (n : Fin 4096) : gin (iblk0 (U1 m) c 0 t) (iblk0 (U1 m) c 1 t) (iblk0 (U1 m) c 2 t) (iblk0 (U1 m) c 5 t)
    (iblk0 (U1 m) c 6 t) n = gK m c n := by
  unfold gin gK ginA
  congr 1
  · funext i; exact (blk0_0 m c t i n).trans (W1_v0 m c i n)
  · funext i; exact (blk0_1 m c t i n).trans (W1_v1 m c i n)
  · funext i; exact (blk0_2 m c t i n).trans (W1_v2 m c i n)
  · funext i j; exact (blk0_5 m c t i j).trans (W1_v6 m c i j)
  · funext i j; exact (blk0_6 m c t i j).trans (W1_v8 m c i j)

end Blocks

/-- The parameter rows the projection leaves. -/
def prmA : Vec Ideal S8x4096 .f32 := fun i =>
  prm (gK m c (i 1)) (m ((c : Thread nD τ).loc main_arg2) (ix2 (i 1) 0)) (i 0)

/-- The colour rows. -/
def colA : Vec Ideal S4x4096 .f32 := fun i =>
  col (gK m c (i 1)) (fun k => m ((c : Thread nD τ).loc main_arg3) (ix2 (i 1) k)) (i 0)

/-- The radii. -/
def radA : Vec Ideal S1x4096 .i32 := fun i => (gK m c (i 1)).radius

theorem last0 : ∀ t : Fin cfg0.N, t.val + 1 = cfg0.N := (by decide +kernel : ∀ t : Fin grid0.N, t.val + 1 = grid0.N)

theorem arr7 : (dat0 (U1 m) c).arrAt 7 cfg0.N = prmA m c := by
  refine (dat0 (U1 m) c).arrAt_eq_of_after_last 7 t0_0 (by decide +kernel) _ fun j => ?_
  blk_simp
  rw [after0_7]
  idx_vars j
  unfold outAt0_7
  rw [out0_7_eq, v502_at, gin_blocks, blk0_3, W1_v3]
  rfl

theorem arr8 : (dat0 (U1 m) c).arrAt 8 cfg0.N = colA m c := by
  refine (dat0 (U1 m) c).arrAt_eq_of_after_last 8 t0_0 (by decide +kernel) _ fun j => ?_
  blk_simp
  rw [after0_8]
  idx_vars j
  unfold outAt0_8
  rw [out0_8_eq, v510_at c _ _ _ (hs0_1 t0_0) _ (hs0_2 t0_0) _ _ _ _ _ (hs0_6 t0_0) _ (iblk0 (U1 m) c 1 t0_0) (iblk0 (U1 m) c 2 t0_0) _ _ (iblk0 (U1 m) c 6 t0_0), gin_blocks]
  have e : (fun i : Fin 3 => iblk0 (U1 m) c 4 t0_0 (ix2 i j1)) = fun k => m ((c : Thread nD τ).loc main_arg3) (ix2 j1 k) :=
    funext fun i => (blk0_4 m c t0_0 i j1).trans (W1_v4 m c i j1)
  rw [e]
  rfl

theorem arr9 : (dat0 (U1 m) c).arrAt 9 cfg0.N = radA m c := by
  refine (dat0 (U1 m) c).arrAt_eq_of_after_last 9 t0_0 (by decide +kernel) _ fun j => ?_
  blk_simp
  rw [after0_9]
  idx_vars j
  unfold outAt0_9
  obtain rfl : j0 = 0 := Subsingleton.elim _ _
  rw [out0_9_eq, Proj.v495_at c _ _ _ _ _ _ _ _ _ (hs0_6 t0_0) _ _ _ _ (iblk0 (U1 m) c 6 t0_0), gin_blocks]
  rfl

theorem W2_v9_0 : W2 m c (Proc.devRef .tc main_v9_0) = prmA m c := (W2_arr m c 7).trans (arr7 m c)
theorem W2_v9_1 : W2 m c (Proc.devRef .tc main_v9_1) = colA m c := (W2_arr m c 8).trans (arr8 m c)
theorem W2_v9_2 : W2 m c (Proc.devRef .tc main_v9_2) = radA m c := (W2_arr m c 9).trans (arr9 m c)

/-- The kernel's second result: the radii. -/
theorem W7_v10 : W7 m c (Proc.devRef .tc main_v10) = fun i => (gK m c (i 0)).radius := by
  rw [W7_of m c main_v10 (by decide), W6_of m c main_v10 (by decide +kernel), W5_of m c main_v10 (by decide), W4_of m c main_v10 (by decide)]
  funext i
  idx_vars i
  show StableHlo.after hostOps1 (W2 m c) (Proc.devRef .tc main_v10) _ = _
  after_reads_simp
  rw [W2_v9_2]
  pointwise
  rfl

end Cert.KernelIdeal.Hand
-- ==== Proof.Order.lean ====
/- The order by depth: every entry of the sorted positions is the number of a Gaussian, so taking by it reads the table
   at that Gaussian. -/
module

public import proofs.«01_k».proof.Proof.Spec
public import Idealize.ShloMosaic.Lib.SortFacts
public import Idealize.ShloMosaic.Lib.Routing.OpsSet
public import Idealize.ShloMosaic.Lib.StableHlo.Predicate
public import Idealize.ShloMosaic.Lib.Pipeline.ValueKit

@[expose] public section

noncomputable section

namespace Cert.Spec

open Idealize.ShloMosaic

/-- Entry `n` of a vector of positions, as a position. -/
def posOf (v : (⟨1, ![4096]⟩ : Shape).Idx → BitVec 32) (n : Fin 4096) : Fin 4096 :=
  ⟨(v (ix1 n)).toNat % 4096, Nat.mod_lt _ (by decide)⟩

theorem posOf_eq (v : (⟨1, ![4096]⟩ : Shape).Idx → BitVec 32) (n b : Fin 4096) (h : v (ix1 n) = BitVec.ofNat 32 b.val) :
    posOf v n = b := by
  have hlt := b.isLt
  have e : (v (ix1 n)).toNat = b.val := by
    rw [h, BitVec.toNat_ofNat]
    exact Nat.mod_eq_of_lt (by omega)
  apply Fin.ext
  unfold posOf
  simp only [e]
  exact Nat.mod_eq_of_lt hlt

/-- Every entry is a position. -/
def IsPos (v : (⟨1, ![4096]⟩ : Shape).Idx → BitVec 32) : Prop :=
  ∀ n : Fin 4096, v (ix1 n) = BitVec.ofNat 32 (posOf v n).val

theorem sort2_entry {s : Shape} {d : Nat} {α β : Type} (cmp : α × β → α × β → BitVec 1) (x : s.Idx → α) (y : s.Idx → β) (j : s.Idx) :
    ∃ i, (Host.sort2 s d cmp x y).2 j = y i := by
  rw [Host.sort2_eq_sortBy]
  dsimp only
  unfold Host.sortBy
  by_cases h : d < s.rank
  · rw [dif_pos h]; exact ⟨_, rfl⟩
  · rw [dif_neg h]; exact ⟨j, rfl⟩

theorem isPos_sort2 {α : Type} (cmp : α × BitVec 32 → α × BitVec 32 → BitVec 1) (key : (⟨1, ![4096]⟩ : Shape).Idx → α) :
    IsPos (Host.sort2 ⟨1, ![4096]⟩ 0 cmp key (iotaInDim ⟨1, ![4096]⟩ 32 0)).2 := by
  intro n
  obtain ⟨i, hi⟩ : ∃ i, (Host.sort2 ⟨1, ![4096]⟩ 0 cmp key (iotaInDim ⟨1, ![4096]⟩ 32 0)).2 (ix1 n)
      = iotaInDim ⟨1, ![4096]⟩ 32 0 i := sort2_entry cmp key _ _
  obtain ⟨b, hb⟩ : ∃ b : Fin 4096, (Host.sort2 ⟨1, ![4096]⟩ 0 cmp key (iotaInDim ⟨1, ![4096]⟩ 32 0)).2 (ix1 n) = BitVec.ofNat 32 b.val :=
    ⟨i 0, hi⟩
  rw [posOf_eq _ n b hb]
  exact hb

/-- A position isn't negative, so the wrap-around of negative positions leaves it, and it's in range. -/
theorem pos_slt (b : Fin 4096) : (BitVec.ofNat 32 b.val).slt 0#32 = false := by
  have := b.isLt
  simp [BitVec.slt, StableHlo.Predicate.toInt_ofNat_small b.val (by omega)]

theorem pos_sle (b : Fin 4096) : (BitVec.ofNat 32 b.val).sle 4095#32 = true := by
  have := b.isLt
  simp [BitVec.sle, StableHlo.Predicate.toInt_ofNat_small b.val (by omega)]
  omega

theorem pos_sge (b : Fin 4096) : (0#32).sle (BitVec.ofNat 32 b.val) = true := by
  have := b.isLt
  simp [BitVec.sle, StableHlo.Predicate.toInt_ofNat_small b.val (by omega)]

theorem wrap_pos (w : BitVec 32) (b : Fin 4096) (hw : w = BitVec.ofNat 32 b.val) :
    Scalar.select (IntOp.cmpi CmpIPredicate.slt w 0#32) (IntOp.addi w 4096#32) w = w := by
  have e : IntOp.cmpi CmpIPredicate.slt w 0#32 = 0#1 := by
    rw [hw]
    show BitVec.ofBool ((BitVec.ofNat 32 b.val).slt 0#32) = 0#1
    rw [pos_slt]
    rfl
  rw [e]
  rfl

theorem mask_pos (w : BitVec 32) (b : Fin 4096) (hw : w = BitVec.ofNat 32 b.val) :
    Finset.fold IntOp.andi (1#1) (fun _ : Fin 1 => IntOp.andi (IntOp.cmpi CmpIPredicate.sge w 0#32) (IntOp.cmpi CmpIPredicate.sle w 4095#32))
      Finset.univ = 1#1 := by
  have e : IntOp.cmpi CmpIPredicate.sge w 0#32 = 1#1 := by
    rw [hw]
    show BitVec.ofBool ((0#32).sle (BitVec.ofNat 32 b.val)) = 1#1
    rw [pos_sge]
    rfl
  have e' : IntOp.cmpi CmpIPredicate.sle w 4095#32 = 1#1 := by
    rw [hw]
    show BitVec.ofBool ((BitVec.ofNat 32 b.val).sle 4095#32) = 1#1
    rw [pos_sle]
    rfl
  rw [e, e', Finset.univ_unique, Finset.fold_singleton]
  rfl

end Cert.Spec
-- ==== Proof.Raster.lean ====
/- Front-to-back compositing at one pixel: opacities, transmittance, the Gaussians kept, and their weights. -/
module

public import proofs.«01_k».proof.Proof.Spec

@[expose] public section

noncomputable section

namespace Cert.Spec

open Idealize.ShloMosaic

/-- Pixel `p`'s column and row, as floats. -/
def pxf (p : Fin 4096) : EReal := FloatOps.sitofp (F := Ideal) .f32 (BitVec.ofNat 32 (p.val % 64))
def pyf (p : Fin 4096) : EReal := FloatOps.sitofp (F := Ideal) .f32 (BitVec.ofNat 32 (p.val / 64))

/-- The exponent of a Gaussian with conic `A B C` at the offset `x y`, in the reference's form. -/
def powR (A B C x y : EReal) : EReal := lit 0xBF000000#32 * (A * x * x + C * y * y) - B * x * y

/-- Its opacity before the cut-off. -/
def opR (o w : EReal) : EReal := min (lit 0x3F7D70A4#32) (o * Ideal.exp (min w 0))

/-- Its opacity: zero if the exponent is positive, the Gaussian isn't drawn or the opacity is below the least one. -/
def alR (o w : EReal) (v : BitVec 1) : EReal :=
  Scalar.select (IntOp.ori (IntOp.ori (BitVec.ofBool (decide (0 < w))) (~~~v)) (BitVec.ofBool (decide (opR o w < lit 0x3B808081#32)))) 0 (opR o w)

/-- The exponent in the kernel's form: the mixed coefficient `B2` is twice `B`. -/
def powK (A B2 C x y : EReal) : EReal := lit 0xBF000000#32 * ((A * x + B2 * y) * x + C * y * y)

def opK (o w : EReal) : EReal := min (lit 0x3F7D70A4#32) (o * Ideal.exp w)

def alK (o w : EReal) : EReal :=
  Scalar.select (IntOp.ori (BitVec.ofBool (decide (0 < w))) (BitVec.ofBool (decide (opK o w < lit 0x3B808081#32)))) 0 (opK o w)

/-- The reference's opacity of a Gaussian at a pixel. -/
def galR (g : Gin) (o : EReal) (p : Fin 4096) : EReal :=
  alR o (powR g.cA g.cB g.cC (g.pix (g.h 0) - pxf p) (g.pix (g.h 1) - pyf p)) g.valid

/-- The kernel's, from the numbers it keeps of the Gaussian. -/
def galK (g : Gin) (o : EReal) (p : Fin 4096) : EReal :=
  alK (prm g o 5) (powK (prm g o 2) (prm g o 3) (prm g o 4) (prm g o 0 - pxf p) (prm g o 1 - pyf p))

/-- The least transmittance. -/
def eps : ℝ := 13743895 / 137438953472

variable (a : ℕ → ℝ)

/-- Transmittance before Gaussian `n`, by the opacities `a`. -/
def Tr (n : ℕ) : ℝ := ∏ i ∈ Finset.range n, (1 - a i)

/-- Whether Gaussian `n` is kept, as a number. -/
def kp (n : ℕ) : ℝ := if eps ≤ Tr a (n + 1) then 1 else 0

/-- Transmittance by the Gaussians kept. -/
def cpr (n : ℕ) : ℝ := ∏ i ∈ Finset.range n, (1 - a i * kp a i)

/-- The weight of Gaussian `n`. -/
def wr (n : ℕ) : ℝ := a n * kp a n * cpr a n

theorem Tr_zero : Tr a 0 = 1 := by simp [Tr]
theorem cpr_zero : cpr a 0 = 1 := by simp [cpr]
theorem Tr_succ (n : ℕ) : Tr a (n + 1) = Tr a n * (1 - a n) := Finset.prod_range_succ _ _
theorem cpr_succ (n : ℕ) : cpr a (n + 1) = cpr a n * (1 - a n * kp a n) := Finset.prod_range_succ _ _

end Cert.Spec
-- ==== Proof.PixTable.lean ====
/- The kernel's table of pixel coordinates: column 0 holds each pixel's column, column 1 its row. -/
module

public import proofs.«01_k».proof.Proof.Raster
public import proofs.«01_k».proof.KernelIdeal

@[expose] public section

set_option maxRecDepth 16384

noncomputable section

namespace Cert.KernelIdeal.Hand

open Cert.KernelIdeal Cert.Spec Idealize.ShloMosaic Idealize.SL.Sem

/-- The float words of the whole numbers below 64. -/
def wholeWord : Fin 64 → BitVec 32 :=
  ![0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32,
    0x41800000#32, 0x41880000#32, 0x41900000#32, 0x41980000#32, 0x41A00000#32, 0x41A80000#32, 0x41B00000#32, 0x41B80000#32,
    0x41C00000#32, 0x41C80000#32, 0x41D00000#32, 0x41D80000#32, 0x41E00000#32, 0x41E80000#32, 0x41F00000#32, 0x41F80000#32,
    0x42000000#32, 0x42040000#32, 0x42080000#32, 0x420C0000#32, 0x42100000#32, 0x42140000#32, 0x42180000#32, 0x421C0000#32,
    0x42200000#32, 0x42240000#32, 0x42280000#32, 0x422C0000#32, 0x42300000#32, 0x42340000#32, 0x42380000#32, 0x423C0000#32,
    0x42400000#32, 0x42440000#32, 0x42480000#32, 0x424C0000#32, 0x42500000#32, 0x42540000#32, 0x42580000#32, 0x425C0000#32,
    0x42600000#32, 0x42640000#32, 0x42680000#32, 0x426C0000#32, 0x42700000#32, 0x42740000#32, 0x42780000#32, 0x427C0000#32]

theorem wholeWord_val (k : Fin 64) : lit (wholeWord k) = ((k.val : ℝ) : EReal) := by
  fin_cases k <;> simp [wholeWord, Ideal.ofBits, Ideal.ieee, -EReal.coe_mul, -EReal.coe_neg] <;> norm_num

theorem num_val (k : Fin 64) : FloatOps.sitofp (F := Ideal) .f32 (BitVec.ofNat 32 k.val) = ((k.val : ℝ) : EReal) := by
  have h : ∀ k : Fin 64, (BitVec.ofNat 32 k.val).toInt = (k.val : ℤ) := by decide +kernel
  show (((BitVec.ofNat 32 k.val).toInt : ℝ) : EReal) = _
  rw [h k]
  norm_cast

theorem table_words : ∀ y x : Fin 64, lit0t (2 * (64 * y.val + x.val)) = wholeWord x ∧ lit0t (2 * (64 * y.val + x.val) + 1) = wholeWord y := by
  decide +kernel

theorem table_col (p : Fin 4096) : lit (lit0t (2 * p.val)) = pxf p := by
  have h := (table_words ⟨p.val / 64, by omega⟩ ⟨p.val % 64, by omega⟩).1
  dsimp only at h
  rw [Nat.div_add_mod] at h
  rw [h, wholeWord_val]
  exact (num_val ⟨p.val % 64, by omega⟩).symm

theorem table_row (p : Fin 4096) : lit (lit0t (2 * p.val + 1)) = pyf p := by
  have h := (table_words ⟨p.val / 64, by omega⟩ ⟨p.val % 64, by omega⟩).2
  dsimp only at h
  rw [Nat.div_add_mod] at h
  rw [h, wholeWord_val]
  exact (num_val ⟨p.val / 64, by omega⟩).symm

end Cert.KernelIdeal.Hand
-- ==== Proof.KOrder.lean ====
/- The kernel's parameters and colours in the order by depth, as the rasteriser's call finds them, with the pixel table
and the background. -/
module

public import proofs.«01_k».proof.Proof.KOut
public import proofs.«01_k».proof.Proof.Order
public import proofs.«01_k».proof.Proof.PixTable
public import Idealize.ShloMosaic.Lib.StableHlo.ReadAt

@[expose] public section

set_option maxRecDepth 16384

noncomputable section

namespace Cert.Spec

open Idealize.ShloMosaic

/-- Taking columns by a list of positions: column `n` of the result is the operand's column at position `n`. -/
theorem gather_cols {α : Type} {R N n : Nat} (d : GatherDims ⟨2, ![R, N]⟩ ⟨2, ![n, 1]⟩ ⟨2, ![R, n]⟩) (hoff : d.offsetDims = [0])
    (hcoll : d.collapsedSliceDims = [1]) (hob : d.operandBatchingDims = []) (hsim : d.startIndexMap = [1]) (hivd : d.indexVectorDim = 1)
    (x : (⟨2, ![R, N]⟩ : Shape).Idx → α) (idx : IVec ⟨2, ![n, 1]⟩ 32) (r : Fin R) (k : Fin n) (b : Fin N)
    (hb : idx (ix2 k (0 : Fin 1)) = BitVec.ofNat 32 b.val) (hN : N < 2 ^ 31) :
    Host.gather d x idx (ix2 r k) = x (ix2 r b) := by
  have nob : ∀ i, i ∉ d.operandBatchingDims := by simp [hob]
  have off0 : ∀ i ∈ d.offsetDims, i = (0 : Fin 2) := by simp [hoff]
  have bat1 : ∀ i ∈ d.batchDims, i = (1 : Fin 2) := by
    intro i hi
    have hn : i ∉ d.offsetDims := of_decide_eq_true (List.mem_filter.1 hi).2
    rw [hoff] at hn
    have hv : i.val ≠ 0 := fun h => hn (List.mem_singleton.2 (Fin.ext h))
    have hl : i.val < 2 := i.isLt
    exact Fin.ext (show i.val = 1 by omega)
  have at0 : ∀ X : Fin 2, X = 0 → (ix2 r k X).val = r.val := by rintro _ rfl; rfl
  have at1 : ∀ X : Fin 2, X = 1 → (ix2 r k X).val = k.val := by rintro _ rfl; rfl
  have hrow : d.operandIdx (ix2 r k) idx 0 = ix2 r b 0 := by
    apply Fin.ext
    have kept : (0 : Fin 2) ∈ d.sKept := (d.mem_sKept 0).2 ⟨by simp [hcoll], nob 0⟩
    have nos : (0 : Fin 2) ∉ d.startIndexMap := by simp [hsim]
    show d.start (ix2 r k) idx 0 + d.batchCoord (ix2 r k) 0 + d.offCoord (ix2 r k) 0 = r.val
    rw [d.batchCoord_eq_zero _ _ (nob 0)]
    unfold GatherDims.start GatherDims.offCoord
    rw [dif_neg nos, dif_pos kept]
    simpa using at0 _ (off0 _ (List.getElem_mem _))
  have hcol : d.operandIdx (ix2 r k) idx 1 = ix2 r b 1 := by
    apply Fin.ext
    have nokept : (1 : Fin 2) ∉ d.sKept := fun h => ((d.mem_sKept 1).1 h).1 (by simp [hcoll])
    have inmap : (1 : Fin 2) ∈ d.startIndexMap := by simp [hsim]
    have one : d.sliceSizes 1 = 1 := d.slice_collapsed 1 (by simp [hcoll])
    have pos : d.siIdx (ix2 r k) ⟨d.startIndexMap.idxOf 1, List.idxOf_lt_length_iff.2 inmap⟩ = ix2 k (0 : Fin 1) := by
      funext i
      apply Fin.ext
      match i with
      | ⟨0, _⟩ =>
        unfold GatherDims.siIdx
        rw [dif_neg (by rw [hivd]; exact Nat.zero_ne_one)]
        unfold GatherDims.siCoord
        simp only [Fin.val_cast]
        exact at1 _ (bat1 _ (List.getElem_mem _))
      | ⟨1, _⟩ =>
        unfold GatherDims.siIdx
        rw [dif_pos (by rw [hivd])]
        show List.idxOf (1 : Fin 2) d.startIndexMap = 0
        simp [hsim]
    have := b.isLt
    show d.start (ix2 r k) idx 1 + d.batchCoord (ix2 r k) 1 + d.offCoord (ix2 r k) 1 = b.val
    rw [d.batchCoord_eq_zero _ _ (nob 1), d.offCoord_eq_zero _ _ nokept]
    unfold GatherDims.start
    rw [dif_pos inmap, pos, hb, one, StableHlo.Predicate.toInt_ofNat_small _ (by omega)]
    show min ((b.val : Int)).toNat (N - 1) + 0 + 0 = b.val
    omega
  unfold Host.gather
  refine congrArg x (funext fun i => ?_)
  match i with
  | ⟨0, _⟩ => exact hrow
  | ⟨1, _⟩ => exact hcol

end Cert.Spec

namespace Cert.KernelIdeal.Hand

open Cert.KernelIdeal Cert.KernelIdeal.Gen Cert.Spec Idealize.ShloMosaic Idealize.SL.Sem Idealize.ShloMosaic.TcCoe

section Stretches

variable (V : Valuation τ sig (Elt Ideal))

theorem p_v13 : StableHlo.after hostOps1_1 V (Proc.devRef .tc main_v13)
    = (Host.sort2 S4096 0 (comparator_f32_i32_d0 (F := Ideal)) (V (Proc.devRef .tc main_v12)) (iotaInDim S4096 32 0)).2 := by
  after_reads_simp
  simp -implicitDefEqProofs only [StableHlo.TRef.toBuf, StableHlo.TRef.ofBuf, cast_cast, cast_eq]

theorem p_v20 (v : IVec S4096 32) (hp : IsPos v) (h : V (Proc.devRef .tc main_v13) = v) (r : Fin 8) (n : Fin 4096) :
    StableHlo.after hostOps1_2 V (Proc.devRef .tc main_v20) (ix2 r n) = V (Proc.devRef .tc main_v9_0) (ix2 r (posOf v n)) := by
  after_reads_at
  refine gather_cols _ rfl rfl rfl rfl rfl _ _ r n (posOf v n) ?_ (by decide)
  pointwise
  rw [h, wrap_pos _ _ (hp n)]
  exact hp n

theorem p_v28 (v : IVec S4096 32) (hp : IsPos v) (h : V (Proc.devRef .tc main_v13) = v) (r : Fin 4) (n : Fin 4096) :
    StableHlo.after hostOps1_2 V (Proc.devRef .tc main_v28) (ix2 n r) = V (Proc.devRef .tc main_v9_1) (ix2 r (posOf v n)) := by
  after_reads_at
  refine gather_cols _ rfl rfl rfl rfl rfl _ _ r n (posOf v n) ?_ (by decide)
  pointwise
  rw [h, wrap_pos _ _ (hp n)]
  exact hp n

theorem p_v31 (k : Fin 3) : StableHlo.after hostOps1_2 V (Proc.devRef .tc main_v31) (ix2 0 (Fin.castSucc k)) = V (Proc.devRef .tc main_arg9) (ix1 k) := by
  after_reads_at
  fin_cases k <;> rfl

theorem p_v31_3 : StableHlo.after hostOps1_2 V (Proc.devRef .tc main_v31) (ix2 0 3) = (0 : EReal) := by
  after_reads_simp
  pointwise
  after_reads_simp
  pointwise

theorem p_cst (i : S4096x2.Idx) : StableHlo.after hostOps0 V (Proc.devRef .tc main_cst) i = lit (lit0 (S4096x2.rowMajor i)) := by
  after_reads_simp
  rfl

theorem p_v35 (k : Fin 3) (y x : Fin 64) : StableHlo.after hostOps2 V (Proc.devRef .tc main_v35) (ix3 k y x)
    = V (Proc.devRef .tc main_v32) (ix2 (⟨y.val * 64 + x.val, by omega⟩ : Fin 4096) (⟨k.val, by omega⟩ : Fin 4)) := by
  after_reads_at

theorem p_v38 (y x : Fin 64) : StableHlo.after hostOps2 V (Proc.devRef .tc main_v38) (ix3 0 y x)
    = V (Proc.devRef .tc main_v32) (ix2 (⟨y.val * 64 + x.val, by omega⟩ : Fin 4096) (3 : Fin 4)) := by
  after_reads_simp
  pointwise

end Stretches

section Chain

variable (m : (ℓ : Loc nD τ sig) → Buf (Elt Ideal) ℓ) (c : Dev nD)

/-- A Gaussian's opacity and colour. -/
def oK (n : Fin 4096) : EReal := (m ((c : Thread nD τ).loc main_arg2) : S4096x1.Idx → EReal) (ix2 n 0)
def kK (n : Fin 4096) (k : Fin 3) : EReal := (m ((c : Thread nD τ).loc main_arg3) : S4096x3.Idx → EReal) (ix2 n k)

/-- The Gaussians' numbers in the order of their depths. -/
def ordK : Vec Ideal S4096 .i32 :=
  (Host.sort2 S4096 0 (comparator_f32_i32_d0 (F := Ideal)) (fun i => (gK m c (i 0)).t 2) (iotaInDim S4096 32 0)).2

theorem isPos_ordK : IsPos (ordK m c) := isPos_sort2 _ _

/-- The Gaussian the kernel takes at place `n`. -/
def sigK (n : Fin 4096) : Fin 4096 := posOf (ordK m c) n

theorem W3_v12 : W3 m c (Proc.devRef .tc main_v12) = fun i => (gK m c (i 0)).t 2 := by
  funext i
  idx_vars i
  show StableHlo.after hostOps1 (W2 m c) (Proc.devRef .tc main_v12) _ = _
  after_reads_simp
  rw [W2_v9_0]
  pointwise
  rfl

theorem W4_v13 : W4 m c (Proc.devRef .tc main_v13) = ordK m c := by
  refine (p_v13 (W3 m c)).trans ?_
  rw [W3_v12]
  rfl

theorem W5_v20 (r : Fin 8) (n : Fin 4096) : W5 m c (Proc.devRef .tc main_v20) (ix2 r n) = prm (gK m c (sigK m c n)) (oK m c (sigK m c n)) r := by
  refine (p_v20 (W4 m c) (ordK m c) (isPos_ordK m c) (W4_v13 m c) r n).trans ?_
  rw [W4_of m c main_v9_0 (by decide), W3_of m c main_v9_0 (by decide), W2_v9_0]
  rfl

theorem W5_v28 (r : Fin 4) (n : Fin 4096) : W5 m c (Proc.devRef .tc main_v28) (ix2 n r) = col (gK m c (sigK m c n)) (kK m c (sigK m c n)) r := by
  refine (p_v28 (W4 m c) (ordK m c) (isPos_ordK m c) (W4_v13 m c) r n).trans ?_
  rw [W4_of m c main_v9_1 (by decide), W3_of m c main_v9_1 (by decide), W2_v9_1]
  rfl

/-- The background behind the four channels; behind the depth it's zero. -/
def bgK (r : Fin 4) : EReal :=
  match r with
  | 0 => (m ((c : Thread nD τ).loc main_arg9) : S3.Idx → EReal) (ix1 0)
  | 1 => (m ((c : Thread nD τ).loc main_arg9) : S3.Idx → EReal) (ix1 1)
  | 2 => (m ((c : Thread nD τ).loc main_arg9) : S3.Idx → EReal) (ix1 2)
  | 3 => 0

theorem W4_arg9 : W4 m c (Proc.devRef .tc main_arg9) = m ((c : Thread nD τ).loc main_arg9) := by
  rw [W4_of m c main_arg9 (by decide), W3_of m c main_arg9 (by decide), W2_of m c main_arg9 (by decide +kernel), W1_of m c main_arg9 (by decide)]

theorem W5_v31 (r : Fin 4) : W5 m c (Proc.devRef .tc main_v31) (ix2 0 r) = bgK m c r := by
  have h (k : Fin 3) : W5 m c (Proc.devRef .tc main_v31) (ix2 0 (Fin.castSucc k)) = m ((c : Thread nD τ).loc main_arg9) (ix1 k) := by
    refine (p_v31 (W4 m c) k).trans ?_
    rw [W4_arg9]
  fin_cases r
  · exact h 0
  · exact h 1
  · exact h 2
  · exact p_v31_3 (W4 m c)

theorem W5_cst (i : S4096x2.Idx) : W5 m c (Proc.devRef .tc main_cst) i = lit (lit0 (S4096x2.rowMajor i)) := by
  rw [W5_of m c main_cst (by decide), W4_of m c main_cst (by decide), W3_of m c main_cst (by decide), W2_of m c main_cst (by decide +kernel)]
  exact p_cst (W0 m c) i

theorem W5_cst_0 (p : Fin 4096) : W5 m c (Proc.devRef .tc main_cst) (ix2 p 0) = pxf p := by
  rw [W5_cst, ← table_col]
  refine congrArg (fun k => lit (lit0t k)) (show (S4096x2.rowMajor (ix2 p 0)).val = _ from ?_)
  rw [Shape.rowMajor_val_two]
  pointwise
  omega
theorem W5_cst_1 (p : Fin 4096) : W5 m c (Proc.devRef .tc main_cst) (ix2 p 1) = pyf p := by
  rw [W5_cst, ← table_row]
  refine congrArg (fun k => lit (lit0t k)) (show (S4096x2.rowMajor (ix2 p 1)).val = _ from ?_)
  rw [Shape.rowMajor_val_two]
  pointwise
  omega

end Chain

end Cert.KernelIdeal.Hand
-- ==== Proof.Lits.lean ====
/- The values of the float words the rasteriser uses. -/
module

public import proofs.«01_k».proof.Proof.Raster

@[expose] public section

noncomputable section

namespace Cert.Spec

open Idealize.ShloMosaic

theorem lit_eps : lit 0x38D1B717#32 = ((eps : ℝ) : EReal) := by
  unfold eps
  simp [Ideal.ofBits, Ideal.ieee, -EReal.coe_mul, -EReal.coe_neg]
  norm_num

theorem lit_99 : lit 0x3F7D70A4#32 = ((16609444 / 16777216 : ℝ) : EReal) := by
  simp [Ideal.ofBits, Ideal.ieee, -EReal.coe_mul, -EReal.coe_neg]
  norm_num

theorem lit_255 : lit 0x3B808081#32 = ((8421505 / 2147483648 : ℝ) : EReal) := by
  simp [Ideal.ofBits, Ideal.ieee, -EReal.coe_mul, -EReal.coe_neg]
  norm_num

theorem lit_mhalf : lit 0xBF000000#32 = ((-(1 / 2) : ℝ) : EReal) := by
  simp [Ideal.ofBits, Ideal.ieee, -EReal.coe_mul, -EReal.coe_neg]
  norm_num

end Cert.Spec
-- ==== Proof.Block.lean ====
/- One pixel and one block of 512 Gaussians, in real numbers: what the
logarithms of the transmittance say about the weights. -/
module

public import proofs.«01_k».proof.Proof.Raster
public import Mathlib.Analysis.SpecialFunctions.Log.Basic

@[expose] public section

noncomputable section

namespace Cert.Spec

/-- The fall of the logarithm of the transmittance from the block's start
through its Gaussian `g`. -/
def lfall (a : ℕ → ℝ) (s g : ℕ) : ℝ := Real.log (Tr a (s + g + 1)) - Real.log (Tr a s)

/-- The same of the transmittance that counts only the kept Gaussians. -/
def kfall (a : ℕ → ℝ) (s g : ℕ) : ℝ := Real.log (cpr a (s + g + 1)) - Real.log (cpr a s)

/-- What the carried logarithm `l` says before Gaussian `s`: it is the
transmittance's, unless the pixel is already finished. -/
def LogInv (a : ℕ → ℝ) (s : ℕ) (l : ℝ) : Prop :=
  l = Real.log (Tr a s) ∨ (l < Real.log eps ∧ Tr a s < eps)

theorem eps_pos : 0 < eps := by unfold eps; norm_num

variable {a : ℕ → ℝ} (h0 : ∀ n, 0 ≤ a n) (h1 : ∀ n, a n < 1)

include h1 in
theorem Tr_pos (n : ℕ) : 0 < Tr a n := by
  induction n with
  | zero => rw [Tr_zero]; exact one_pos
  | succ n ih => rw [Tr_succ]; exact mul_pos ih (by linarith [h1 n])

theorem kp_cases (n : ℕ) : kp a n = 0 ∨ kp a n = 1 := by
  unfold kp; split <;> simp

include h0 h1 in
theorem kept_factor (n : ℕ) : 0 < 1 - a n * kp a n ∧ 1 - a n ≤ 1 - a n * kp a n ∧ 1 - a n * kp a n ≤ 1 := by
  have := h0 n; have := h1 n
  rcases kp_cases (a := a) n with h | h <;> rw [h] <;> refine ⟨?_, ?_, ?_⟩ <;> linarith

include h0 h1 in
theorem cpr_pos (n : ℕ) : 0 < cpr a n := by
  induction n with
  | zero => rw [cpr_zero]; exact one_pos
  | succ n ih => rw [cpr_succ]; exact mul_pos ih (kept_factor h0 h1 n).1

include h0 h1 in
theorem Tr_anti {m n : ℕ} (h : m ≤ n) : Tr a n ≤ Tr a m := by
  induction n, h using Nat.le_induction with
  | base => exact le_rfl
  | succ n _ ih =>
      rw [Tr_succ]
      have := Tr_pos h1 n
      nlinarith [h0 n]

include h0 h1 in
theorem lfall_step (s g : ℕ) : lfall a s (g + 1) = lfall a s g + Real.log (1 - a (s + (g + 1))) := by
  unfold lfall
  rw [show s + (g + 1) + 1 = (s + g + 1) + 1 by omega, Tr_succ,
    Real.log_mul (Tr_pos h1 _).ne' (by have := h1 (s + g + 1); linarith), ← add_assoc]
  ring

include h1 in
theorem lfall_zero (s : ℕ) : lfall a s 0 = Real.log (1 - a s) := by
  unfold lfall
  rw [Nat.add_zero, Tr_succ, Real.log_mul (Tr_pos h1 _).ne' (by have := h1 s; linarith)]
  ring

include h0 h1 in
theorem kfall_step (s g : ℕ) :
    kfall a s (g + 1) = kfall a s g + Real.log (1 - a (s + (g + 1)) * kp a (s + (g + 1))) := by
  unfold kfall
  rw [show s + (g + 1) + 1 = (s + g + 1) + 1 by omega, cpr_succ,
    Real.log_mul (cpr_pos h0 h1 _).ne' (kept_factor h0 h1 _).1.ne', ← add_assoc]
  ring

include h0 h1 in
theorem kfall_zero (s : ℕ) : kfall a s 0 = Real.log (1 - a s * kp a s) := by
  unfold kfall
  rw [Nat.add_zero, cpr_succ, Real.log_mul (cpr_pos h0 h1 _).ne' (kept_factor h0 h1 _).1.ne']
  ring

include h0 h1 in
theorem lfall_eq_sum (s g : ℕ) :
    lfall a s g = ∑ i ∈ Finset.range (g + 1), Real.log (1 - a (s + i)) := by
  induction g with
  | zero => rw [lfall_zero h1]; simp
  | succ g ih => rw [lfall_step h0 h1, ih, Finset.sum_range_succ _ (g + 1)]

include h0 h1 in
theorem kfall_eq_sum (s g : ℕ) :
    kfall a s g = ∑ i ∈ Finset.range (g + 1), Real.log (1 - a (s + i) * kp a (s + i)) := by
  induction g with
  | zero => rw [kfall_zero h0 h1]; simp
  | succ g ih => rw [kfall_step h0 h1, ih, Finset.sum_range_succ _ (g + 1)]

/-- The prefix sum the kernel takes, by a product with a triangle of ones. -/
theorem sum_triangle {N : ℕ} (f : ℕ → ℝ) (g : ℕ) (hg : g < N) :
    ∑ x : Fin N, f x.val * (if x.val ≤ g then 1 else 0) = ∑ i ∈ Finset.range (g + 1), f i := by
  rw [Fin.sum_univ_eq_sum_range (fun i => f i * (if i ≤ g then (1 : ℝ) else 0)) N]
  simp only [mul_ite, mul_one, mul_zero]
  rw [← Finset.sum_filter]
  refine Finset.sum_congr (Finset.ext fun i => ?_) fun _ _ => rfl
  simp only [Finset.mem_filter, Finset.mem_range]
  omega

include h0 h1 in
theorem lfall_nonpos (s g : ℕ) : lfall a s g ≤ 0 := by
  unfold lfall
  have := Real.log_le_log (Tr_pos h1 _) (Tr_anti h0 h1 (show s ≤ s + g + 1 by omega))
  linarith

include h0 h1 in
theorem kfall_anti (s : ℕ) {x g : ℕ} (h : x ≤ g) : kfall a s g ≤ kfall a s x := by
  induction g, h using Nat.le_induction with
  | base => exact le_rfl
  | succ n _ ih =>
      rw [kfall_step h0 h1]
      have := Real.log_nonpos (kept_factor h0 h1 (s + (n + 1))).1.le (kept_factor h0 h1 (s + (n + 1))).2.2
      linarith

include h0 h1 in
theorem kfall_nonpos (s g : ℕ) : kfall a s g ≤ 0 := by
  refine (kfall_anti h0 h1 s (Nat.zero_le g)).trans ?_
  rw [kfall_zero h0 h1]
  exact Real.log_nonpos (kept_factor h0 h1 s).1.le (kept_factor h0 h1 s).2.2

include h0 h1 in
theorem lfall_le_kfall (s g : ℕ) : lfall a s g ≤ kfall a s g := by
  rw [lfall_eq_sum h0 h1, kfall_eq_sum h0 h1]
  refine Finset.sum_le_sum fun i _ => Real.log_le_log (by have := h1 (s + i); linarith) (kept_factor h0 h1 _).2.1

include h0 h1 in
theorem kp_one_of_le {m n : ℕ} (h : m ≤ n) (hk : kp a n = 1) : kp a m = 1 := by
  unfold kp at *
  have ht := Tr_anti h0 h1 (show m + 1 ≤ n + 1 by omega)
  split at hk
  · rw [if_pos (by linarith)]
  · norm_num at hk

include h0 h1 in
theorem kfall_eq_lfall (s g : ℕ) (hk : kp a (s + g) = 1) : kfall a s g = lfall a s g := by
  rw [lfall_eq_sum h0 h1, kfall_eq_sum h0 h1]
  refine Finset.sum_congr rfl fun i hi => ?_
  rw [kp_one_of_le h0 h1 (show s + i ≤ s + g by have := Finset.mem_range.1 hi; omega) hk, mul_one]

/-! ### the carried logarithm -/

include h0 h1 in
theorem LogInv.next {s : ℕ} {l : ℝ} (h : LogInv a s l) (g : ℕ) : LogInv a (s + g + 1) (l + lfall a s g) := by
  rcases h with h | ⟨h, h'⟩
  · left; rw [h]; unfold lfall; ring
  · right
    have := lfall_nonpos h0 h1 s g
    exact ⟨by linarith, lt_of_le_of_lt (Tr_anti h0 h1 (by omega)) h'⟩

include h1 in
theorem LogInv.dead {s : ℕ} {l : ℝ} (h : LogInv a s l) (hl : l < Real.log eps) : Tr a s < eps := by
  rcases h with h | ⟨_, h⟩
  · rw [h] at hl
    exact (Real.log_lt_log_iff (Tr_pos h1 s) eps_pos).1 hl
  · exact h

include h0 h1 in
theorem LogInv.skip {s : ℕ} {l : ℝ} (h : LogInv a s l) (hl : l < Real.log eps) (g : ℕ) : LogInv a (s + g) l :=
  Or.inr ⟨hl, lt_of_le_of_lt (Tr_anti h0 h1 (by omega)) (h.dead h1 hl)⟩

include h0 h1 in
theorem kp_dead {s : ℕ} (h : Tr a s < eps) (g : ℕ) : kp a (s + g) = 0 := by
  unfold kp
  rw [if_neg]
  have := Tr_anti h0 h1 (show s ≤ s + g + 1 by omega)
  linarith

include h0 h1 in
theorem wr_dead {s : ℕ} (h : Tr a s < eps) (g : ℕ) : wr a (s + g) = 0 := by
  unfold wr
  rw [kp_dead h0 h1 h]; ring

include h0 h1 in
theorem cpr_dead {s : ℕ} (h : Tr a s < eps) (g : ℕ) : cpr a (s + g) = cpr a s := by
  induction g with
  | zero => rfl
  | succ g ih => rw [← add_assoc, cpr_succ, kp_dead h0 h1 h, ih]; ring

include h0 h1 in
theorem LogInv.keep {s : ℕ} {l : ℝ} (h : LogInv a s l) (g : ℕ) :
    kp a (s + g) = if Real.log eps ≤ l + lfall a s g then 1 else 0 := by
  rcases h with h | ⟨h, h'⟩
  · unfold kp
    rw [h, show Real.log (Tr a s) + lfall a s g = Real.log (Tr a (s + g + 1)) by unfold lfall; ring]
    simp only [Real.log_le_log_iff eps_pos (Tr_pos h1 _)]
  · rw [kp_dead h0 h1 h', if_neg]
    have := lfall_nonpos h0 h1 s g
    linarith

include h0 h1 in
/-- Transmittance after the block's Gaussian `g`, among those kept. -/
theorem cpr_exp (s g : ℕ) : cpr a s * Real.exp (kfall a s g) = cpr a (s + g + 1) := by
  unfold kfall
  rw [Real.exp_sub, Real.exp_log (cpr_pos h0 h1 _), Real.exp_log (cpr_pos h0 h1 _)]
  field_simp [(cpr_pos h0 h1 s).ne']

include h0 h1 in
/-- The weight by the logarithms, where the block's Gaussian may be dropped. -/
theorem wr_slow (s g : ℕ) :
    a (s + g) * kp a (s + g) * cpr a s * Real.exp (kfall a s g - Real.log (1 - a (s + g)) * kp a (s + g))
      = wr a (s + g) := by
  have hk : Real.log (1 - a (s + g)) * kp a (s + g) = Real.log (1 - a (s + g) * kp a (s + g)) := by
    rcases kp_cases (a := a) (s + g) with h | h <;> rw [h] <;> simp
  rw [hk, Real.exp_sub, Real.exp_log (kept_factor h0 h1 _).1]
  have h := cpr_exp h0 h1 s g
  rw [cpr_succ] at h
  have hf := (kept_factor h0 h1 (s + g)).1.ne'
  unfold wr
  rw [mul_assoc, ← mul_div_assoc, h, mul_div_assoc, div_self hf, mul_one]

include h0 h1 in
/-- The same where the whole block is kept. -/
theorem wr_fast (s g : ℕ) (hk : kp a (s + g) = 1) :
    a (s + g) * cpr a s * Real.exp (lfall a s g - Real.log (1 - a (s + g))) = wr a (s + g) := by
  have h := wr_slow h0 h1 s g
  rw [kfall_eq_lfall h0 h1 s g hk, hk] at h
  simpa using h

/-- What the kernel takes the least of: a kept Gaussian's fall, or nothing. -/
def mfall (a : ℕ → ℝ) (s x : ℕ) : ℝ := if kp a (s + x) = 1 then lfall a s x else 0

include h0 h1 in
theorem kfall_attained (s g : ℕ) : ∃ x ≤ g, mfall a s x = kfall a s g := by
  induction g with
  | zero =>
      refine ⟨0, le_rfl, ?_⟩
      unfold mfall
      split
      · next h => exact (kfall_eq_lfall h0 h1 s 0 h).symm
      · next h =>
          rcases kp_cases (a := a) (s + 0) with h' | h'
          · rw [kfall_zero h0 h1]; rw [Nat.add_zero] at h'; rw [h']; simp
          · exact absurd h' h
  | succ g ih =>
      rcases kp_cases (a := a) (s + (g + 1)) with h' | h'
      · obtain ⟨x, hx, e⟩ := ih
        refine ⟨x, by omega, ?_⟩
        rw [e, kfall_step h0 h1, h']; simp
      · refine ⟨g + 1, le_rfl, ?_⟩
        unfold mfall
        rw [if_pos h', kfall_eq_lfall h0 h1 s (g + 1) h']

include h0 h1 in
theorem kfall_le_mfall (s g x : ℕ) (hk : kp a (s + g) = 0) : kfall a s g ≤ mfall a s x := by
  unfold mfall
  split
  · next h =>
      have hx : x ≤ g := by
        by_contra hc
        rw [kp_one_of_le h0 h1 (show s + g ≤ s + x by omega) h] at hk
        exact one_ne_zero hk
      rw [← kfall_eq_lfall h0 h1 s x h]
      exact kfall_anti h0 h1 s hx
  · exact kfall_nonpos h0 h1 s g

include h0 h1 in
/-- The larger of a Gaussian's fall and the least kept fall is the kept fall. -/
theorem max_fall {N : ℕ} (s g : ℕ) (hg : g < N) :
    max ((lfall a s g : ℝ) : EReal)
        (Finset.fold min (⊤ : EReal) (fun x : Fin N => ((mfall a s x.val : ℝ) : EReal)) Finset.univ)
      = ((kfall a s g : ℝ) : EReal) := by
  apply le_antisymm
  · refine max_le (EReal.coe_le_coe_iff.2 (lfall_le_kfall h0 h1 s g)) ?_
    obtain ⟨x, hx, e⟩ := kfall_attained h0 h1 s g
    rw [← e]
    exact ((Finset.le_fold_min _).1 le_rfl).2 (⟨x, by omega⟩ : Fin N) (Finset.mem_univ _)
  · rcases kp_cases (a := a) (s + g) with h | h
    · refine le_max_of_le_right ((Finset.le_fold_min _).2 ⟨le_top, fun x _ => ?_⟩)
      exact EReal.coe_le_coe_iff.2 (kfall_le_mfall h0 h1 s g x.val h)
    · rw [kfall_eq_lfall h0 h1 s g h]
      exact le_max_left _ _

end Cert.Spec
-- ==== Proof.KPay.lean ====
/- The rasteriser's vector operations read at one pixel and one Gaussian. -/
module

public import proofs.«01_k».proof.Proof.IdealRegion1Data
public import proofs.«01_k».proof.Proof.Lits
public import proofs.«01_k».proof.Proof.Block
public import Idealize.ShloMosaic.Lib.StableHlo.Predicate
public import Idealize.ShloMosaic.Lib.Pipeline.ValueKit

@[expose] public section

set_option maxRecDepth 16384

noncomputable section

namespace Cert.KernelIdeal.Hand

open Cert.KernelIdeal Cert.KernelIdeal.Gen Cert.Spec Idealize.ShloMosaic Idealize.SL.Sem Idealize.ShloMosaic.TcCoe

/-- The threshold is the logarithm of the least transmittance. -/
theorem thr_eq : (thr (F := Ideal)) = ((Real.log eps : ℝ) : EReal) := by
  unfold eps
  rfl

theorem log_coe (r : ℝ) (h : 0 < r) : Ideal.log (r : EReal) = ((Real.log r : ℝ) : EReal) := by
  show (if r ≤ 0 then _ else _) = _
  rw [if_neg (not_le.2 h)]

theorem exp_coe (r : ℝ) : Ideal.exp (r : EReal) = ((Real.exp r : ℝ) : EReal) := rfl

theorem one_sub_coe (r : ℝ) : (1 : EReal) - (r : EReal) = ((1 - r : ℝ) : EReal) := by norm_cast

theorem bit_num (c : Prop) [Decidable c] :
    FloatOps.sitofp (F := Ideal) FTy.f32 (BitVec.setWidth 32 (BitVec.ofBool (decide c))) = (((if c then 1 else 0 : ℝ)) : EReal) := by
  by_cases h : c
  · simp only [h, decide_true, if_true]
    show (((BitVec.setWidth 32 (BitVec.ofBool true)).toInt : ℝ) : EReal) = _
    rw [show (BitVec.setWidth 32 (BitVec.ofBool true)).toInt = 1 from by decide]
    norm_num
  · simp only [h, decide_false, if_false]
    show (((BitVec.setWidth 32 (BitVec.ofBool false)).toInt : ℝ) : EReal) = _
    rw [show (BitVec.setWidth 32 (BitVec.ofBool false)).toInt = 0 from by decide]
    norm_num

theorem sle_num (x g : Fin 512) :
    IntOp.cmpi CmpIPredicate.sle (BitVec.ofNat 32 x.val) (BitVec.ofNat 32 g.val) = BitVec.ofBool (decide (x.val ≤ g.val)) := by
  show BitVec.ofBool ((BitVec.ofNat 32 x.val).sle (BitVec.ofNat 32 g.val)) = _
  have := x.isLt; have := g.isLt
  simp [BitVec.sle, StableHlo.Predicate.toInt_ofNat_small x.val (by omega), StableHlo.Predicate.toInt_ofNat_small g.val (by omega)]

theorem coe_sum {ι : Type} (s : Finset ι) (f : ι → ℝ) : ∑ x ∈ s, ((f x : ℝ) : EReal) = ((∑ x ∈ s, f x : ℝ) : EReal) := by
  classical
  induction s using Finset.induction_on with
  | empty => simp
  | insert x s hx ih => rw [Finset.sum_insert hx, Finset.sum_insert hx, ih]; norm_cast

theorem neg_inf : Ideal.ofBits FTy.f32 4286578688#32 = ⊥ := by simp [Ideal.ofBits, Ideal.ieee]
theorem pos_inf : Ideal.ofBits FTy.f32 2139095040#32 = ⊤ := by simp [Ideal.ofBits, Ideal.ieee]

theorem le_foldmax {ι : Type} [Fintype ι] (f : ι → EReal) (c b : EReal) (i : ι) (h : c ≤ f i) : c ≤ Finset.fold max b f Finset.univ :=
  (Finset.le_fold_max _).2 (Or.inr ⟨i, Finset.mem_univ _, h⟩)

theorem foldmin_le {ι : Type} [Fintype ι] (f : ι → EReal) (c b : EReal) (h : c ≤ Finset.fold min b f Finset.univ) (i : ι) : c ≤ f i :=
  ((Finset.le_fold_min _).1 h).2 i (Finset.mem_univ _)

theorem oge_bit (x y : EReal) : Scalar.cmpf (F := Ideal) (φ := .f32) .oge x y = BitVec.ofBool (decide (y ≤ x)) := rfl

theorem oge_true {x y : EReal} (h : y ≤ x) : Scalar.cmpf (F := Ideal) (φ := .f32) .oge x y = 1#1 := by
  rw [oge_bit, decide_eq_true h]; rfl

theorem of_oge_true {x y : EReal} (h : Scalar.cmpf (F := Ideal) (φ := .f32) .oge x y = 1#1) : y ≤ x := by
  by_contra hc
  rw [oge_bit, decide_eq_false hc] at h
  exact absurd h (by decide)

theorem mul_congr_left {x y : EReal} (z : EReal) (h : x = y) : x * z = y * z := by rw [h]

theorem add_congr_right {x y : EReal} (z : EReal) (h : x = y) : z + x = z + y := by rw [h]

theorem max_congr {x x' y y' : EReal} (h : x = x') (h' : y = y') : max x y = max x' y' := by rw [h, h']

section Pay

variable (v : FVec Ideal S4096x512 .f32) (b : IVec S4096x512 1) (e : FVec Ideal S4096x512 .f32) (l t : Vec Ideal S4096x1 .f32)
  (C : Vec Ideal S512x4 .f32) (o : Vec Ideal S4096x4 .f32) (B : Vec Ideal S1x4 .f32)
  (a : Fin 4096 → ℕ → ℝ) (s : ℕ) (h0 : ∀ p n, 0 ≤ a p n) (h1 : ∀ p n, a p n < 1)
  (hv : ∀ p (g : Fin 512), k1_pay5 v b e (ix2 p g) = ((a p (s + g.val) : ℝ) : EReal))
  (lr : Fin 4096 → ℝ) (hl : ∀ p, l (ix2 p 0) = ((lr p : ℝ) : EReal)) (hI : ∀ p, LogInv (a p) s (lr p))
  (ht : ∀ p, t (ix2 p 0) = ((cpr (a p) s : ℝ) : EReal))

include h1 hv in
theorem pay6_at (p : Fin 4096) (g : Fin 512) : k1_pay6 v b e (ix2 p g) = ((Real.log (1 - a p (s + g.val)) : ℝ) : EReal) := by
  pointwise [k1_pay6]
  rw [hv, one_sub_coe, log_coe _ (by have := h1 p (s + g.val); linarith)]

include h0 h1 hv in
theorem pay7_at (p : Fin 4096) (g : Fin 512) : k1_pay7 v b e (ix2 p g) = ((lfall (a p) s g.val : ℝ) : EReal) := by
  pointwise [k1_pay7]
  simp only [pay6_at v b e a s h1 hv, sle_num, bit_num, ← EReal.coe_mul]
  rw [coe_sum, sum_triangle (fun i => Real.log (1 - a p (s + i))) g.val g.isLt, lfall_eq_sum (h0 p) (h1 p)]

include hl in
theorem pay9_at (p : Fin 4096) : k1_pay9 l (ix2 p 0) = BitVec.ofBool (decide (Real.log eps ≤ lr p)) := by
  pointwise [k1_pay9]
  rw [show Named.named (F := Ideal) (φ := .f32) κ "log_eps" 3239271822#32 = ((Real.log eps : ℝ) : EReal) from thr_eq, hl]
  simp only [EReal.coe_le_coe_iff]

include h0 h1 hv hl in
theorem pay10_at (p : Fin 4096) : k1_pay10 v b e l (ix2 p 0) = ((lr p + lfall (a p) s 511 : ℝ) : EReal) := by
  pointwise [k1_pay10]
  rw [pay7_at v b e a s h0 h1 hv, hl]
  norm_cast

include hl in
theorem alive_at (h : ¬ alive l = 1#1) (p : Fin 4096) : lr p < Real.log eps := by
  by_contra hc
  refine h (test_of_true ?_)
  have hm : ((Real.log eps : ℝ) : EReal) ≤ k1_pay4 l := by
    pointwise [k1_pay4]
    refine le_foldmax _ _ _ (p, 0) ?_
    dsimp only
    rw [hl]
    exact EReal.coe_le_coe_iff.2 (not_lt.1 hc)
  rw [← thr_eq] at hm
  exact oge_true hm

include h0 h1 hv hl in
theorem uncrossed_at (h : uncrossed v b e l = 1#1) (p : Fin 4096) (hp : Real.log eps ≤ lr p) :
    Real.log eps ≤ lr p + lfall (a p) s 511 := by
  have hm : ((Real.log eps : ℝ) : EReal) ≤ k1_pay11 v b e l := by
    rw [← thr_eq]
    exact of_oge_true h
  revert hm
  pointwise [k1_pay11]
  intro hm
  have := foldmin_le _ _ _ hm (p, 0)
  dsimp only at this
  rw [pay9_at l lr hl, decide_eq_true hp, pay10_at v b e l a s h0 h1 hv lr hl] at this
  exact EReal.coe_le_coe_iff.1 this

include h0 h1 hv hl hI in
theorem pay15_at (p : Fin 4096) (g : Fin 512) : k1_pay15 v b e l (ix2 p g) = ((kp (a p) (s + g.val) : ℝ) : EReal) := by
  pointwise [k1_pay15]
  rw [show Named.named (F := Ideal) (φ := .f32) κ "log_eps" 3239271822#32 = ((Real.log eps : ℝ) : EReal) from thr_eq, hl,
    pay7_at v b e a s h0 h1 hv, ← EReal.coe_add, bit_num, (hI p).keep (h0 p) (h1 p)]
  simp only [EReal.coe_le_coe_iff]

include h0 h1 hv hl hI in
theorem pay16_at (p : Fin 4096) (g : Fin 512) : k1_pay16 v b e l (ix2 p g) = ((kfall (a p) s g.val : ℝ) : EReal) := by
  pointwise [k1_pay16]
  rw [pos_inf, pay7_at v b e a s h0 h1 hv, ← max_fall (h0 p) (h1 p) (N := 512) s g.val g.isLt]
  congr 2
  funext x
  rw [pay15_at v b e l a s h0 h1 hv lr hl hI, pay7_at v b e a s h0 h1 hv]
  unfold mfall
  rcases kp_cases (a := a p) (s + x.val) with h | h <;> rw [h] <;> simp

include h0 h1 hv hl hI ht in
theorem pay17_at (p : Fin 4096) (r : Fin 4) :
    k1_pay17 v b e l t C o (ix2 p r) = o (ix2 p r) + ∑ x : Fin 512, ((wr (a p) (s + x.val) : ℝ) : EReal) * C (ix2 x r) := by
  pointwise [k1_pay17, k1_pay8]
  refine add_congr_right _ (Finset.sum_congr rfl fun x _ => ?_)
  refine mul_congr_left _ ?_
  rw [hv, ht, pay15_at v b e l a s h0 h1 hv lr hl hI, pay16_at v b e l a s h0 h1 hv lr hl hI, pay6_at v b e a s h1 hv,
    ← EReal.coe_mul, ← EReal.coe_mul, ← EReal.coe_mul, ← EReal.coe_sub, exp_coe, ← EReal.coe_mul, wr_slow (h0 p) (h1 p)]

include h0 h1 hv hl hI ht in
theorem pay19_at (p : Fin 4096) : k1_pay19 v b e l t (ix2 p 0) = ((cpr (a p) (s + 512) : ℝ) : EReal) := by
  pointwise [k1_pay19]
  rw [ht, pay16_at v b e l a s h0 h1 hv lr hl hI, exp_coe, ← EReal.coe_mul]
  exact congrArg _ (cpr_exp (h0 p) (h1 p) s 511)

include h0 h1 hv hl hI ht in
theorem pay12_at (hu : uncrossed v b e l = 1#1) (p : Fin 4096) (r : Fin 4) :
    k1_pay12 v b e l t C o (ix2 p r) = o (ix2 p r) + ∑ x : Fin 512, ((wr (a p) (s + x.val) : ℝ) : EReal) * C (ix2 x r) := by
  pointwise [k1_pay12, k1_pay8]
  refine add_congr_right _ (Finset.sum_congr rfl fun x _ => ?_)
  rw [pay9_at l lr hl]
  by_cases hp : Real.log eps ≤ lr p
  · have hk : kp (a p) (s + x.val) = 1 := by
      refine kp_one_of_le (h0 p) (h1 p) (show s + x.val ≤ s + 511 by have := x.isLt; omega) ?_
      rw [(hI p).keep (h0 p) (h1 p), if_pos (uncrossed_at v b e l a s h0 h1 hv lr hl hu p hp)]
    rw [decide_eq_true hp]
    refine mul_congr_left _ ?_
    rw [hv, ht, pay7_at v b e a s h0 h1 hv, pay6_at v b e a s h1 hv,
      ← EReal.coe_mul, ← EReal.coe_sub, exp_coe, ← EReal.coe_mul, wr_fast (h0 p) (h1 p) s x.val hk]
  · rw [decide_eq_false hp, wr_dead (h0 p) (h1 p) ((hI p).dead (h1 p) (not_le.1 hp))]
    show (0 : EReal) = ((0 : ℝ) : EReal) * _
    rw [EReal.coe_zero, zero_mul]

include h0 h1 hv hl hI ht in
theorem pay14_at (hu : uncrossed v b e l = 1#1) (p : Fin 4096) :
    k1_pay14 v b e l t (ix2 p 0) = ((cpr (a p) (s + 512) : ℝ) : EReal) := by
  pointwise [k1_pay14]
  rw [pay9_at l lr hl]
  by_cases hp : Real.log eps ≤ lr p
  · have hk : kp (a p) (s + 511) = 1 := by
      rw [(hI p).keep (h0 p) (h1 p), if_pos (uncrossed_at v b e l a s h0 h1 hv lr hl hu p hp)]
    rw [decide_eq_true hp]
    show _ * _ = _
    rw [ht, pay7_at v b e a s h0 h1 hv, exp_coe, ← EReal.coe_mul]
    have := cpr_exp (h0 p) (h1 p) s 511
    rw [kfall_eq_lfall (h0 p) (h1 p) s 511 hk] at this
    exact congrArg _ this
  · rw [decide_eq_false hp, cpr_dead (h0 p) (h1 p) ((hI p).dead (h1 p) (not_le.1 hp))]
    exact ht p

include h0 h1 hv hl in
theorem pay13_at (p : Fin 4096) : k1_pay13 v b e l (ix2 p 0) = ((lr p + lfall (a p) s 511 : ℝ) : EReal) := by
  pointwise [k1_pay13]
  exact pay10_at v b e l a s h0 h1 hv lr hl p

include h0 h1 hv hl in
theorem pay18_at (p : Fin 4096) : k1_pay18 v b e l (ix2 p 0) = ((lr p + lfall (a p) s 511 : ℝ) : EReal) := by
  pointwise [k1_pay18]
  exact pay10_at v b e l a s h0 h1 hv lr hl p

theorem pay20_at (p : Fin 4096) (r : Fin 4) : k1_pay20 o t B (ix2 p r) = (o (ix2 p r) + t (ix2 p 0) * B (ix2 0 r) : EReal) := by
  pointwise [k1_pay20]

end Pay

/-- The carried arrays before Gaussian `s`, where `a` are the opacities at each pixel and `cl` the colours. -/
def CarryInv (a : Fin 4096 → ℕ → ℝ) (cl : ℕ → Fin 4 → EReal) (s : ℕ) (S : Carry Ideal) : Prop :=
  ∃ lr : Fin 4096 → ℝ, (∀ p, S.lT (ix2 p 0) = ((lr p : ℝ) : EReal)) ∧ (∀ p, LogInv (a p) s (lr p))
    ∧ (∀ p, S.te (ix2 p 0) = ((cpr (a p) s : ℝ) : EReal))
    ∧ ∀ p r, S.out (ix2 p r) = ∑ k ∈ Finset.range s, ((wr (a p) k : ℝ) : EReal) * cl k r

/-- A block of 512 Gaussians keeps the invariant, by each of its three ways. -/
theorem blockSt_inv (a : Fin 4096 → ℕ → ℝ) (cl : ℕ → Fin 4 → EReal) (s : ℕ) (h0 : ∀ p n, 0 ≤ a p n) (h1 : ∀ p n, a p n < 1)
    (P : Vec Ideal S8x512 .f32) (C : Vec Ideal S512x4 .f32) (G : Vec Ideal S4096x2 .f32)
    (hv : ∀ p (g : Fin 512), k1_pay5 (opac P G) (posPow P G) least (ix2 p g) = ((a p (s + g.val) : ℝ) : EReal))
    (hC : ∀ (g : Fin 512) r, C (ix2 g r) = cl (s + g.val) r) (S : Carry Ideal) (hS : CarryInv a cl s S) :
    CarryInv a cl (s + 512) (blockSt P C G S) := by
  obtain ⟨lr, hl, hI, ht, ho⟩ := hS
  have hsum : ∀ p r, ∑ k ∈ Finset.range (s + 512), ((wr (a p) k : ℝ) : EReal) * cl k r
      = S.out (ix2 p r) + ∑ x : Fin 512, ((wr (a p) (s + x.val) : ℝ) : EReal) * C (ix2 x r) := by
    intro p r
    rw [Finset.sum_range_add, ho p r, Finset.sum_range (n := 512)]
    simp only [hC]
  unfold blockSt
  split
  · split
    · next hu =>
      exact ⟨fun p => lr p + lfall (a p) s 511, fun p => pay13_at _ _ _ _ a s h0 h1 hv lr hl p,
        fun p => (hI p).next (h0 p) (h1 p) 511, fun p => pay14_at _ _ _ _ _ a s h0 h1 hv lr hl hI ht hu p,
        fun p r => (pay12_at _ _ _ _ _ C _ a s h0 h1 hv lr hl hI ht hu p r).trans (hsum p r).symm⟩
    · exact ⟨fun p => lr p + lfall (a p) s 511, fun p => pay18_at _ _ _ _ a s h0 h1 hv lr hl p,
        fun p => (hI p).next (h0 p) (h1 p) 511, fun p => pay19_at _ _ _ _ _ a s h0 h1 hv lr hl hI ht p,
        fun p r => (pay17_at _ _ _ _ _ C _ a s h0 h1 hv lr hl hI ht p r).trans (hsum p r).symm⟩
  · next hd =>
    have hd := alive_at S.lT lr hl hd
    refine ⟨lr, hl, fun p => (hI p).skip (h0 p) (h1 p) (hd p) 512, fun p => ?_, fun p r => ?_⟩
    · rw [cpr_dead (h0 p) (h1 p) ((hI p).dead (h1 p) (hd p))]; exact ht p
    · rw [hsum]
      have hz : ∑ x : Fin 512, ((wr (a p) (s + x.val) : ℝ) : EReal) * C (ix2 x r) = 0 := by
        refine Finset.sum_eq_zero fun x _ => ?_
        rw [wr_dead (h0 p) (h1 p) ((hI p).dead (h1 p) (hd p)), EReal.coe_zero, zero_mul]
      rw [hz, add_zero]

end Cert.KernelIdeal.Hand
-- ==== Proof.Alpha.lean ====
/- The two forms of a Gaussian's opacity at a pixel are the same number, and
it is a real number at least zero and less than one. -/
module

public import proofs.«01_k».proof.Proof.Lits

@[expose] public section

noncomputable section

namespace Cert.Spec

open Idealize.ShloMosaic Idealize.SL.Sem

/-- An infinite number. -/
def Infinite (x : EReal) : Prop := x = ⊤ ∨ x = ⊥

theorem Infinite.add_right {x : EReal} (h : Infinite x) (y : EReal) : Infinite (x + y) := by
  rcases h with rfl | rfl
  · induction y with
    | bot => right; rfl
    | coe y => left; exact EReal.top_add_coe y
    | top => left; rfl
  · right; exact EReal.bot_add y

theorem Infinite.add_left {x : EReal} (h : Infinite x) (y : EReal) : Infinite (y + x) := by
  rw [add_comm]; exact h.add_right y

theorem Infinite.mul {x y : EReal} (h : Infinite x) (hy : y ≠ 0) : Infinite (x * y) := by
  rcases h with rfl | rfl <;> rcases lt_or_gt_of_ne hy with hy | hy
  · right; exact EReal.top_mul_of_neg hy
  · left; exact EReal.top_mul_of_pos hy
  · left; exact EReal.bot_mul_of_neg hy
  · right; exact EReal.bot_mul_of_pos hy

theorem Infinite.mul' {x y : EReal} (h : Infinite x) (hy : y ≠ 0) : Infinite (y * x) := by
  rw [mul_comm]; exact h.mul hy

theorem Infinite.ne_zero {x : EReal} (h : Infinite x) : x ≠ 0 := by
  rcases h with rfl | rfl <;> simp

theorem real_or (x : EReal) : (∃ r : ℝ, x = r) ∨ Infinite x := by
  induction x with
  | bot => right; right; rfl
  | coe r => left; exact ⟨r, rfl⟩
  | top => right; left; rfl

theorem lit_mhalf_ne : lit 0xBF000000#32 ≠ 0 := by
  rw [lit_mhalf]
  norm_num

section Forms

variable {A B C x y : EReal} (hA : A ≠ 0) (hC : C ≠ 0)

include hA hC in
theorem powR_infinite (h : Infinite x ∨ Infinite y) : Infinite (powR A B C x y) := by
  unfold powR
  rw [sub_eq_add_neg]
  refine Infinite.add_right (Infinite.mul' ?_ lit_mhalf_ne) _
  rcases h with h | h
  · exact ((h.mul' hA).mul h.ne_zero).add_right _
  · exact ((h.mul' hC).mul h.ne_zero).add_left _

include hA hC in
theorem powK_infinite (h : Infinite x ∨ Infinite y) : Infinite (powK A B C x y) := by
  unfold powK
  refine Infinite.mul' ?_ lit_mhalf_ne
  rcases h with h | h
  · exact (((h.mul' hA).add_right _).mul h.ne_zero).add_right _
  · exact ((h.mul' hC).mul h.ne_zero).add_left _

end Forms

theorem pow_real (A B C x y : ℝ) : powR (A : EReal) B C x y = powK A ((B : EReal) + B) C x y := by
  unfold powR powK
  rw [lit_mhalf]
  norm_cast
  ring

theorem pow_zero (x y : EReal) : powR 0 0 0 x y = powK 0 (0 + 0) 0 x y := by
  unfold powR powK
  simp

/-- The screen covariance `a b c` of a drawn Gaussian either gives real
conics, the outer two of them not zero, or gives zeros. -/
theorem conic_cases (a b c : EReal) (h : 0 < a * c - b * b) :
    (∃ A B C : ℝ, A ≠ 0 ∧ C ≠ 0 ∧ Ideal.div c (a * c - b * b) = A ∧ Ideal.div (-b) (a * c - b * b) = B ∧ Ideal.div a (a * c - b * b) = C)
    ∨ (Ideal.div c (a * c - b * b) = 0 ∧ Ideal.div (-b) (a * c - b * b) = 0 ∧ Ideal.div a (a * c - b * b) = 0) := by
  rcases real_or b with ⟨β, rfl⟩ | hb
  · rcases real_or (a * c) with ⟨δ, hδ⟩ | hi
    · left
      have hd : a * c - (β : EReal) * β = ((δ - β * β : ℝ) : EReal) := by rw [hδ]; norm_cast
      rw [hd] at h ⊢
      have hp : 0 < δ - β * β := by exact_mod_cast h
      have hδp : 0 < δ := by nlinarith [mul_self_nonneg β]
      have ha : a ≠ 0 := by rintro rfl; rw [zero_mul] at hδ; exact hδp.ne (by exact_mod_cast hδ)
      have hc : c ≠ 0 := by rintro rfl; rw [mul_zero] at hδ; exact hδp.ne (by exact_mod_cast hδ)
      have hne : ((δ - β * β : ℝ) : EReal) ≠ 0 := by exact_mod_cast hp.ne'
      have fin : ∀ z : EReal, ¬ (Infinite z ∧ z = ((δ : ℝ) : EReal)) := by
        rintro z ⟨rfl | rfl, hz⟩
        · exact EReal.coe_ne_top _ hz.symm
        · exact EReal.coe_ne_bot _ hz.symm
      rcases real_or a with ⟨α, rfl⟩ | hia
      · rcases real_or c with ⟨γ, rfl⟩ | hic
        · have hα : α ≠ 0 := by exact_mod_cast ha
          have hγ : γ ≠ 0 := by exact_mod_cast hc
          refine ⟨γ * (δ - β * β)⁻¹, -β * (δ - β * β)⁻¹, α * (δ - β * β)⁻¹,
            mul_ne_zero hγ (inv_ne_zero hp.ne'), mul_ne_zero hα (inv_ne_zero hp.ne'), ?_, ?_, ?_⟩ <;>
          · unfold Ideal.div
            rw [if_neg hne, ← EReal.coe_inv]
            norm_cast
        · exact absurd ⟨hic.mul' ha, hδ⟩ (fin _)
      · exact absurd ⟨hia.mul hc, hδ⟩ (fin _)
    · right
      have ht : a * c - (β : EReal) * β = ⊤ := by
        rcases hi with hi | hi
        · rw [hi, ← EReal.coe_mul, EReal.top_sub_coe]
        · rw [hi, ← EReal.coe_mul, EReal.bot_sub] at h
          exact absurd h (by simp)
      rw [ht]
      refine ⟨?_, ?_, ?_⟩ <;> simp [Ideal.div]
  · exfalso
    have hbb : b * b = ⊤ := by rcases hb with rfl | rfl <;> rfl
    rw [hbb, EReal.sub_top] at h
    exact absurd h (by simp)

theorem opK_zero_lt : (min (lit 0x3F7D70A4#32) 0 : EReal) < lit 0x3B808081#32 := by
  refine lt_of_le_of_lt (min_le_right _ _) ?_
  rw [lit_255]
  norm_num

theorem alK_zero (w : EReal) : alK 0 w = 0 := by
  have h : opK 0 w < lit 0x3B808081#32 := by unfold opK; rw [zero_mul]; exact opK_zero_lt
  by_cases hw : 0 < w <;> simp [alK, Scalar.select, IntOp.ori, h, hw]

theorem alK_infinite (o : EReal) {w : EReal} (h : Infinite w) : alK o w = 0 := by
  rcases h with rfl | rfl
  · by_cases h' : opK o ⊤ < lit 0x3B808081#32 <;> simp [alK, Scalar.select, IntOp.ori, h']
  · have h : opK o ⊥ < lit 0x3B808081#32 := by
      unfold opK
      rw [show Ideal.exp ⊥ = 0 from rfl, mul_zero]; exact opK_zero_lt
    simp [alK, Scalar.select, IntOp.ori, h]

theorem alR_true (o w : EReal) : alR o w 1#1 = alK o w := by
  by_cases hw : 0 < w
  · by_cases h : opR o w < lit 0x3B808081#32 <;> by_cases h' : opK o w < lit 0x3B808081#32 <;>
      simp [alR, alK, Scalar.select, IntOp.ori, hw, h, h']
  · have e : opR o w = opK o w := by unfold opR opK; rw [min_eq_left (not_lt.1 hw)]
    by_cases h' : opK o w < lit 0x3B808081#32 <;>
      simp [alR, alK, Scalar.select, IntOp.ori, hw, e, h']

theorem alR_false (o w : EReal) : alR o w 0#1 = 0 := by
  by_cases hw : 0 < w <;> by_cases h : opR o w < lit 0x3B808081#32 <;>
    simp [alR, Scalar.select, IntOp.ori, hw, h]

theorem galK_eq (g : Gin) (o : EReal) (p : Fin 4096) : galK g o p = galR g o p := by
  unfold galK galR
  rcases BitVec.eq_zero_or_eq_one g.valid with hv | hv
  · have h5 : prm g o 5 = 0 := by
      show Scalar.select g.valid o 0 = 0
      rw [hv]; rfl
    rw [hv, h5, alK_zero, alR_false]
  · have h5 : prm g o 5 = o := by
      show Scalar.select g.valid o 0 = o
      rw [hv]; rfl
    have hd : 0 < g.a * g.c - g.b * g.b := by
      by_contra hc
      have : g.valid = 0#1 := by
        unfold Gin.valid Gin.det
        rw [decide_eq_false hc]
        by_cases hz : lit 0x3E4CCCCD#32 < g.t 2 <;> simp [IntOp.andi, hz]
      rw [this] at hv
      exact absurd hv (by decide)
    have hds : g.ds = g.a * g.c - g.b * g.b := by
      unfold Gin.ds
      rw [hv]; rfl
    rw [hv, h5, alR_true]
    show alK o (powK g.cA (g.cB + g.cB) g.cC (g.pix (g.h 0) - pxf p) (g.pix (g.h 1) - pyf p)) = _
    generalize g.pix (g.h 0) - pxf p = x
    generalize g.pix (g.h 1) - pyf p = y
    unfold Gin.cA Gin.cB Gin.cC
    rw [hds]
    rcases conic_cases g.a g.b g.c hd with ⟨A, B, C, hA, hC, eA, eB, eC⟩ | ⟨eA, eB, eC⟩
    · rw [eA, eB, eC]
      have hA' : (A : EReal) ≠ 0 := by exact_mod_cast hA
      have hC' : (C : EReal) ≠ 0 := by exact_mod_cast hC
      rcases real_or x with ⟨ξ, rfl⟩ | hx
      · rcases real_or y with ⟨η, rfl⟩ | hy
        · rw [pow_real]
        · rw [alK_infinite o (powK_infinite hA' hC' (Or.inr hy)), alK_infinite o (powR_infinite hA' hC' (Or.inr hy))]
      · rw [alK_infinite o (powK_infinite hA' hC' (Or.inl hx)), alK_infinite o (powR_infinite hA' hC' (Or.inl hx))]
    · rw [eA, eB, eC, pow_zero]

/-- An opacity is a real number. -/
theorem alK_real (o w : EReal) : ∃ r : ℝ, 0 ≤ r ∧ r < 1 ∧ alK o w = r := by
  by_cases h : 0 < w ∨ opK o w < lit 0x3B808081#32
  · refine ⟨0, le_rfl, one_pos, ?_⟩
    rcases h with h | h
    · by_cases h' : opK o w < lit 0x3B808081#32 <;> simp [alK, Scalar.select, IntOp.ori, h, h']
    · by_cases h' : 0 < w <;> simp [alK, Scalar.select, IntOp.ori, h, h']
  · have hw : ¬ 0 < w := fun hh => h (Or.inl hh)
    have hl : ¬ opK o w < lit 0x3B808081#32 := fun hh => h (Or.inr hh)
    have e : alK o w = opK o w := by simp [alK, Scalar.select, IntOp.ori, hw, hl]
    have hu : opK o w ≤ lit 0x3F7D70A4#32 := min_le_left _ _
    have hl := not_lt.1 hl
    rw [lit_99] at hu
    rw [lit_255] at hl
    rw [e]
    generalize opK o w = z at hu hl
    induction z with
    | bot => exact absurd hl (by simp)
    | top => exact absurd hu (by simp)
    | coe r =>
        have hu := EReal.coe_le_coe_iff.1 hu
        have hl := EReal.coe_le_coe_iff.1 hl
        exact ⟨r, by linarith, by linarith, rfl⟩

theorem galR_real (g : Gin) (o : EReal) (p : Fin 4096) : ∃ r : ℝ, 0 ≤ r ∧ r < 1 ∧ galR g o p = r := by
  rw [← galK_eq]
  exact alK_real _ _

end Cert.Spec
-- ==== Proof.KRaster.lean ====
/- The rasteriser's call: each of its eight points takes in 512 Gaussians, and the last lays the background behind them. -/
module

public import proofs.«01_k».proof.Proof.KOrder
public import proofs.«01_k».proof.Proof.KPay
public import proofs.«01_k».proof.Proof.Alpha

@[expose] public section

set_option maxRecDepth 16384

noncomputable section

namespace Cert.KernelIdeal.Hand

open Cert.KernelIdeal Cert.KernelIdeal.Gen Cert.Spec Idealize.ShloMosaic Idealize.SL.Sem Idealize.ShloMosaic.TcCoe

/-- A block's opacities, from its columns of parameters and the pixel table. -/
theorem opac_at (P : Vec Ideal S8x512 .f32) (G : Vec Ideal S4096x2 .f32) (p : Fin 4096) (g : Fin 512) :
    k1_pay5 (opac P G) (posPow P G) least (ix2 p g)
      = (alK (P (ix2 5 g)) (powK (P (ix2 2 g)) (P (ix2 3 g)) (P (ix2 4 g)) (P (ix2 0 g) - G (ix2 p 0)) (P (ix2 1 g) - G (ix2 p 1))) : EReal) := by
  pointwise [k1_pay5, opac, posPow, least, k1_pay22, k1_pay23, k1_pay24, k1_pay21, prow0, prow1, prow2, prow3, prow4, prow5, pcol0, pcol1]
  unfold alK opK powK
  pointwise

theorem idx1 : ∀ t : Fin cfg1.N, win1_0.index t = ![0, t.val] ∧ win1_1.index t = ![t.val, 0] ∧ win1_2.index t = ![0, 0]
    ∧ win1_3.index t = ![0, 0] ∧ win1_4.index t = ![0, 0] :=
  (by decide +kernel : ∀ t : Fin grid1.N, _)

theorem isFirst_val : ∀ t : Fin cfg1.N, isFirst (grid1.coords t) = if t.val = 0 then 1#1 else 0#1 :=
  (by decide +kernel : ∀ t : Fin grid1.N, _)
theorem isLast_val : ∀ t : Fin cfg1.N, isLast (grid1.coords t) = if t.val = 7 then 1#1 else 0#1 :=
  (by decide +kernel : ∀ t : Fin grid1.N, _)
theorem lt8 (t : Fin cfg1.N) : t.val < 8 := lt_of_lt_of_eq t.isLt (show cfg1.N = 8 from N_1)

variable (m : (ℓ : Loc nD τ sig) → Buf (Elt Ideal) ℓ) (c : Dev nD)

/-- The opacity at a pixel of the Gaussian taken at place `n`, as a real number. -/
def aK (p : Fin 4096) (n : ℕ) : ℝ := if h : n < 4096 then (galR (gK m c (sigK m c ⟨n, h⟩)) (oK m c (sigK m c ⟨n, h⟩)) p).toReal else 0

/-- The colour and inverse depth of the Gaussian taken at place `n`. -/
def clK (n : ℕ) (r : Fin 4) : EReal := if h : n < 4096 then col (gK m c (sigK m c ⟨n, h⟩)) (kK m c (sigK m c ⟨n, h⟩)) r else 0

theorem aK_spec (p n : Fin 4096) : galR (gK m c (sigK m c n)) (oK m c (sigK m c n)) p = ((aK m c p n.val : ℝ) : EReal) := by
  unfold aK
  rw [dif_pos n.isLt]
  obtain ⟨r, _, _, h⟩ := galR_real (gK m c (sigK m c n)) (oK m c (sigK m c n)) p
  rw [Fin.eta, h, EReal.toReal_coe]

theorem aK_nonneg (p : Fin 4096) (n : ℕ) : 0 ≤ aK m c p n := by
  unfold aK
  split_ifs with h
  · obtain ⟨r, h0, _, e⟩ := galR_real (gK m c (sigK m c ⟨n, h⟩)) (oK m c (sigK m c ⟨n, h⟩)) p
    rw [e, EReal.toReal_coe]; exact h0
  · exact le_rfl
theorem aK_lt (p : Fin 4096) (n : ℕ) : aK m c p n < 1 := by
  unfold aK
  split_ifs with h
  · obtain ⟨r, _, h1, e⟩ := galR_real (gK m c (sigK m c ⟨n, h⟩)) (oK m c (sigK m c ⟨n, h⟩)) p
    rw [e, EReal.toReal_coe]; exact h1
  · exact one_pos

section Blocks

variable (t : Fin cfg1.N)

theorem blk1_0 (r : Fin 8) (g : Fin 512) : iblk1 (U5 m) c 0 t (ix2 r g)
    = W5 m c (Proc.devRef .tc main_v20) (ix2 r (⟨512 * t.val + g.val, by have := lt8 t; omega⟩ : Fin 4096)) := by
  blk_ext [iblk1, (idx1 t).1]
theorem blk1_1 (g : Fin 512) (r : Fin 4) : iblk1 (U5 m) c 1 t (ix2 g r)
    = W5 m c (Proc.devRef .tc main_v28) (ix2 (⟨512 * t.val + g.val, by have := lt8 t; omega⟩ : Fin 4096) r) := by
  blk_ext [iblk1, (idx1 t).2.1]
theorem blk1_2 (p : Fin 4096) (r : Fin 2) : iblk1 (U5 m) c 2 t (ix2 p r) = W5 m c (Proc.devRef .tc main_cst) (ix2 p r) := by
  blk_ext [iblk1, (idx1 t).2.2.1]
theorem blk1_3 (r : Fin 4) : iblk1 (U5 m) c 3 t (ix2 0 r) = W5 m c (Proc.devRef .tc main_v31) (ix2 0 r) := by
  blk_ext [iblk1, (idx1 t).2.2.2.1]

theorem hv1 (p : Fin 4096) (g : Fin 512) : k1_pay5 (opac (iblk1 (U5 m) c 0 t) (iblk1 (U5 m) c 2 t)) (posPow (iblk1 (U5 m) c 0 t) (iblk1 (U5 m) c 2 t)) least (ix2 p g)
    = ((aK m c p (512 * t.val + g.val) : ℝ) : EReal) := by
  have hn : 512 * t.val + g.val < 4096 := by have := lt8 t; omega
  refine (opac_at _ _ p g).trans ?_
  rw [blk1_0, blk1_0, blk1_0, blk1_0, blk1_0, blk1_0, blk1_2, blk1_2, W5_cst_0, W5_cst_1]
  rw [W5_v20, W5_v20, W5_v20, W5_v20, W5_v20, W5_v20]
  exact (galK_eq _ _ p).trans (aK_spec m c p ⟨_, hn⟩)

theorem hC1 (g : Fin 512) (r : Fin 4) : iblk1 (U5 m) c 1 t (ix2 g r) = clK m c (512 * t.val + g.val) r := by
  have hn : 512 * t.val + g.val < 4096 := by have := lt8 t; omega
  unfold clK
  rw [dif_pos hn, blk1_1, W5_v28]

theorem stage_inv (S : Carry Ideal) (hS : CarryInv (aK m c) (clK m c) (512 * t.val) (startSt (isFirst (grid1.coords t)) S)) :
    CarryInv (aK m c) (clK m c) (512 * t.val + 512)
      (blockSt (iblk1 (U5 m) c 0 t) (iblk1 (U5 m) c 1 t) (iblk1 (U5 m) c 2 t) (startSt (isFirst (grid1.coords t)) S)) :=
  blockSt_inv (aK m c) (clK m c) (512 * t.val) (aK_nonneg m c) (aK_lt m c) _ _ _ (hv1 m c t) (hC1 m c t) _ hS

end Blocks

theorem start_inv (a : Fin 4096 → ℕ → ℝ) (cl : ℕ → Fin 4 → EReal) : CarryInv a cl 0 ⟨k1_pay1 (F := Ideal), k1_pay2 (F := Ideal), k1_pay3 (F := Ideal)⟩ := by
  refine ⟨fun _ => 0, fun p => ?_, fun p => Or.inl ?_, fun p => ?_, fun p r => ?_⟩
  · pointwise [k1_pay1]; exact EReal.coe_zero.symm
  · rw [Tr_zero, Real.log_one]
  · rw [cpr_zero]; pointwise [k1_pay2]; exact EReal.coe_one.symm
  · rw [Finset.range_zero, Finset.sum_empty]; pointwise [k1_pay3]

/-- What the first point starts from holds after no Gaussians. -/
theorem carry_start (n : ℕ) (h : n < cfg1.N) (S : Carry Ideal) (hS : n ≠ 0 → CarryInv (aK m c) (clK m c) (512 * n) S) :
    CarryInv (aK m c) (clK m c) (512 * n) (startSt (isFirst (grid1.coords ⟨n, h⟩)) S) := by
  rw [isFirst_val]
  unfold startSt
  rcases Nat.eq_zero_or_pos n with rfl | hn
  · rw [if_pos rfl, if_pos rfl]; exact start_inv _ _
  · rw [if_neg (show ¬ n = 0 by omega), if_neg (by decide)]; exact hS (by omega)

theorem carry_inv (n : ℕ) (h : n < cfg1.N) (hn : n < 7) : CarryInv (aK m c) (clK m c) (512 * n + 512) (carry (U5 m) c n h) := by
  have fin (S : Carry Ideal) : finSt (isLast (grid1.coords ⟨n, h⟩)) (iblk1 (U5 m) c 3 ⟨n, h⟩) S = S := by
    rw [isLast_val]; unfold finSt; rw [if_neg (show ¬ n = 7 by omega), if_neg (by decide)]
  induction n with
  | zero =>
    show CarryInv _ _ _ (stepAt (U5 m) c ⟨0, h⟩ _)
    unfold stepAt
    rw [fin]
    exact stage_inv m c ⟨0, h⟩ _ (carry_start m c 0 h _ fun hh => absurd rfl hh)
  | succ n ih =>
    show CarryInv _ _ _ (stepAt (U5 m) c ⟨n + 1, h⟩ _)
    unfold stepAt
    rw [fin]
    refine stage_inv m c ⟨n + 1, h⟩ _ (carry_start m c (n + 1) h _ fun _ => ?_)
    rw [Nat.mul_add, Nat.mul_one]
    refine ih _ (by omega) fun S => ?_
    rw [isLast_val]; unfold finSt; rw [if_neg (show ¬ n = 7 by omega), if_neg (by decide)]

/-- What the last point leaves: the weighted colours of all the Gaussians, and the background by what passes them. -/
theorem carry_last (h : 7 < cfg1.N) (N : ℕ) (hN : N = 4096) (p : Fin 4096) (r : Fin 4) : (carry (U5 m) c 7 h).out (ix2 p r)
    = (∑ k ∈ Finset.range N, ((wr (aK m c p) k : ℝ) : EReal) * clK m c k r) + ((cpr (aK m c p) N : ℝ) : EReal) * bgK m c r := by
  have hs := stage_inv m c ⟨7, h⟩ _ (carry_start m c 7 h (carry (U5 m) c 6 (Nat.lt_of_succ_lt h)) fun _ => carry_inv m c 6 _ (by omega))
  obtain ⟨lr, _, _, ht, ho⟩ := hs
  show (stepAt (U5 m) c ⟨7, h⟩ (carry (U5 m) c 6 (Nat.lt_of_succ_lt h))).out (ix2 p r) = _
  unfold stepAt
  rw [isLast_val]
  unfold finSt
  rw [if_pos rfl, if_pos rfl]
  refine (pay20_at _ _ _ p r).trans ?_
  rw [ht, ho, blk1_3, W5_v31, show 512 * (⟨7, h⟩ : Fin cfg1.N).val + 512 = N from hN.symm]

/-- A channel of a pixel. -/
def chK (N : ℕ) (p : Fin 4096) (r : Fin 4) : EReal :=
  (∑ k ∈ Finset.range N, ((wr (aK m c p) k : ℝ) : EReal) * clK m c k r) + ((cpr (aK m c p) N : ℝ) : EReal) * bgK m c r

theorem arr1_4 (N : ℕ) (hN : N = 4096) : (dat1 (U5 m) c).arrAt 4 cfg1.N = fun i : S4096x4.Idx => chK m c N (i 0) (i 1) := by
  refine (dat1 (U5 m) c).arrAt_eq_of_after_last 4 t1_7 (by decide +kernel) _ fun j => ?_
  blk_simp
  rw [after1_4]
  idx_vars j
  exact carry_last m c (show 7 < cfg1.N from t1_7.isLt) N hN j0 j1

theorem W6_v32 (N : ℕ) (hN : N = 4096) (p : Fin 4096) (r : Fin 4) : W6 m c (Proc.devRef .tc main_v32) (ix2 p r) = chK m c N p r :=
  congrFun ((W6_arr m c 4).trans (arr1_4 m c N hN)) (ix2 p r)

theorem W7_v35 (N : ℕ) (hN : N = 4096) (k : Fin 3) (y x : Fin 64) : W7 m c (Proc.devRef .tc main_v35) (ix3 k y x)
    = chK m c N ⟨y.val * 64 + x.val, by omega⟩ ⟨k.val, by omega⟩ :=
  (p_v35 (W6 m c) k y x).trans (W6_v32 m c N hN _ _)

theorem W7_v38 (N : ℕ) (hN : N = 4096) (y x : Fin 64) : W7 m c (Proc.devRef .tc main_v38) (ix3 0 y x)
    = chK m c N ⟨y.val * 64 + x.val, by omega⟩ 3 :=
  (p_v38 (W6 m c) y x).trans (W6_v32 m c N hN _ _)

end Cert.KernelIdeal.Hand
-- ==== Proof.RProj.lean ====
/- The reference's projection: the buffers of its host program read at one Gaussian are the numbers of the
   same name in the specification. -/
module

public import proofs.«01_k».proof.Proof.RefFrame
public import proofs.«01_k».proof.Proof.Spec
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe

section Stretches

variable (V : Valuation τ sig (Elt Ideal)) (g : Fin 4096 → Gin)

theorem s0_v1 (n : Fin 4096) (j : Fin 3) : StableHlo.after hostOps0 V (Proc.devRef .tc main_v1) (ix2 n j)
    = V (Proc.devRef .tc main_arg4) (ix2 n j) := by
  after_reads_at

theorem s1_v2 (h5 : ∀ n k, V (Proc.devRef .tc main_arg5) (ix2 n k) = (g n).q k) (n : Fin 4096) :
    StableHlo.after hostOps0_1 V (Proc.devRef .tc main_v2) (ix2 n 0)
    = Ideal.sqrt ((g n).q 0 * (g n).q 0 + (g n).q 1 * (g n).q 1 + (g n).q 2 * (g n).q 2 + (g n).q 3 * (g n).q 3) := by
  after_reads_at
  simp only [h5, Fin.sum_univ_four, zero_add]

section Two
variable
  (hs : ∀ n k, V (Proc.devRef .tc main_v1) (ix2 n k) = (g n).s k)
  (h2 : ∀ n, V (Proc.devRef .tc main_v2) (ix2 n 0) = Ideal.sqrt ((g n).q 0 * (g n).q 0 + (g n).q 1 * (g n).q 1 + (g n).q 2 * (g n).q 2 + (g n).q 3 * (g n).q 3))
  (h5 : ∀ n k, V (Proc.devRef .tc main_arg5) (ix2 n k) = (g n).q k)
  (h0 : ∀ n k, V (Proc.devRef .tc main_arg0) (ix2 n k) = (g n).m k)
  (h6 : ∀ n i j, V (Proc.devRef .tc main_arg6) (ix2 i j) = (g n).V i j)
  (h7 : ∀ n i j, V (Proc.devRef .tc main_arg7) (ix2 i j) = (g n).P i j)

include h2 h5 in
theorem s2_rot0 (n : Fin 4096) : StableHlo.upto hostOps0_2 V 85 (Proc.devRef .tc main_v66) (ix2 n 0) = (g n).rot 0 0 := by
  after_reads_at
  simp only [h2, h5]
  rfl
include h2 h5 in
theorem s2_rot1 (n : Fin 4096) : StableHlo.upto hostOps0_2 V 85 (Proc.devRef .tc main_v67) (ix2 n 0) = (g n).rot 0 1 := by
  after_reads_at
  simp only [h2, h5]
  rfl
include h2 h5 in
theorem s2_rot2 (n : Fin 4096) : StableHlo.upto hostOps0_2 V 85 (Proc.devRef .tc main_v68) (ix2 n 0) = (g n).rot 0 2 := by
  after_reads_at
  simp only [h2, h5]
  rfl
include h2 h5 in
theorem s2_rot3 (n : Fin 4096) : StableHlo.upto hostOps0_2 V 85 (Proc.devRef .tc main_v69) (ix2 n 0) = (g n).rot 1 0 := by
  after_reads_at
  simp only [h2, h5]
  rfl
include h2 h5 in
theorem s2_rot4 (n : Fin 4096) : StableHlo.upto hostOps0_2 V 85 (Proc.devRef .tc main_v70) (ix2 n 0) = (g n).rot 1 1 := by
  after_reads_at
  simp only [h2, h5]
  rfl
include h2 h5 in
theorem s2_rot5 (n : Fin 4096) : StableHlo.upto hostOps0_2 V 85 (Proc.devRef .tc main_v71) (ix2 n 0) = (g n).rot 1 2 := by
  after_reads_at
  simp only [h2, h5]
  rfl
include h2 h5 in
theorem s2_rot6 (n : Fin 4096) : StableHlo.upto hostOps0_2 V 85 (Proc.devRef .tc main_v72) (ix2 n 0) = (g n).rot 2 0 := by
  after_reads_at
  simp only [h2, h5]
  rfl
include h2 h5 in
theorem s2_rot7 (n : Fin 4096) : StableHlo.upto hostOps0_2 V 85 (Proc.devRef .tc main_v73) (ix2 n 0) = (g n).rot 2 1 := by
  after_reads_at
  simp only [h2, h5]
  rfl
include h2 h5 in
theorem s2_rot8 (n : Fin 4096) : StableHlo.upto hostOps0_2 V 85 (Proc.devRef .tc main_v74) (ix2 n 0) = (g n).rot 2 2 := by
  after_reads_at
  simp only [h2, h5]
  rfl
include hs h2 h5 in
theorem s2_M0 (n : Fin 4096) : StableHlo.after hostOps0_2 V (Proc.devRef .tc main_v79) (ix3 n 0 0) = (g n).M 0 0 := by
  after_reads_at
  rw [s2_rot0 V g h2 h5, hs]
  rfl
include hs h2 h5 in
theorem s2_M1 (n : Fin 4096) : StableHlo.after hostOps0_2 V (Proc.devRef .tc main_v79) (ix3 n 0 1) = (g n).M 0 1 := by
  after_reads_at
  rw [s2_rot1 V g h2 h5, hs]
  rfl
include hs h2 h5 in
theorem s2_M2 (n : Fin 4096) : StableHlo.after hostOps0_2 V (Proc.devRef .tc main_v79) (ix3 n 0 2) = (g n).M 0 2 := by
  after_reads_at
  rw [s2_rot2 V g h2 h5, hs]
  rfl
include hs h2 h5 in
theorem s2_M3 (n : Fin 4096) : StableHlo.after hostOps0_2 V (Proc.devRef .tc main_v79) (ix3 n 1 0) = (g n).M 1 0 := by
  after_reads_at
  rw [s2_rot3 V g h2 h5, hs]
  rfl
include hs h2 h5 in
theorem s2_M4 (n : Fin 4096) : StableHlo.after hostOps0_2 V (Proc.devRef .tc main_v79) (ix3 n 1 1) = (g n).M 1 1 := by
  after_reads_at
  rw [s2_rot4 V g h2 h5, hs]
  rfl
include hs h2 h5 in
theorem s2_M5 (n : Fin 4096) : StableHlo.after hostOps0_2 V (Proc.devRef .tc main_v79) (ix3 n 1 2) = (g n).M 1 2 := by
  after_reads_at
  rw [s2_rot5 V g h2 h5, hs]
  rfl
include hs h2 h5 in
theorem s2_M6 (n : Fin 4096) : StableHlo.after hostOps0_2 V (Proc.devRef .tc main_v79) (ix3 n 2 0) = (g n).M 2 0 := by
  after_reads_at
  rw [s2_rot6 V g h2 h5, hs]
  rfl
include hs h2 h5 in
theorem s2_M7 (n : Fin 4096) : StableHlo.after hostOps0_2 V (Proc.devRef .tc main_v79) (ix3 n 2 1) = (g n).M 2 1 := by
  after_reads_at
  rw [s2_rot7 V g h2 h5, hs]
  rfl
include hs h2 h5 in
theorem s2_M8 (n : Fin 4096) : StableHlo.after hostOps0_2 V (Proc.devRef .tc main_v79) (ix3 n 2 2) = (g n).M 2 2 := by
  after_reads_at
  rw [s2_rot8 V g h2 h5, hs]
  rfl
include h0 h6 in
theorem s2_v87 (n : Fin 4096) : StableHlo.after hostOps0_2 V (Proc.devRef .tc main_v87) (ix1 n) = (g n).t 0 := by
  after_reads_at
  simp only [h0, h6 n, Fin.sum_univ_three]
  after_reads_at
  simp only [h0, Fin.sum_univ_one, Gin.t, mul_comm]
include h0 h6 in
theorem s2_v89 (n : Fin 4096) : StableHlo.after hostOps0_2 V (Proc.devRef .tc main_v89) (ix1 n) = (g n).t 1 := by
  after_reads_at
  simp only [h0, h6 n, Fin.sum_univ_three]
  after_reads_at
  simp only [h0, Fin.sum_univ_one, Gin.t, mul_comm]
include h0 h6 in
theorem s2_v91 (n : Fin 4096) : StableHlo.after hostOps0_2 V (Proc.devRef .tc main_v91) (ix1 n) = (g n).t 2 := by
  after_reads_at
  simp only [h0, h6 n, Fin.sum_univ_three]
  after_reads_at
  simp only [h0, Fin.sum_univ_one, Gin.t, mul_comm]
end Two
end Stretches

end Cert.ReferenceIdeal.Hand
-- ==== Proof.RProj2.lean ====
/- The reference's projection, continued: the buffers of its host program read at one Gaussian are the numbers of the
   same name in the specification. -/
module

public import proofs.«01_k».proof.Proof.RProj
public import proofs.«01_k».proof.Proof.Spec
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe

section Stretches

variable (V : Valuation τ sig (Elt Ideal)) (g : Fin 4096 → Gin)

section Two
variable
  (hs : ∀ n k, V (Proc.devRef .tc main_v1) (ix2 n k) = (g n).s k)
  (h2 : ∀ n, V (Proc.devRef .tc main_v2) (ix2 n 0) = Ideal.sqrt ((g n).q 0 * (g n).q 0 + (g n).q 1 * (g n).q 1 + (g n).q 2 * (g n).q 2 + (g n).q 3 * (g n).q 3))
  (h5 : ∀ n k, V (Proc.devRef .tc main_arg5) (ix2 n k) = (g n).q k)
  (h0 : ∀ n k, V (Proc.devRef .tc main_arg0) (ix2 n k) = (g n).m k)
  (h6 : ∀ n i j, V (Proc.devRef .tc main_arg6) (ix2 i j) = (g n).V i j)
  (h7 : ∀ n i j, V (Proc.devRef .tc main_arg7) (ix2 i j) = (g n).P i j)

include hs h2 h5 in
theorem s2_v79 (n : Fin 4096) (i j : Fin 3) : StableHlo.after hostOps0_2 V (Proc.devRef .tc main_v79) (ix3 n i j) = (g n).M i j := by
  fin_cases i <;> fin_cases j
  · exact s2_M0 V g hs h2 h5 n
  · exact s2_M1 V g hs h2 h5 n
  · exact s2_M2 V g hs h2 h5 n
  · exact s2_M3 V g hs h2 h5 n
  · exact s2_M4 V g hs h2 h5 n
  · exact s2_M5 V g hs h2 h5 n
  · exact s2_M6 V g hs h2 h5 n
  · exact s2_M7 V g hs h2 h5 n
  · exact s2_M8 V g hs h2 h5 n

theorem s2_v81_eq : StableHlo.after hostOps0_2 V (Proc.devRef .tc main_v81)
    = Host.dotGeneral (F := Ideal) (φ₁ := .f32) (φ₂ := .f32) dot_S4096x3x3_S4096x3x3_S4096x3x3_2_1_1_2_0_0 none (StableHlo.after hostOps0_2 V (Proc.devRef .tc main_v79))
      (transpose S4096x3x3 [0, 2, 1] (StableHlo.after hostOps0_2 V (Proc.devRef .tc main_v79)) transposes_S4096x3x3_S4096x3x3_0_2_1) := by
  after_reads_simp

include hs h2 h5 in
theorem s2_v81 (n : Fin 4096) (i j : Fin 3) : StableHlo.after hostOps0_2 V (Proc.devRef .tc main_v81) (ix3 n i j) = (g n).cov3 i j := by
  rw [s2_v81_eq]
  pointwise [s2_v79 V g hs h2 h5]
  simp only [Fin.sum_univ_three]
  rfl
include h0 h7 in
theorem s2_v103_0 (n : Fin 4096) : StableHlo.after hostOps0_2 V (Proc.devRef .tc main_v103) (ix2 n 0) = (g n).h 0 * (g n).pw := by
  after_reads_at
  simp only [h0, h7 n, Fin.sum_univ_three]
  after_reads_at
  simp only [h0, Fin.sum_univ_one, Gin.h, Gin.pw, mul_comm, lit]
  exact mul_comm _ _
include h0 h7 in
theorem s2_v103_1 (n : Fin 4096) : StableHlo.after hostOps0_2 V (Proc.devRef .tc main_v103) (ix2 n 1) = (g n).h 1 * (g n).pw := by
  after_reads_at
  simp only [h0, h7 n, Fin.sum_univ_three]
  after_reads_at
  simp only [h0, Fin.sum_univ_one, Gin.h, Gin.pw, mul_comm, lit]
  exact mul_comm _ _
include h0 h6 in
theorem s2_v106 (n : Fin 4096) : StableHlo.after hostOps0_2 V (Proc.devRef .tc main_v106) (ix1 n)
    = BitVec.ofBool (decide (FloatOps.absf (F := Ideal) (φ := .f32) ((g n).t 2) < lit 0x358637BD#32)) := by
  rw [← s2_v91 V g h0 h6]
  after_reads_at
theorem s2_cst17 : StableHlo.after hostOps0_2 V (Proc.devRef .tc main_cst_17) ix0 = lit 0x358637BD#32 := by
  after_reads_at
end Two
end Stretches

end Cert.ReferenceIdeal.Hand
-- ==== Proof.RProj3.lean ====
/- The reference's projection, continued: the buffers of its host program read at one Gaussian are the numbers of the
   same name in the specification. -/
module

public import proofs.«01_k».proof.Proof.RProj2
public import proofs.«01_k».proof.Proof.Spec
public import Idealize.ShloMosaic.Lib.Pipeline.ValueKit
public import Idealize.ShloMosaic.Lib.StableHlo.RunRead
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe

section Stretches

variable (V : Valuation τ sig (Elt Ideal)) (g : Fin 4096 → Gin)

theorem s3_v107 (h : ∀ n, V (Proc.devRef .tc main_v91) (ix1 n) = (g n).t 2)
    (hc : V (Proc.devRef .tc main_cst_17) ix0 = lit 0x358637BD#32)
    (hb : ∀ n, V (Proc.devRef .tc main_v106) (ix1 n) = BitVec.ofBool (decide (FloatOps.absf (F := Ideal) (φ := .f32) ((g n).t 2) < lit 0x358637BD#32)))
    (n : Fin 4096) : StableHlo.after hostOps0_3 V (Proc.devRef .tc main_v107) (ix1 n) = (g n).tzc := by
  after_reads_at
  simp only [id_eq]
  rw [hb, h, hc]
  unfold Gin.tzc
  by_cases e : FloatOps.absf (F := Ideal) (φ := .f32) ((g n).t 2) < lit 0x358637BD#32 <;> simp [e, Scalar.select]

theorem s4_v108 (h : ∀ n, V (Proc.devRef .tc main_v87) (ix1 n) = (g n).t 0) (hz : ∀ n, V (Proc.devRef .tc main_v107) (ix1 n) = (g n).tzc)
    (n : Fin 4096) : StableHlo.after hostOps0_4 V (Proc.devRef .tc main_v108) (ix1 n) = Ideal.div ((g n).t 0) (g n).tzc := by
  after_reads_at
  rw [h, hz]
theorem s4_cst18 : StableHlo.after hostOps0_4 V (Proc.devRef .tc main_cst_18) ix0 = lit 0xBF266666#32 := by after_reads_at
theorem s4_cst19 : StableHlo.after hostOps0_4 V (Proc.devRef .tc main_cst_19) ix0 = lit 0x3F266666#32 := by after_reads_at

theorem s5_v109 (x : Fin 4096 → EReal) (h : ∀ n, V (Proc.devRef .tc main_v108) (ix1 n) = x n)
    (h18 : V (Proc.devRef .tc main_cst_18) ix0 = lit 0xBF266666#32) (h19 : V (Proc.devRef .tc main_cst_19) ix0 = lit 0x3F266666#32)
    (n : Fin 4096) : StableHlo.after hostOps0_5 V (Proc.devRef .tc main_v109) (ix1 n) = min (lit 0x3F266666#32) (max (lit 0xBF266666#32) (x n)) := by
  after_reads_at
  simp only [id_eq]
  rw [h, h18, h19]

theorem s6_v110 (h : ∀ n, V (Proc.devRef .tc main_v109) (ix1 n) = min (lit 0x3F266666#32) (max (lit 0xBF266666#32) (Ideal.div ((g n).t 0) (g n).tzc)))
    (hz : ∀ n, V (Proc.devRef .tc main_v107) (ix1 n) = (g n).tzc)
    (n : Fin 4096) : StableHlo.after hostOps0_6 V (Proc.devRef .tc main_v110) (ix1 n) = (g n).clip ((g n).t 0) := by
  after_reads_at
  rw [h, hz]
  rfl
theorem s6_v111 (h : ∀ n, V (Proc.devRef .tc main_v89) (ix1 n) = (g n).t 1) (hz : ∀ n, V (Proc.devRef .tc main_v107) (ix1 n) = (g n).tzc)
    (n : Fin 4096) : StableHlo.after hostOps0_6 V (Proc.devRef .tc main_v111) (ix1 n) = Ideal.div ((g n).t 1) (g n).tzc := by
  after_reads_at
  rw [h, hz]
theorem s6_cst20 : StableHlo.after hostOps0_6 V (Proc.devRef .tc main_cst_20) ix0 = lit 0xBF266666#32 := by after_reads_at
theorem s6_cst21 : StableHlo.after hostOps0_6 V (Proc.devRef .tc main_cst_21) ix0 = lit 0x3F266666#32 := by after_reads_at

theorem s7_v112 (x : Fin 4096 → EReal) (h : ∀ n, V (Proc.devRef .tc main_v111) (ix1 n) = x n)
    (h18 : V (Proc.devRef .tc main_cst_20) ix0 = lit 0xBF266666#32) (h19 : V (Proc.devRef .tc main_cst_21) ix0 = lit 0x3F266666#32)
    (n : Fin 4096) : StableHlo.after hostOps0_7 V (Proc.devRef .tc main_v112) (ix1 n) = min (lit 0x3F266666#32) (max (lit 0xBF266666#32) (x n)) := by
  after_reads_at
  simp only [id_eq]
  rw [h, h18, h19]

section Eight
variable
  (hz : ∀ n, V (Proc.devRef .tc main_v107) (ix1 n) = (g n).tzc)
  (hx : ∀ n, V (Proc.devRef .tc main_v110) (ix1 n) = (g n).clip ((g n).t 0))
  (hy : ∀ n, V (Proc.devRef .tc main_v112) (ix1 n) = min (lit 0x3F266666#32) (max (lit 0xBF266666#32) (Ideal.div ((g n).t 1) (g n).tzc)))
  (h6 : ∀ n i j, V (Proc.devRef .tc main_arg6) (ix2 i j) = (g n).V i j)
  (hc : ∀ n i j, V (Proc.devRef .tc main_v81) (ix3 n i j) = (g n).cov3 i j)
  (ht : ∀ n, V (Proc.devRef .tc main_v91) (ix1 n) = (g n).t 2)

include hz hx hy h6 in
theorem s8_T00 (n : Fin 4096) : StableHlo.after hostOps0_8 V (Proc.devRef .tc main_v144) (ix3 n 0 0) = (g n).T 0 0 := by
  after_reads_at
  simp only [Fin.sum_univ_three]
  after_reads_at
  after_reads_at
  simp only [hz, hx, hy, h6 n, zero_mul, zero_add, add_zero]
  rfl
include hz hx hy h6 in
theorem s8_T01 (n : Fin 4096) : StableHlo.after hostOps0_8 V (Proc.devRef .tc main_v144) (ix3 n 0 1) = (g n).T 0 1 := by
  after_reads_at
  simp only [Fin.sum_univ_three]
  after_reads_at
  after_reads_at
  simp only [hz, hx, hy, h6 n, zero_mul, zero_add, add_zero]
  rfl
include hz hx hy h6 in
theorem s8_T02 (n : Fin 4096) : StableHlo.after hostOps0_8 V (Proc.devRef .tc main_v144) (ix3 n 0 2) = (g n).T 0 2 := by
  after_reads_at
  simp only [Fin.sum_univ_three]
  after_reads_at
  after_reads_at
  simp only [hz, hx, hy, h6 n, zero_mul, zero_add, add_zero]
  rfl
include hz hx hy h6 in
theorem s8_T10 (n : Fin 4096) : StableHlo.after hostOps0_8 V (Proc.devRef .tc main_v144) (ix3 n 1 0) = (g n).T 1 0 := by
  after_reads_at
  simp only [Fin.sum_univ_three]
  after_reads_at
  after_reads_at
  simp only [hz, hx, hy, h6 n, zero_mul, zero_add, add_zero]
  rfl
include hz hx hy h6 in
theorem s8_T11 (n : Fin 4096) : StableHlo.after hostOps0_8 V (Proc.devRef .tc main_v144) (ix3 n 1 1) = (g n).T 1 1 := by
  after_reads_at
  simp only [Fin.sum_univ_three]
  after_reads_at
  after_reads_at
  simp only [hz, hx, hy, h6 n, zero_mul, zero_add, add_zero]
  rfl
include hz hx hy h6 in
theorem s8_T12 (n : Fin 4096) : StableHlo.after hostOps0_8 V (Proc.devRef .tc main_v144) (ix3 n 1 2) = (g n).T 1 2 := by
  after_reads_at
  simp only [Fin.sum_univ_three]
  after_reads_at
  after_reads_at
  simp only [hz, hx, hy, h6 n, zero_mul, zero_add, add_zero]
  rfl

include hz hx hy h6 in
theorem s8_T (n : Fin 4096) (i : Fin 2) (j : Fin 3) :
    StableHlo.after hostOps0_8 V (Proc.devRef .tc main_v144) (ix3 n i.castSucc j) = (g n).T i j := by
  fin_cases i <;> fin_cases j
  · exact s8_T00 V g hz hx hy h6 n
  · exact s8_T01 V g hz hx hy h6 n
  · exact s8_T02 V g hz hx hy h6 n
  · exact s8_T10 V g hz hx hy h6 n
  · exact s8_T11 V g hz hx hy h6 n
  · exact s8_T12 V g hz hx hy h6 n

theorem s8_v147_eq : StableHlo.after hostOps0_8 V (Proc.devRef .tc main_v147)
    = Host.dotGeneral (F := Ideal) (φ₁ := .f32) (φ₂ := .f32) dot_S4096x3x3_S4096x3x3_S4096x3x3_2_1_1_2_0_0 none
      (Host.dotGeneral (F := Ideal) (φ₁ := .f32) (φ₂ := .f32) dot_S4096x3x3_S4096x3x3_S4096x3x3_2_1_1_2_0_0 none
        (StableHlo.after hostOps0_8 V (Proc.devRef .tc main_v144)) (V (Proc.devRef .tc main_v81)))
      (transpose S4096x3x3 [0, 2, 1] (StableHlo.after hostOps0_8 V (Proc.devRef .tc main_v144)) transposes_S4096x3x3_S4096x3x3_0_2_1) := by
  after_reads_simp

include hz hx hy h6 hc in
theorem s8_v147 (n : Fin 4096) (i j : Fin 2) :
    StableHlo.after hostOps0_8 V (Proc.devRef .tc main_v147) (ix3 n i.castSucc j.castSucc) = (g n).cov2 i j := by
  rw [s8_v147_eq]
  pointwise [s8_T V g hz hx hy h6, hc]
  simp only [Fin.sum_univ_three]
  rfl

include hz hx hy h6 hc in
theorem s8_v151 (n : Fin 4096) : StableHlo.after hostOps0_8 V (Proc.devRef .tc main_v151) (ix1 n) = (g n).a := by
  unfold Gin.a
  have e : StableHlo.after hostOps0_8 V (Proc.devRef .tc main_v147) (ix3 n 0 0) = (g n).cov2 0 0 := s8_v147 V g hz hx hy h6 hc n 0 0
  rw [← e]
  after_reads_at
  try rfl
include hz hx hy h6 hc in
theorem s8_v153 (n : Fin 4096) : StableHlo.after hostOps0_8 V (Proc.devRef .tc main_v153) (ix1 n) = (g n).b := by
  unfold Gin.b
  have e : StableHlo.after hostOps0_8 V (Proc.devRef .tc main_v147) (ix3 n 0 1) = (g n).cov2 0 1 := s8_v147 V g hz hx hy h6 hc n 0 1
  rw [← e]
  after_reads_at
  try rfl
include hz hx hy h6 hc in
theorem s8_v157 (n : Fin 4096) : StableHlo.after hostOps0_8 V (Proc.devRef .tc main_v157) (ix1 n) = (g n).c := by
  unfold Gin.c
  have e : StableHlo.after hostOps0_8 V (Proc.devRef .tc main_v147) (ix3 n 1 1) = (g n).cov2 1 1 := s8_v147 V g hz hx hy h6 hc n 1 1
  rw [← e]
  after_reads_at
  try rfl
include hz hx hy h6 hc in
theorem s8_v160 (n : Fin 4096) : StableHlo.after hostOps0_8 V (Proc.devRef .tc main_v160) (ix1 n) = (g n).det := by
  unfold Gin.det
  rw [← s8_v151 V g hz hx hy h6 hc n, ← s8_v153 V g hz hx hy h6 hc n, ← s8_v157 V g hz hx hy h6 hc n]
  after_reads_at
  try rfl
include hz hx hy h6 hc ht in
theorem s8_v165 (n : Fin 4096) : StableHlo.after hostOps0_8 V (Proc.devRef .tc main_v165) (ix1 n) = (g n).valid := by
  unfold Gin.valid
  rw [← s8_v160 V g hz hx hy h6 hc n, ← ht]
  after_reads_at
  try rfl
theorem s8_cst31 : StableHlo.after hostOps0_8 V (Proc.devRef .tc main_cst_31) ix0 = (1 : EReal) := by after_reads_at

end Eight

theorem s9_v166 (hv : ∀ n, V (Proc.devRef .tc main_v165) (ix1 n) = (g n).valid)
    (hd : ∀ n, V (Proc.devRef .tc main_v160) (ix1 n) = (g n).det) (h1 : V (Proc.devRef .tc main_cst_31) ix0 = (1 : EReal)) (n : Fin 4096) :
    StableHlo.after hostOps0_9 V (Proc.devRef .tc main_v166) (ix1 n) = (g n).ds := by
  after_reads_at
  simp only [id_eq]
  rw [hv, hd, h1]
  rfl

section Ten
variable (ha : ∀ n, V (Proc.devRef .tc main_v151) (ix1 n) = (g n).a) (hb : ∀ n, V (Proc.devRef .tc main_v153) (ix1 n) = (g n).b)
  (hc : ∀ n, V (Proc.devRef .tc main_v157) (ix1 n) = (g n).c) (hd : ∀ n, V (Proc.devRef .tc main_v166) (ix1 n) = (g n).ds)
  (hp : ∀ n (k : Fin 2), V (Proc.devRef .tc main_v103) (ix2 n k.castSucc) = (g n).h (k.castSucc.castSucc) * (g n).pw)
include hc hd in
theorem s10_v167 (n : Fin 4096) : StableHlo.after hostOps0_10 V (Proc.devRef .tc main_v167) (ix1 n) = (g n).cA := by
  after_reads_at
  rw [hc, hd]
  rfl
include hb hd in
theorem s10_v169 (n : Fin 4096) : StableHlo.after hostOps0_10 V (Proc.devRef .tc main_v169) (ix1 n) = (g n).cB := by
  after_reads_at
  rw [hb, hd]
  rfl
include ha hd in
theorem s10_v170 (n : Fin 4096) : StableHlo.after hostOps0_10 V (Proc.devRef .tc main_v170) (ix1 n) = (g n).cC := by
  after_reads_at
  rw [ha, hd]
  rfl
include hp in
theorem s10_v180 (n : Fin 4096) : StableHlo.after hostOps0_10 V (Proc.devRef .tc main_v180) (ix1 n) = (g n).pix ((g n).h 0) := by
  after_reads_at
  rw [show V (Proc.devRef .tc main_v103) (ix2 n 0) = _ from hp n 0]
  rfl
include hp in
theorem s10_v190 (n : Fin 4096) : StableHlo.after hostOps0_10 V (Proc.devRef .tc main_v190) (ix1 n) = (g n).pix ((g n).h 1) := by
  after_reads_at
  rw [show V (Proc.devRef .tc main_v103) (ix2 n 1) = _ from hp n 1]
  rfl
end Ten

theorem s11_v191 : StableHlo.after hostOps0_11 V (Proc.devRef .tc main_v191)
    = (Host.sort2 S4096 0 (comparator_f32_i32_d0 (F := Ideal)) (V (Proc.devRef .tc main_v91)) (iotaInDim S4096 32 0)).2 := by
  after_reads_simp
  simp -implicitDefEqProofs only [StableHlo.TRef.toBuf, StableHlo.TRef.ofBuf, cast_cast, cast_eq]
end Stretches

end Cert.ReferenceIdeal.Hand
-- ==== Proof.RChain.lean ====
/- The reference's projection from its arguments: the valuations after each stretch of its host program, and the numbers
   of every Gaussian in them. -/
module

public import proofs.«01_k».proof.Proof.RProj3
public import proofs.«01_k».proof.Proof.RefFrame

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe Idealize.ShloMosaic.StableHlo

section Chain

variable (m : (ℓ : Loc nD τ sig) → Buf (Elt Ideal) ℓ) (c : Dev nD)

/-- Gaussian `n` of the reference's arguments. -/
def gR (n : Fin 4096) : Gin :=
  ginA (m ((c.tc : Thread nD τ).loc main_arg0)) (m ((c.tc : Thread nD τ).loc main_arg4)) (m ((c.tc : Thread nD τ).loc main_arg5))
    (m ((c.tc : Thread nD τ).loc main_arg6)) (m ((c.tc : Thread nD τ).loc main_arg7)) n

/-- The contents after the first stretch of the host program; below, after each of the others. -/
def R0 : Valuation τ sig (Elt Ideal) := StableHlo.after hostOps0 (fun b => m (c, b))
def R1 : Valuation τ sig (Elt Ideal) := StableHlo.after hostOps0_1 (R0 m c)
def R2 : Valuation τ sig (Elt Ideal) := StableHlo.after hostOps0_2 (R1 m c)
def R3 : Valuation τ sig (Elt Ideal) := StableHlo.after hostOps0_3 (R2 m c)
def R4 : Valuation τ sig (Elt Ideal) := StableHlo.after hostOps0_4 (R3 m c)
def R5 : Valuation τ sig (Elt Ideal) := StableHlo.after hostOps0_5 (R4 m c)
def R6 : Valuation τ sig (Elt Ideal) := StableHlo.after hostOps0_6 (R5 m c)
def R7 : Valuation τ sig (Elt Ideal) := StableHlo.after hostOps0_7 (R6 m c)
def R8 : Valuation τ sig (Elt Ideal) := StableHlo.after hostOps0_8 (R7 m c)
def R9 : Valuation τ sig (Elt Ideal) := StableHlo.after hostOps0_9 (R8 m c)
def R10 : Valuation τ sig (Elt Ideal) := StableHlo.after hostOps0_10 (R9 m c)
def R11 : Valuation τ sig (Elt Ideal) := StableHlo.after hostOps0_11 (R10 m c)
def R12 : Valuation τ sig (Elt Ideal) := StableHlo.after hostOps0_12 (R11 m c)
def R13 : Valuation τ sig (Elt Ideal) := StableHlo.after hostOps0_13 (R12 m c)
def R14 : Valuation τ sig (Elt Ideal) := StableHlo.after hostOps0_14 (R13 m c)
def R15 : Valuation τ sig (Elt Ideal) := StableHlo.after hostOps0_15 (R14 m c)
def R16 : Valuation τ sig (Elt Ideal) := StableHlo.after hostOps0_16 (R15 m c)
def R17 : Valuation τ sig (Elt Ideal) := StableHlo.after hostOps0_17 (R16 m c)
def R18 : Valuation τ sig (Elt Ideal) := StableHlo.after hostOps0_18 (R17 m c)
def R19 : Valuation τ sig (Elt Ideal) := StableHlo.after hostOps0_19 (R18 m c)
def R20 : Valuation τ sig (Elt Ideal) := StableHlo.after hostOps0_20 (R19 m c)
def R21 : Valuation τ sig (Elt Ideal) := StableHlo.after hostOps0_21 (R20 m c)
def R22 : Valuation τ sig (Elt Ideal) := StableHlo.after hostOps0_22 (R21 m c)
def R23 : Valuation τ sig (Elt Ideal) := StableHlo.after hostOps0_23 (R22 m c)
def R24 : Valuation τ sig (Elt Ideal) := StableHlo.after hostOps0_24 (R23 m c)

theorem entry_eq : entryContents preI m c = R24 m c := rfl

theorem R0_of (r : Ref sig .tc) (hr : r ∉ hostOps0_W) : R0 m c (Proc.devRef .tc r) = m ((c.tc : Thread nD τ).loc r) :=
  after_of_writes_sub hostOps0 _ hostOps0_writes hr
theorem R1_of (r : Ref sig .tc) (hr : r ∉ hostOps0_1_W) : R1 m c (Proc.devRef .tc r) = R0 m c (Proc.devRef .tc r) :=
  after_of_writes_sub hostOps0_1 _ hostOps0_1_writes hr
theorem R2_of (r : Ref sig .tc) (hr : r ∉ hostOps0_2_W) : R2 m c (Proc.devRef .tc r) = R1 m c (Proc.devRef .tc r) :=
  after_of_writes_sub hostOps0_2 _ hostOps0_2_writes hr
theorem R3_of (r : Ref sig .tc) (hr : r ∉ hostOps0_3_W) : R3 m c (Proc.devRef .tc r) = R2 m c (Proc.devRef .tc r) :=
  after_of_writes_sub hostOps0_3 _ hostOps0_3_writes hr
theorem R4_of (r : Ref sig .tc) (hr : r ∉ hostOps0_4_W) : R4 m c (Proc.devRef .tc r) = R3 m c (Proc.devRef .tc r) :=
  after_of_writes_sub hostOps0_4 _ hostOps0_4_writes hr
theorem R5_of (r : Ref sig .tc) (hr : r ∉ hostOps0_5_W) : R5 m c (Proc.devRef .tc r) = R4 m c (Proc.devRef .tc r) :=
  after_of_writes_sub hostOps0_5 _ hostOps0_5_writes hr
theorem R6_of (r : Ref sig .tc) (hr : r ∉ hostOps0_6_W) : R6 m c (Proc.devRef .tc r) = R5 m c (Proc.devRef .tc r) :=
  after_of_writes_sub hostOps0_6 _ hostOps0_6_writes hr
theorem R7_of (r : Ref sig .tc) (hr : r ∉ hostOps0_7_W) : R7 m c (Proc.devRef .tc r) = R6 m c (Proc.devRef .tc r) :=
  after_of_writes_sub hostOps0_7 _ hostOps0_7_writes hr
theorem R8_of (r : Ref sig .tc) (hr : r ∉ hostOps0_8_W) : R8 m c (Proc.devRef .tc r) = R7 m c (Proc.devRef .tc r) :=
  after_of_writes_sub hostOps0_8 _ hostOps0_8_writes hr
theorem R9_of (r : Ref sig .tc) (hr : r ∉ hostOps0_9_W) : R9 m c (Proc.devRef .tc r) = R8 m c (Proc.devRef .tc r) :=
  after_of_writes_sub hostOps0_9 _ hostOps0_9_writes hr
theorem R10_of (r : Ref sig .tc) (hr : r ∉ hostOps0_10_W) : R10 m c (Proc.devRef .tc r) = R9 m c (Proc.devRef .tc r) :=
  after_of_writes_sub hostOps0_10 _ hostOps0_10_writes hr
theorem R11_of (r : Ref sig .tc) (hr : r ∉ hostOps0_11_W) : R11 m c (Proc.devRef .tc r) = R10 m c (Proc.devRef .tc r) :=
  after_of_writes_sub hostOps0_11 _ hostOps0_11_writes hr
theorem R12_of (r : Ref sig .tc) (hr : r ∉ hostOps0_12_W) : R12 m c (Proc.devRef .tc r) = R11 m c (Proc.devRef .tc r) :=
  after_of_writes_sub hostOps0_12 _ hostOps0_12_writes hr
theorem R13_of (r : Ref sig .tc) (hr : r ∉ hostOps0_13_W) : R13 m c (Proc.devRef .tc r) = R12 m c (Proc.devRef .tc r) :=
  after_of_writes_sub hostOps0_13 _ hostOps0_13_writes hr
theorem R14_of (r : Ref sig .tc) (hr : r ∉ hostOps0_14_W) : R14 m c (Proc.devRef .tc r) = R13 m c (Proc.devRef .tc r) :=
  after_of_writes_sub hostOps0_14 _ hostOps0_14_writes hr
theorem R15_of (r : Ref sig .tc) (hr : r ∉ hostOps0_15_W) : R15 m c (Proc.devRef .tc r) = R14 m c (Proc.devRef .tc r) :=
  after_of_writes_sub hostOps0_15 _ hostOps0_15_writes hr
theorem R16_of (r : Ref sig .tc) (hr : r ∉ hostOps0_16_W) : R16 m c (Proc.devRef .tc r) = R15 m c (Proc.devRef .tc r) :=
  after_of_writes_sub hostOps0_16 _ hostOps0_16_writes hr
theorem R17_of (r : Ref sig .tc) (hr : r ∉ hostOps0_17_W) : R17 m c (Proc.devRef .tc r) = R16 m c (Proc.devRef .tc r) :=
  after_of_writes_sub hostOps0_17 _ hostOps0_17_writes hr
theorem R18_of (r : Ref sig .tc) (hr : r ∉ hostOps0_18_W) : R18 m c (Proc.devRef .tc r) = R17 m c (Proc.devRef .tc r) :=
  after_of_writes_sub hostOps0_18 _ hostOps0_18_writes hr
theorem R19_of (r : Ref sig .tc) (hr : r ∉ hostOps0_19_W) : R19 m c (Proc.devRef .tc r) = R18 m c (Proc.devRef .tc r) :=
  after_of_writes_sub hostOps0_19 _ hostOps0_19_writes hr
theorem R20_of (r : Ref sig .tc) (hr : r ∉ hostOps0_20_W) : R20 m c (Proc.devRef .tc r) = R19 m c (Proc.devRef .tc r) :=
  after_of_writes_sub hostOps0_20 _ hostOps0_20_writes hr
theorem R21_of (r : Ref sig .tc) (hr : r ∉ hostOps0_21_W) : R21 m c (Proc.devRef .tc r) = R20 m c (Proc.devRef .tc r) :=
  after_of_writes_sub hostOps0_21 _ hostOps0_21_writes hr
theorem R22_of (r : Ref sig .tc) (hr : r ∉ hostOps0_22_W) : R22 m c (Proc.devRef .tc r) = R21 m c (Proc.devRef .tc r) :=
  after_of_writes_sub hostOps0_22 _ hostOps0_22_writes hr
theorem R23_of (r : Ref sig .tc) (hr : r ∉ hostOps0_23_W) : R23 m c (Proc.devRef .tc r) = R22 m c (Proc.devRef .tc r) :=
  after_of_writes_sub hostOps0_23 _ hostOps0_23_writes hr
theorem R24_of (r : Ref sig .tc) (hr : r ∉ hostOps0_24_W) : R24 m c (Proc.devRef .tc r) = R23 m c (Proc.devRef .tc r) :=
  after_of_writes_sub hostOps0_24 _ hostOps0_24_writes hr

theorem f_v1 (n : Fin 4096) (k : Fin 3) : R0 m c (Proc.devRef .tc main_v1) (ix2 n k) = (gR m c n).s k :=
  s0_v1 _ n k
theorem f_v2 (n : Fin 4096) : R1 m c (Proc.devRef .tc main_v2) (ix2 n 0) = Ideal.sqrt ((gR m c n).q 0 * (gR m c n).q 0 + (gR m c n).q 1 * (gR m c n).q 1 + (gR m c n).q 2 * (gR m c n).q 2 + (gR m c n).q 3 * (gR m c n).q 3) :=
  s1_v2 (R0 m c) (gR m c) (fun n k => by rw [R0_of m c main_arg5 (by decide)]; rfl) n
theorem f_v81 (n : Fin 4096) (i j : Fin 3) : R2 m c (Proc.devRef .tc main_v81) (ix3 n i j) = (gR m c n).cov3 i j :=
  s2_v81 (R1 m c) (gR m c) (fun n k => by rw [R1_of m c main_v1 (by decide)]; exact f_v1 m c n k) (f_v2 m c) (fun n k => by rw [R1_of m c main_arg5 (by decide), R0_of m c main_arg5 (by decide)]; rfl) n i j
theorem f_v87 (n : Fin 4096) : R2 m c (Proc.devRef .tc main_v87) (ix1 n) = (gR m c n).t 0 :=
  s2_v87 (R1 m c) (gR m c) (fun n k => by rw [R1_of m c main_arg0 (by decide), R0_of m c main_arg0 (by decide)]; rfl) (fun n i j => by rw [R1_of m c main_arg6 (by decide), R0_of m c main_arg6 (by decide)]; rfl) n
theorem f_v89 (n : Fin 4096) : R2 m c (Proc.devRef .tc main_v89) (ix1 n) = (gR m c n).t 1 :=
  s2_v89 (R1 m c) (gR m c) (fun n k => by rw [R1_of m c main_arg0 (by decide), R0_of m c main_arg0 (by decide)]; rfl) (fun n i j => by rw [R1_of m c main_arg6 (by decide), R0_of m c main_arg6 (by decide)]; rfl) n
theorem f_v91 (n : Fin 4096) : R2 m c (Proc.devRef .tc main_v91) (ix1 n) = (gR m c n).t 2 :=
  s2_v91 (R1 m c) (gR m c) (fun n k => by rw [R1_of m c main_arg0 (by decide), R0_of m c main_arg0 (by decide)]; rfl) (fun n i j => by rw [R1_of m c main_arg6 (by decide), R0_of m c main_arg6 (by decide)]; rfl) n
theorem f_v103_0 (n : Fin 4096) : R2 m c (Proc.devRef .tc main_v103) (ix2 n 0) = (gR m c n).h 0 * (gR m c n).pw :=
  s2_v103_0 (R1 m c) (gR m c) (fun n k => by rw [R1_of m c main_arg0 (by decide), R0_of m c main_arg0 (by decide)]; rfl) (fun n i j => by rw [R1_of m c main_arg7 (by decide), R0_of m c main_arg7 (by decide)]; rfl) n
theorem f_v103_1 (n : Fin 4096) : R2 m c (Proc.devRef .tc main_v103) (ix2 n 1) = (gR m c n).h 1 * (gR m c n).pw :=
  s2_v103_1 (R1 m c) (gR m c) (fun n k => by rw [R1_of m c main_arg0 (by decide), R0_of m c main_arg0 (by decide)]; rfl) (fun n i j => by rw [R1_of m c main_arg7 (by decide), R0_of m c main_arg7 (by decide)]; rfl) n
theorem f_v106 (n : Fin 4096) : R2 m c (Proc.devRef .tc main_v106) (ix1 n) = BitVec.ofBool (decide (FloatOps.absf (F := Ideal) (φ := .f32) ((gR m c n).t 2) < lit 0x358637BD#32)) :=
  s2_v106 (R1 m c) (gR m c) (fun n k => by rw [R1_of m c main_arg0 (by decide), R0_of m c main_arg0 (by decide)]; rfl) (fun n i j => by rw [R1_of m c main_arg6 (by decide), R0_of m c main_arg6 (by decide)]; rfl) n
theorem f_cst_17 : R2 m c (Proc.devRef .tc main_cst_17) ix0 = lit 0x358637BD#32 :=
  s2_cst17 (R1 m c)
theorem f_v107 (n : Fin 4096) : R3 m c (Proc.devRef .tc main_v107) (ix1 n) = (gR m c n).tzc :=
  s3_v107 (R2 m c) (gR m c) (f_v91 m c) (f_cst_17 m c) (f_v106 m c) n
theorem f_v108 (n : Fin 4096) : R4 m c (Proc.devRef .tc main_v108) (ix1 n) = Ideal.div ((gR m c n).t 0) (gR m c n).tzc :=
  s4_v108 (R3 m c) (gR m c) (fun n => by rw [R3_of m c main_v87 (by decide)]; exact f_v87 m c n) (f_v107 m c) n
theorem f_cst_18 : R4 m c (Proc.devRef .tc main_cst_18) ix0 = lit 0xBF266666#32 :=
  s4_cst18 (R3 m c)
theorem f_cst_19 : R4 m c (Proc.devRef .tc main_cst_19) ix0 = lit 0x3F266666#32 :=
  s4_cst19 (R3 m c)
theorem f_v109 (n : Fin 4096) : R5 m c (Proc.devRef .tc main_v109) (ix1 n) = min (lit 0x3F266666#32) (max (lit 0xBF266666#32) (Ideal.div ((gR m c n).t 0) (gR m c n).tzc)) :=
  s5_v109 (R4 m c) (fun n => Ideal.div ((gR m c n).t 0) (gR m c n).tzc) (f_v108 m c) (f_cst_18 m c) (f_cst_19 m c) n
theorem f_v110 (n : Fin 4096) : R6 m c (Proc.devRef .tc main_v110) (ix1 n) = (gR m c n).clip ((gR m c n).t 0) :=
  s6_v110 (R5 m c) (gR m c) (f_v109 m c) (fun n => by rw [R5_of m c main_v107 (by decide), R4_of m c main_v107 (by decide)]; exact f_v107 m c n) n
theorem f_v111 (n : Fin 4096) : R6 m c (Proc.devRef .tc main_v111) (ix1 n) = Ideal.div ((gR m c n).t 1) (gR m c n).tzc :=
  s6_v111 (R5 m c) (gR m c) (fun n => by rw [R5_of m c main_v89 (by decide), R4_of m c main_v89 (by decide), R3_of m c main_v89 (by decide)]; exact f_v89 m c n) (fun n => by rw [R5_of m c main_v107 (by decide), R4_of m c main_v107 (by decide)]; exact f_v107 m c n) n
theorem f_cst_20 : R6 m c (Proc.devRef .tc main_cst_20) ix0 = lit 0xBF266666#32 :=
  s6_cst20 (R5 m c)
theorem f_cst_21 : R6 m c (Proc.devRef .tc main_cst_21) ix0 = lit 0x3F266666#32 :=
  s6_cst21 (R5 m c)
theorem f_v112 (n : Fin 4096) : R7 m c (Proc.devRef .tc main_v112) (ix1 n) = min (lit 0x3F266666#32) (max (lit 0xBF266666#32) (Ideal.div ((gR m c n).t 1) (gR m c n).tzc)) :=
  s7_v112 (R6 m c) (fun n => Ideal.div ((gR m c n).t 1) (gR m c n).tzc) (f_v111 m c) (f_cst_20 m c) (f_cst_21 m c) n
theorem f_v151 (n : Fin 4096) : R8 m c (Proc.devRef .tc main_v151) (ix1 n) = (gR m c n).a :=
  s8_v151 (R7 m c) (gR m c) (fun n => by rw [R7_of m c main_v107 (by decide), R6_of m c main_v107 (by decide), R5_of m c main_v107 (by decide), R4_of m c main_v107 (by decide)]; exact f_v107 m c n) (fun n => by rw [R7_of m c main_v110 (by decide)]; exact f_v110 m c n) (f_v112 m c) (fun n i j => by rw [R7_of m c main_arg6 (by decide), R6_of m c main_arg6 (by decide), R5_of m c main_arg6 (by decide), R4_of m c main_arg6 (by decide), R3_of m c main_arg6 (by decide), R2_of m c main_arg6 (by decide), R1_of m c main_arg6 (by decide), R0_of m c main_arg6 (by decide)]; rfl) (fun n i j => by rw [R7_of m c main_v81 (by decide), R6_of m c main_v81 (by decide), R5_of m c main_v81 (by decide), R4_of m c main_v81 (by decide), R3_of m c main_v81 (by decide)]; exact f_v81 m c n i j) n
theorem f_v153 (n : Fin 4096) : R8 m c (Proc.devRef .tc main_v153) (ix1 n) = (gR m c n).b :=
  s8_v153 (R7 m c) (gR m c) (fun n => by rw [R7_of m c main_v107 (by decide), R6_of m c main_v107 (by decide), R5_of m c main_v107 (by decide), R4_of m c main_v107 (by decide)]; exact f_v107 m c n) (fun n => by rw [R7_of m c main_v110 (by decide)]; exact f_v110 m c n) (f_v112 m c) (fun n i j => by rw [R7_of m c main_arg6 (by decide), R6_of m c main_arg6 (by decide), R5_of m c main_arg6 (by decide), R4_of m c main_arg6 (by decide), R3_of m c main_arg6 (by decide), R2_of m c main_arg6 (by decide), R1_of m c main_arg6 (by decide), R0_of m c main_arg6 (by decide)]; rfl) (fun n i j => by rw [R7_of m c main_v81 (by decide), R6_of m c main_v81 (by decide), R5_of m c main_v81 (by decide), R4_of m c main_v81 (by decide), R3_of m c main_v81 (by decide)]; exact f_v81 m c n i j) n
theorem f_v157 (n : Fin 4096) : R8 m c (Proc.devRef .tc main_v157) (ix1 n) = (gR m c n).c :=
  s8_v157 (R7 m c) (gR m c) (fun n => by rw [R7_of m c main_v107 (by decide), R6_of m c main_v107 (by decide), R5_of m c main_v107 (by decide), R4_of m c main_v107 (by decide)]; exact f_v107 m c n) (fun n => by rw [R7_of m c main_v110 (by decide)]; exact f_v110 m c n) (f_v112 m c) (fun n i j => by rw [R7_of m c main_arg6 (by decide), R6_of m c main_arg6 (by decide), R5_of m c main_arg6 (by decide), R4_of m c main_arg6 (by decide), R3_of m c main_arg6 (by decide), R2_of m c main_arg6 (by decide), R1_of m c main_arg6 (by decide), R0_of m c main_arg6 (by decide)]; rfl) (fun n i j => by rw [R7_of m c main_v81 (by decide), R6_of m c main_v81 (by decide), R5_of m c main_v81 (by decide), R4_of m c main_v81 (by decide), R3_of m c main_v81 (by decide)]; exact f_v81 m c n i j) n
theorem f_v160 (n : Fin 4096) : R8 m c (Proc.devRef .tc main_v160) (ix1 n) = (gR m c n).det :=
  s8_v160 (R7 m c) (gR m c) (fun n => by rw [R7_of m c main_v107 (by decide), R6_of m c main_v107 (by decide), R5_of m c main_v107 (by decide), R4_of m c main_v107 (by decide)]; exact f_v107 m c n) (fun n => by rw [R7_of m c main_v110 (by decide)]; exact f_v110 m c n) (f_v112 m c) (fun n i j => by rw [R7_of m c main_arg6 (by decide), R6_of m c main_arg6 (by decide), R5_of m c main_arg6 (by decide), R4_of m c main_arg6 (by decide), R3_of m c main_arg6 (by decide), R2_of m c main_arg6 (by decide), R1_of m c main_arg6 (by decide), R0_of m c main_arg6 (by decide)]; rfl) (fun n i j => by rw [R7_of m c main_v81 (by decide), R6_of m c main_v81 (by decide), R5_of m c main_v81 (by decide), R4_of m c main_v81 (by decide), R3_of m c main_v81 (by decide)]; exact f_v81 m c n i j) n
theorem f_v165 (n : Fin 4096) : R8 m c (Proc.devRef .tc main_v165) (ix1 n) = (gR m c n).valid :=
  s8_v165 (R7 m c) (gR m c) (fun n => by rw [R7_of m c main_v107 (by decide), R6_of m c main_v107 (by decide), R5_of m c main_v107 (by decide), R4_of m c main_v107 (by decide)]; exact f_v107 m c n) (fun n => by rw [R7_of m c main_v110 (by decide)]; exact f_v110 m c n) (f_v112 m c) (fun n i j => by rw [R7_of m c main_arg6 (by decide), R6_of m c main_arg6 (by decide), R5_of m c main_arg6 (by decide), R4_of m c main_arg6 (by decide), R3_of m c main_arg6 (by decide), R2_of m c main_arg6 (by decide), R1_of m c main_arg6 (by decide), R0_of m c main_arg6 (by decide)]; rfl) (fun n i j => by rw [R7_of m c main_v81 (by decide), R6_of m c main_v81 (by decide), R5_of m c main_v81 (by decide), R4_of m c main_v81 (by decide), R3_of m c main_v81 (by decide)]; exact f_v81 m c n i j) (fun n => by rw [R7_of m c main_v91 (by decide), R6_of m c main_v91 (by decide), R5_of m c main_v91 (by decide), R4_of m c main_v91 (by decide), R3_of m c main_v91 (by decide)]; exact f_v91 m c n) n
theorem f_cst_31 : R8 m c (Proc.devRef .tc main_cst_31) ix0 = (1 : EReal) :=
  s8_cst31 (R7 m c)
theorem f_v166 (n : Fin 4096) : R9 m c (Proc.devRef .tc main_v166) (ix1 n) = (gR m c n).ds :=
  s9_v166 (R8 m c) (gR m c) (f_v165 m c) (f_v160 m c) (f_cst_31 m c) n
theorem f_v167 (n : Fin 4096) : R10 m c (Proc.devRef .tc main_v167) (ix1 n) = (gR m c n).cA :=
  s10_v167 (R9 m c) (gR m c) (fun n => by rw [R9_of m c main_v157 (by decide)]; exact f_v157 m c n) (f_v166 m c) n
theorem f_v169 (n : Fin 4096) : R10 m c (Proc.devRef .tc main_v169) (ix1 n) = (gR m c n).cB :=
  s10_v169 (R9 m c) (gR m c) (fun n => by rw [R9_of m c main_v153 (by decide)]; exact f_v153 m c n) (f_v166 m c) n
theorem f_v170 (n : Fin 4096) : R10 m c (Proc.devRef .tc main_v170) (ix1 n) = (gR m c n).cC :=
  s10_v170 (R9 m c) (gR m c) (fun n => by rw [R9_of m c main_v151 (by decide)]; exact f_v151 m c n) (f_v166 m c) n
theorem f_v103 (n : Fin 4096) (k : Fin 2) : R9 m c (Proc.devRef .tc main_v103) (ix2 n k.castSucc)
    = (gR m c n).h k.castSucc.castSucc * (gR m c n).pw := by
  rw [R9_of m c main_v103 (by decide), R8_of m c main_v103 (by decide), R7_of m c main_v103 (by decide), R6_of m c main_v103 (by decide), R5_of m c main_v103 (by decide), R4_of m c main_v103 (by decide), R3_of m c main_v103 (by decide)]
  fin_cases k
  · exact f_v103_0 m c n
  · exact f_v103_1 m c n
theorem f_v180 (n : Fin 4096) : R10 m c (Proc.devRef .tc main_v180) (ix1 n) = (gR m c n).pix ((gR m c n).h 0) :=
  s10_v180 (R9 m c) (gR m c) (f_v103 m c) n
theorem f_v190 (n : Fin 4096) : R10 m c (Proc.devRef .tc main_v190) (ix1 n) = (gR m c n).pix ((gR m c n).h 1) :=
  s10_v190 (R9 m c) (gR m c) (f_v103 m c) n

/-- The order in which the reference takes the Gaussians: by depth. -/
def ordR : Vec Ideal S4096 .i32 :=
  (Host.sort2 S4096 0 (comparator_f32_i32_d0 (F := Ideal)) (fun i => (gR m c (i 0)).t 2) (iotaInDim S4096 32 0)).2

theorem f_v191 : R11 m c (Proc.devRef .tc main_v191) = ordR m c := by
  refine (s11_v191 (R10 m c)).trans ?_
  have e : R10 m c (Proc.devRef .tc main_v91) = (fun i => (gR m c (i 0)).t 2 : S4096.Idx → EReal) := by
    rw [R10_of m c main_v91 (by decide), R9_of m c main_v91 (by decide), R8_of m c main_v91 (by decide), R7_of m c main_v91 (by decide), R6_of m c main_v91 (by decide), R5_of m c main_v91 (by decide), R4_of m c main_v91 (by decide), R3_of m c main_v91 (by decide)]
    funext i
    obtain ⟨n, rfl⟩ : ∃ n : Fin 4096, i = ix1 n := ⟨i 0, by funext d; fin_cases d; rfl⟩
    exact f_v91 m c n
  rw [e]
  rfl

end Chain

end Cert.ReferenceIdeal.Hand
-- ==== Proof.RTake.lean ====
/- The reference's nine tables read in the order by depth. -/
module

public import proofs.«01_k».proof.Proof.RChain
public import proofs.«01_k».proof.Proof.Order
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe Idealize.ShloMosaic.StableHlo

section Stretches

variable (V : Valuation τ sig (Elt Ideal))

theorem select_one {α : Type} (x y : α) : Scalar.select 1#1 x y = x := rfl

theorem s12_v192 (v : IVec S4096 32) (hp : IsPos v) (h : V (Proc.devRef .tc main_v191) = v) (n : Fin 4096) :
    StableHlo.after hostOps0_12 V (Proc.devRef .tc main_v192) (ix1 n) = V (Proc.devRef .tc main_v180) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s13_v193 (v : IVec S4096 32) (hp : IsPos v) (h : V (Proc.devRef .tc main_v191) = v) (n : Fin 4096) :
    StableHlo.after hostOps0_13 V (Proc.devRef .tc main_v193) (ix1 n) = V (Proc.devRef .tc main_v190) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s14_v194 (v : IVec S4096 32) (hp : IsPos v) (h : V (Proc.devRef .tc main_v191) = v) (n : Fin 4096) :
    StableHlo.after hostOps0_14 V (Proc.devRef .tc main_v194) (ix1 n) = V (Proc.devRef .tc main_v167) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s15_v195 (v : IVec S4096 32) (hp : IsPos v) (h : V (Proc.devRef .tc main_v191) = v) (n : Fin 4096) :
    StableHlo.after hostOps0_15 V (Proc.devRef .tc main_v195) (ix1 n) = V (Proc.devRef .tc main_v169) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s16_v196 (v : IVec S4096 32) (hp : IsPos v) (h : V (Proc.devRef .tc main_v191) = v) (n : Fin 4096) :
    StableHlo.after hostOps0_16 V (Proc.devRef .tc main_v196) (ix1 n) = V (Proc.devRef .tc main_v170) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s18_v198 (v : IVec S4096 32) (hp : IsPos v) (h : V (Proc.devRef .tc main_v191) = v) (n : Fin 4096) :
    StableHlo.after hostOps0_18 V (Proc.devRef .tc main_v198) (ix1 n) = V (Proc.devRef .tc main_v197) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s20_v200 (v : IVec S4096 32) (hp : IsPos v) (h : V (Proc.devRef .tc main_v191) = v) (n : Fin 4096) :
    StableHlo.after hostOps0_20 V (Proc.devRef .tc main_v200) (ix1 n) = V (Proc.devRef .tc main_v165) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s21_v201 (v : IVec S4096 32) (hp : IsPos v) (h : V (Proc.devRef .tc main_v191) = v) (n : Fin 4096) :
    StableHlo.after hostOps0_21 V (Proc.devRef .tc main_v201) (ix1 n) = V (Proc.devRef .tc main_v107) (ix1 (posOf v n)) := by
  after_reads_at
  simp only [id_eq, h]
  rw [wrap_pos _ _ (hp n), mask_pos _ _ (hp n), select_one]
  refine Routing.gather_take1 _ rfl rfl rfl rfl _ _ n (posOf v n) ?_ (by decide)
  pointwise
  rw [wrap_pos _ _ (hp n)]
  exact hp n

theorem s17_v197 (n : Fin 4096) :
    StableHlo.after hostOps0_17 V (Proc.devRef .tc main_v197) (ix1 n) = V (Proc.devRef .tc main_arg2) (ix2 n 0) := by
  after_reads_at

theorem s19_v199 (v : IVec S4096 32) (hp : IsPos v) (h : V (Proc.devRef .tc main_v191) = v) (n : Fin 4096) (k : Fin 3) :
    StableHlo.after hostOps0_19 V (Proc.devRef .tc main_v199) (ix2 n k) = V (Proc.devRef .tc main_arg3) (ix2 (posOf v n) k) := by
  after_reads_at
  simp only [id_eq, h]
  rw [wrap_pos _ _ (hp n), mask_pos _ _ (hp n), select_one]
  refine Routing.gather_row _ rfl rfl rfl rfl rfl _ _ n k (posOf v n) ?_ (by decide)
  pointwise
  rw [wrap_pos _ _ (hp n)]
  exact hp n

end Stretches

end Cert.ReferenceIdeal.Hand
-- ==== Proof.RAlpha.lean ====
/- The reference's opacity of every Gaussian at every pixel. -/
module

public import proofs.«01_k».proof.Proof.RTake
public import proofs.«01_k».proof.Proof.Raster

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe Idealize.ShloMosaic.StableHlo

section Stretches

variable (V : Valuation τ sig (Elt Ideal))

theorem s22_v241 (x y A B C o : Fin 4096 → EReal)
    (hx : ∀ n, V (Proc.devRef .tc main_v192) (ix1 n) = x n)
    (hy : ∀ n, V (Proc.devRef .tc main_v193) (ix1 n) = y n)
    (hA : ∀ n, V (Proc.devRef .tc main_v194) (ix1 n) = A n)
    (hB : ∀ n, V (Proc.devRef .tc main_v195) (ix1 n) = B n)
    (hC : ∀ n, V (Proc.devRef .tc main_v196) (ix1 n) = C n)
    (ho : ∀ n, V (Proc.devRef .tc main_v198) (ix1 n) = o n)
    (p n : Fin 4096) : StableHlo.after hostOps0_22 V (Proc.devRef .tc main_v241) (ix2 p n) = opR (o n) (powR (A n) (B n) (C n) (x n - pxf p) (y n - pyf p)) := by
  after_reads_at
  rw [hx, hy, hA, hB, hC, ho]
  rfl
theorem s22_v250 (x y A B C o : Fin 4096 → EReal) (v : Fin 4096 → BitVec 1)
    (hx : ∀ n, V (Proc.devRef .tc main_v192) (ix1 n) = x n)
    (hy : ∀ n, V (Proc.devRef .tc main_v193) (ix1 n) = y n)
    (hA : ∀ n, V (Proc.devRef .tc main_v194) (ix1 n) = A n)
    (hB : ∀ n, V (Proc.devRef .tc main_v195) (ix1 n) = B n)
    (hC : ∀ n, V (Proc.devRef .tc main_v196) (ix1 n) = C n)
    (ho : ∀ n, V (Proc.devRef .tc main_v198) (ix1 n) = o n)
    (hv : ∀ n, V (Proc.devRef .tc main_v200) (ix1 n) = v n) (p n : Fin 4096) :
    StableHlo.after hostOps0_22 V (Proc.devRef .tc main_v250) (ix2 p n)
    = IntOp.ori (IntOp.ori (BitVec.ofBool (decide (0 < powR (A n) (B n) (C n) (x n - pxf p) (y n - pyf p)))) (~~~(v n)))
      (BitVec.ofBool (decide (opR (o n) (powR (A n) (B n) (C n) (x n - pxf p) (y n - pyf p)) < lit 0x3B808081#32))) := by
  after_reads_at
  rw [hx, hy, hA, hB, hC, ho, hv]
  rfl
theorem s22_cst45 : StableHlo.after hostOps0_22 V (Proc.devRef .tc main_cst_45) ix0 = (0 : EReal) := by
  after_reads_at
theorem s23_v251 (h0 : V (Proc.devRef .tc main_cst_45) ix0 = (0 : EReal)) (p n : Fin 4096) :
    StableHlo.after hostOps0_23 V (Proc.devRef .tc main_v251) (ix2 p n)
    = Scalar.select (V (Proc.devRef .tc main_v250) (ix2 p n)) (0 : EReal) (V (Proc.devRef .tc main_v241) (ix2 p n)) := by
  after_reads_at
  simp only [id_eq, h0]
theorem s24_v255_0 (p n : Fin 4096) : StableHlo.after hostOps0_24 V (Proc.devRef .tc main_v255_0) (ix2 n p) = V (Proc.devRef .tc main_v251) (ix2 p n) := by
  after_reads_at
  simp only [id_eq]
  pointwise
theorem s24_v255_1 : StableHlo.after hostOps0_24 V (Proc.devRef .tc main_v255_1) ix0 = 0#32 := by
  after_reads_at
  simp only [id_eq]
  pointwise
theorem s24_v255_2 (p : Fin 4096) : StableHlo.after hostOps0_24 V (Proc.devRef .tc main_v255_2) (ix1 p) = (1 : EReal) := by
  after_reads_at
  simp only [id_eq]
  pointwise
theorem s24_v255_3 (p : Fin 4096) : StableHlo.after hostOps0_24 V (Proc.devRef .tc main_v255_3) (ix1 p) = (1 : EReal) := by
  after_reads_at
  simp only [id_eq]
  pointwise
theorem s24_v255_4 (p n : Fin 4096) : StableHlo.after hostOps0_24 V (Proc.devRef .tc main_v255_4) (ix2 n p) = (0 : EReal) := by
  after_reads_at
  simp only [id_eq]
  pointwise

end Stretches

end Cert.ReferenceIdeal.Hand
-- ==== Proof.RChain2.lean ====
/- The reference at the loop's entry: opacities of the Gaussians in order at every pixel, colours and depths in order. -/
module

public import proofs.«01_k».proof.Proof.RAlpha

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe Idealize.ShloMosaic.StableHlo

section Chain

variable (m : (ℓ : Loc nD τ sig) → Buf (Elt Ideal) ℓ) (c : Dev nD)

theorem isPos_ordR : IsPos (ordR m c) := isPos_sort2 _ _

/-- The Gaussian the reference takes at place `n`. -/
def sigR (n : Fin 4096) : Fin 4096 := posOf (ordR m c) n

/-- A Gaussian's opacity and colour. -/
def oR (n : Fin 4096) : EReal := (m ((c.tc : Thread nD τ).loc main_arg2) : S4096x1.Idx → EReal) (ix2 n 0)
def kR (n : Fin 4096) (k : Fin 3) : EReal := (m ((c.tc : Thread nD τ).loc main_arg3) : S4096x3.Idx → EReal) (ix2 n k)

theorem f_v197 (n : Fin 4096) : R17 m c (Proc.devRef .tc main_v197) (ix1 n) = oR m c n := by
  refine (s17_v197 (R16 m c) n).trans ?_
  rw [R16_of m c main_arg2 (by decide), R15_of m c main_arg2 (by decide), R14_of m c main_arg2 (by decide), R13_of m c main_arg2 (by decide), R12_of m c main_arg2 (by decide), R11_of m c main_arg2 (by decide), R10_of m c main_arg2 (by decide), R9_of m c main_arg2 (by decide), R8_of m c main_arg2 (by decide), R7_of m c main_arg2 (by decide), R6_of m c main_arg2 (by decide), R5_of m c main_arg2 (by decide), R4_of m c main_arg2 (by decide), R3_of m c main_arg2 (by decide), R2_of m c main_arg2 (by decide), R1_of m c main_arg2 (by decide), R0_of m c main_arg2 (by decide)]
  rfl
theorem f_v192 (n : Fin 4096) : R12 m c (Proc.devRef .tc main_v192) (ix1 n) = (gR m c (sigR m c n)).pix ((gR m c (sigR m c n)).h 0) := by
  refine (s12_v192 (R11 m c) (ordR m c) (isPos_ordR m c) (by exact f_v191 m c) n).trans ?_
  rw [R11_of m c main_v180 (by decide)]; exact f_v180 m c _
theorem f_v193 (n : Fin 4096) : R13 m c (Proc.devRef .tc main_v193) (ix1 n) = (gR m c (sigR m c n)).pix ((gR m c (sigR m c n)).h 1) := by
  refine (s13_v193 (R12 m c) (ordR m c) (isPos_ordR m c) (by rw [R12_of m c main_v191 (by decide)]; exact f_v191 m c) n).trans ?_
  rw [R12_of m c main_v190 (by decide), R11_of m c main_v190 (by decide)]; exact f_v190 m c _
theorem f_v194 (n : Fin 4096) : R14 m c (Proc.devRef .tc main_v194) (ix1 n) = (gR m c (sigR m c n)).cA := by
  refine (s14_v194 (R13 m c) (ordR m c) (isPos_ordR m c) (by rw [R13_of m c main_v191 (by decide), R12_of m c main_v191 (by decide)]; exact f_v191 m c) n).trans ?_
  rw [R13_of m c main_v167 (by decide), R12_of m c main_v167 (by decide), R11_of m c main_v167 (by decide)]; exact f_v167 m c _
theorem f_v195 (n : Fin 4096) : R15 m c (Proc.devRef .tc main_v195) (ix1 n) = (gR m c (sigR m c n)).cB := by
  refine (s15_v195 (R14 m c) (ordR m c) (isPos_ordR m c) (by rw [R14_of m c main_v191 (by decide), R13_of m c main_v191 (by decide), R12_of m c main_v191 (by decide)]; exact f_v191 m c) n).trans ?_
  rw [R14_of m c main_v169 (by decide), R13_of m c main_v169 (by decide), R12_of m c main_v169 (by decide), R11_of m c main_v169 (by decide)]; exact f_v169 m c _
theorem f_v196 (n : Fin 4096) : R16 m c (Proc.devRef .tc main_v196) (ix1 n) = (gR m c (sigR m c n)).cC := by
  refine (s16_v196 (R15 m c) (ordR m c) (isPos_ordR m c) (by rw [R15_of m c main_v191 (by decide), R14_of m c main_v191 (by decide), R13_of m c main_v191 (by decide), R12_of m c main_v191 (by decide)]; exact f_v191 m c) n).trans ?_
  rw [R15_of m c main_v170 (by decide), R14_of m c main_v170 (by decide), R13_of m c main_v170 (by decide), R12_of m c main_v170 (by decide), R11_of m c main_v170 (by decide)]; exact f_v170 m c _
theorem f_v198 (n : Fin 4096) : R18 m c (Proc.devRef .tc main_v198) (ix1 n) = oR m c (sigR m c n) := by
  refine (s18_v198 (R17 m c) (ordR m c) (isPos_ordR m c) (by rw [R17_of m c main_v191 (by decide), R16_of m c main_v191 (by decide), R15_of m c main_v191 (by decide), R14_of m c main_v191 (by decide), R13_of m c main_v191 (by decide), R12_of m c main_v191 (by decide)]; exact f_v191 m c) n).trans ?_
  exact f_v197 m c _
theorem f_v200 (n : Fin 4096) : R20 m c (Proc.devRef .tc main_v200) (ix1 n) = (gR m c (sigR m c n)).valid := by
  refine (s20_v200 (R19 m c) (ordR m c) (isPos_ordR m c) (by rw [R19_of m c main_v191 (by decide), R18_of m c main_v191 (by decide), R17_of m c main_v191 (by decide), R16_of m c main_v191 (by decide), R15_of m c main_v191 (by decide), R14_of m c main_v191 (by decide), R13_of m c main_v191 (by decide), R12_of m c main_v191 (by decide)]; exact f_v191 m c) n).trans ?_
  rw [R19_of m c main_v165 (by decide), R18_of m c main_v165 (by decide), R17_of m c main_v165 (by decide), R16_of m c main_v165 (by decide), R15_of m c main_v165 (by decide), R14_of m c main_v165 (by decide), R13_of m c main_v165 (by decide), R12_of m c main_v165 (by decide), R11_of m c main_v165 (by decide), R10_of m c main_v165 (by decide), R9_of m c main_v165 (by decide)]; exact f_v165 m c _
theorem f_v201 (n : Fin 4096) : R21 m c (Proc.devRef .tc main_v201) (ix1 n) = (gR m c (sigR m c n)).tzc := by
  refine (s21_v201 (R20 m c) (ordR m c) (isPos_ordR m c) (by rw [R20_of m c main_v191 (by decide), R19_of m c main_v191 (by decide), R18_of m c main_v191 (by decide), R17_of m c main_v191 (by decide), R16_of m c main_v191 (by decide), R15_of m c main_v191 (by decide), R14_of m c main_v191 (by decide), R13_of m c main_v191 (by decide), R12_of m c main_v191 (by decide)]; exact f_v191 m c) n).trans ?_
  rw [R20_of m c main_v107 (by decide), R19_of m c main_v107 (by decide), R18_of m c main_v107 (by decide), R17_of m c main_v107 (by decide), R16_of m c main_v107 (by decide), R15_of m c main_v107 (by decide), R14_of m c main_v107 (by decide), R13_of m c main_v107 (by decide), R12_of m c main_v107 (by decide), R11_of m c main_v107 (by decide), R10_of m c main_v107 (by decide), R9_of m c main_v107 (by decide), R8_of m c main_v107 (by decide), R7_of m c main_v107 (by decide), R6_of m c main_v107 (by decide), R5_of m c main_v107 (by decide), R4_of m c main_v107 (by decide)]; exact f_v107 m c _
theorem f_v199 (n : Fin 4096) (k : Fin 3) : R19 m c (Proc.devRef .tc main_v199) (ix2 n k) = kR m c (sigR m c n) k := by
  refine (s19_v199 (R18 m c) (ordR m c) (isPos_ordR m c) (by rw [R18_of m c main_v191 (by decide), R17_of m c main_v191 (by decide), R16_of m c main_v191 (by decide), R15_of m c main_v191 (by decide), R14_of m c main_v191 (by decide), R13_of m c main_v191 (by decide), R12_of m c main_v191 (by decide)]; exact f_v191 m c) n k).trans ?_
  rw [R18_of m c main_arg3 (by decide), R17_of m c main_arg3 (by decide), R16_of m c main_arg3 (by decide), R15_of m c main_arg3 (by decide), R14_of m c main_arg3 (by decide), R13_of m c main_arg3 (by decide), R12_of m c main_arg3 (by decide), R11_of m c main_arg3 (by decide), R10_of m c main_arg3 (by decide), R9_of m c main_arg3 (by decide), R8_of m c main_arg3 (by decide), R7_of m c main_arg3 (by decide), R6_of m c main_arg3 (by decide), R5_of m c main_arg3 (by decide), R4_of m c main_arg3 (by decide), R3_of m c main_arg3 (by decide), R2_of m c main_arg3 (by decide), R1_of m c main_arg3 (by decide), R0_of m c main_arg3 (by decide)]
  rfl
theorem f_v251 (p n : Fin 4096) : R23 m c (Proc.devRef .tc main_v251) (ix2 p n) = galR (gR m c (sigR m c n)) (oR m c (sigR m c n)) p := by
  refine (s23_v251 (R22 m c) (s22_cst45 (R21 m c)) p n).trans ?_
  have e1 := s22_v241 (R21 m c) (fun n => (gR m c (sigR m c n)).pix ((gR m c (sigR m c n)).h 0)) (fun n => (gR m c (sigR m c n)).pix ((gR m c (sigR m c n)).h 1)) (fun n => (gR m c (sigR m c n)).cA) (fun n => (gR m c (sigR m c n)).cB) (fun n => (gR m c (sigR m c n)).cC) (fun n => oR m c (sigR m c n)) (fun n => by rw [R21_of m c main_v192 (by decide), R20_of m c main_v192 (by decide), R19_of m c main_v192 (by decide), R18_of m c main_v192 (by decide), R17_of m c main_v192 (by decide), R16_of m c main_v192 (by decide), R15_of m c main_v192 (by decide), R14_of m c main_v192 (by decide), R13_of m c main_v192 (by decide)]; exact f_v192 m c n) (fun n => by rw [R21_of m c main_v193 (by decide), R20_of m c main_v193 (by decide), R19_of m c main_v193 (by decide), R18_of m c main_v193 (by decide), R17_of m c main_v193 (by decide), R16_of m c main_v193 (by decide), R15_of m c main_v193 (by decide), R14_of m c main_v193 (by decide)]; exact f_v193 m c n) (fun n => by rw [R21_of m c main_v194 (by decide), R20_of m c main_v194 (by decide), R19_of m c main_v194 (by decide), R18_of m c main_v194 (by decide), R17_of m c main_v194 (by decide), R16_of m c main_v194 (by decide), R15_of m c main_v194 (by decide)]; exact f_v194 m c n) (fun n => by rw [R21_of m c main_v195 (by decide), R20_of m c main_v195 (by decide), R19_of m c main_v195 (by decide), R18_of m c main_v195 (by decide), R17_of m c main_v195 (by decide), R16_of m c main_v195 (by decide)]; exact f_v195 m c n) (fun n => by rw [R21_of m c main_v196 (by decide), R20_of m c main_v196 (by decide), R19_of m c main_v196 (by decide), R18_of m c main_v196 (by decide), R17_of m c main_v196 (by decide)]; exact f_v196 m c n) (fun n => by rw [R21_of m c main_v198 (by decide), R20_of m c main_v198 (by decide), R19_of m c main_v198 (by decide)]; exact f_v198 m c n) p n
  have e2 := s22_v250 (R21 m c) (fun n => (gR m c (sigR m c n)).pix ((gR m c (sigR m c n)).h 0)) (fun n => (gR m c (sigR m c n)).pix ((gR m c (sigR m c n)).h 1)) (fun n => (gR m c (sigR m c n)).cA) (fun n => (gR m c (sigR m c n)).cB) (fun n => (gR m c (sigR m c n)).cC) (fun n => oR m c (sigR m c n)) (fun n => (gR m c (sigR m c n)).valid) (fun n => by rw [R21_of m c main_v192 (by decide), R20_of m c main_v192 (by decide), R19_of m c main_v192 (by decide), R18_of m c main_v192 (by decide), R17_of m c main_v192 (by decide), R16_of m c main_v192 (by decide), R15_of m c main_v192 (by decide), R14_of m c main_v192 (by decide), R13_of m c main_v192 (by decide)]; exact f_v192 m c n) (fun n => by rw [R21_of m c main_v193 (by decide), R20_of m c main_v193 (by decide), R19_of m c main_v193 (by decide), R18_of m c main_v193 (by decide), R17_of m c main_v193 (by decide), R16_of m c main_v193 (by decide), R15_of m c main_v193 (by decide), R14_of m c main_v193 (by decide)]; exact f_v193 m c n) (fun n => by rw [R21_of m c main_v194 (by decide), R20_of m c main_v194 (by decide), R19_of m c main_v194 (by decide), R18_of m c main_v194 (by decide), R17_of m c main_v194 (by decide), R16_of m c main_v194 (by decide), R15_of m c main_v194 (by decide)]; exact f_v194 m c n) (fun n => by rw [R21_of m c main_v195 (by decide), R20_of m c main_v195 (by decide), R19_of m c main_v195 (by decide), R18_of m c main_v195 (by decide), R17_of m c main_v195 (by decide), R16_of m c main_v195 (by decide)]; exact f_v195 m c n) (fun n => by rw [R21_of m c main_v196 (by decide), R20_of m c main_v196 (by decide), R19_of m c main_v196 (by decide), R18_of m c main_v196 (by decide), R17_of m c main_v196 (by decide)]; exact f_v196 m c n) (fun n => by rw [R21_of m c main_v198 (by decide), R20_of m c main_v198 (by decide), R19_of m c main_v198 (by decide)]; exact f_v198 m c n) (fun n => by rw [R21_of m c main_v200 (by decide)]; exact f_v200 m c n) p n
  exact congrArg₂ (fun x y => Scalar.select x (0 : EReal) y) e2 e1
theorem f_v255_0 (p n : Fin 4096) : R24 m c (Proc.devRef .tc main_v255_0) (ix2 n p) = galR (gR m c (sigR m c n)) (oR m c (sigR m c n)) p :=
  (s24_v255_0 (R23 m c) p n).trans (f_v251 m c p n)
theorem e_v199 (n : Fin 4096) (k : Fin 3) : R24 m c (Proc.devRef .tc main_v199) (ix2 n k) = kR m c (sigR m c n) k := by
  rw [R24_of m c main_v199 (by decide), R23_of m c main_v199 (by decide), R22_of m c main_v199 (by decide), R21_of m c main_v199 (by decide), R20_of m c main_v199 (by decide)]; exact f_v199 m c n k
theorem e_v201 (n : Fin 4096) : R24 m c (Proc.devRef .tc main_v201) (ix1 n) = (gR m c (sigR m c n)).tzc := by
  rw [R24_of m c main_v201 (by decide), R23_of m c main_v201 (by decide), R22_of m c main_v201 (by decide)]; exact f_v201 m c n
theorem e_v151 (n : Fin 4096) : R24 m c (Proc.devRef .tc main_v151) (ix1 n) = (gR m c n).a := by
  rw [R24_of m c main_v151 (by decide), R23_of m c main_v151 (by decide), R22_of m c main_v151 (by decide), R21_of m c main_v151 (by decide), R20_of m c main_v151 (by decide), R19_of m c main_v151 (by decide), R18_of m c main_v151 (by decide), R17_of m c main_v151 (by decide), R16_of m c main_v151 (by decide), R15_of m c main_v151 (by decide), R14_of m c main_v151 (by decide), R13_of m c main_v151 (by decide), R12_of m c main_v151 (by decide), R11_of m c main_v151 (by decide), R10_of m c main_v151 (by decide), R9_of m c main_v151 (by decide)]; exact f_v151 m c n
theorem e_v157 (n : Fin 4096) : R24 m c (Proc.devRef .tc main_v157) (ix1 n) = (gR m c n).c := by
  rw [R24_of m c main_v157 (by decide), R23_of m c main_v157 (by decide), R22_of m c main_v157 (by decide), R21_of m c main_v157 (by decide), R20_of m c main_v157 (by decide), R19_of m c main_v157 (by decide), R18_of m c main_v157 (by decide), R17_of m c main_v157 (by decide), R16_of m c main_v157 (by decide), R15_of m c main_v157 (by decide), R14_of m c main_v157 (by decide), R13_of m c main_v157 (by decide), R12_of m c main_v157 (by decide), R11_of m c main_v157 (by decide), R10_of m c main_v157 (by decide), R9_of m c main_v157 (by decide)]; exact f_v157 m c n
theorem e_v160 (n : Fin 4096) : R24 m c (Proc.devRef .tc main_v160) (ix1 n) = (gR m c n).det := by
  rw [R24_of m c main_v160 (by decide), R23_of m c main_v160 (by decide), R22_of m c main_v160 (by decide), R21_of m c main_v160 (by decide), R20_of m c main_v160 (by decide), R19_of m c main_v160 (by decide), R18_of m c main_v160 (by decide), R17_of m c main_v160 (by decide), R16_of m c main_v160 (by decide), R15_of m c main_v160 (by decide), R14_of m c main_v160 (by decide), R13_of m c main_v160 (by decide), R12_of m c main_v160 (by decide), R11_of m c main_v160 (by decide), R10_of m c main_v160 (by decide), R9_of m c main_v160 (by decide)]; exact f_v160 m c n
theorem e_v165 (n : Fin 4096) : R24 m c (Proc.devRef .tc main_v165) (ix1 n) = (gR m c n).valid := by
  rw [R24_of m c main_v165 (by decide), R23_of m c main_v165 (by decide), R22_of m c main_v165 (by decide), R21_of m c main_v165 (by decide), R20_of m c main_v165 (by decide), R19_of m c main_v165 (by decide), R18_of m c main_v165 (by decide), R17_of m c main_v165 (by decide), R16_of m c main_v165 (by decide), R15_of m c main_v165 (by decide), R14_of m c main_v165 (by decide), R13_of m c main_v165 (by decide), R12_of m c main_v165 (by decide), R11_of m c main_v165 (by decide), R10_of m c main_v165 (by decide), R9_of m c main_v165 (by decide)]; exact f_v165 m c n

end Chain

end Cert.ReferenceIdeal.Hand
-- ==== Proof.RLoop.lean ====
/- The reference's loop: after `k` trips the carried buffers hold the compositing state after `k` Gaussians. -/
module

public import proofs.«01_k».proof.Proof.RChain2
public import proofs.«01_k».proof.Proof.Lits

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe Idealize.ShloMosaic.StableHlo

section Trip

variable (V : Valuation τ sig (Elt Ideal)) (k : Fin 4096) (hk : V (Proc.devRef .tc main_v255_1) = fun _ => BitVec.ofNat 32 k.val)

/-- Where a trip's window starts. -/
def strt (k : Fin 4096) : Fin 2 → Int :=
  fun d => BitVec.toInt ((![fun _ => BitVec.ofNat 32 k.val, constantI S_ 32 0#32] : Fin 2 → S_.Idx → BitVec 32) d (Shape.Idx.first h_S_))

theorem clamp0 (h : S1x4096.rank = S4096x4096.rank) : Host.clampedStart S4096x4096 S1x4096 h (strt k) 0 = k.val :=
  Host.clampedStart_of_le _ _ _ k.val (StableHlo.Predicate.toInt_ofNat_small _ (by have := k.isLt; omega))
    (show k.val + 1 ≤ 4096 from k.isLt)

theorem clamp1 (h : S1x4096.rank = S4096x4096.rank) : Host.clampedStart S4096x4096 S1x4096 h (strt k) 1 = 0 :=
  Host.clampedStart_of_le _ _ _ 0 rfl (show 0 + 4096 ≤ 4096 from le_refl _)

include hk in
theorem r286 (p : Fin 4096) : res_main_while0b_v286 V (ix1 p) = V (Proc.devRef .tc main_v255_0) (ix2 k p) := by
  unfold res_main_while0b_v286
  rw [hk]
  pointwise
  refine congrArg (V (Proc.devRef .tc main_v255_0)) ?_
  funext d
  refine Fin.ext ?_
  match d with
  | ⟨0, _⟩ => exact clamp0 k rfl
  | ⟨1, _⟩ => exact (congrArg (· + p.val) (clamp1 k rfl)).trans (Nat.zero_add _)

include hk in
theorem r289 (x t : EReal) (p : Fin 4096) (h0 : V (Proc.devRef .tc main_v255_0) (ix2 k p) = x) (h2 : V (Proc.devRef .tc main_v255_2) (ix1 p) = t) :
    res_main_while0b_v289 V (ix1 p) = t * (1 - x) := by
  unfold res_main_while0b_v289
  pointwise
  rw [r286 V k hk, h0, h2]

include hk in
theorem r293 (x t : EReal) (p : Fin 4096) (h0 : V (Proc.devRef .tc main_v255_0) (ix2 k p) = x) (h2 : V (Proc.devRef .tc main_v255_2) (ix1 p) = t) :
    res_main_while0b_v293 V (ix1 p)
      = x * FloatOps.uitofp (F := Ideal) .f32 (BitVec.ofBool (decide (lit 0x38D1B717#32 ≤ t * (1 - x)))) := by
  unfold res_main_while0b_v293
  pointwise
  rw [r286 V k hk, r289 V k hk x t p h0 h2, h0]

include hk in
theorem st3 (x t cp : EReal) (p : Fin 4096) (h0 : V (Proc.devRef .tc main_v255_0) (ix2 k p) = x) (h2 : V (Proc.devRef .tc main_v255_2) (ix1 p) = t)
    (h3 : V (Proc.devRef .tc main_v255_3) (ix1 p) = cp) : step_main_v255_3 V (ix1 p)
      = cp * (1 - x * FloatOps.uitofp (F := Ideal) .f32 (BitVec.ofBool (decide (lit 0x38D1B717#32 ≤ t * (1 - x))))) := by
  unfold step_main_v255_3
  simp only [id_eq]
  pointwise
  rw [r293 V k hk x t p h0 h2, h3]

include hk in
theorem st4_self (x t cp : EReal) (p : Fin 4096) (h0 : V (Proc.devRef .tc main_v255_0) (ix2 k p) = x) (h2 : V (Proc.devRef .tc main_v255_2) (ix1 p) = t)
    (h3 : V (Proc.devRef .tc main_v255_3) (ix1 p) = cp) : step_main_v255_4 V (ix2 k p)
      = x * FloatOps.uitofp (F := Ideal) .f32 (BitVec.ofBool (decide (lit 0x38D1B717#32 ≤ t * (1 - x)))) * cp := by
  have h1 : k.val ≤ k.val ∧ k.val < k.val + 1 := ⟨le_refl _, Nat.lt_succ_self _⟩
  have h2' : 0 ≤ p.val ∧ p.val < 0 + 4096 := ⟨Nat.zero_le _, by have := p.isLt; omega⟩
  unfold step_main_v255_4
  simp only [id_eq]
  rw [hk, Host.dynamicUpdateSlice_apply]
  rw [dif_pos (show _ from ?_)]
  · have e : ∀ (Z : S4096.Idx → EReal) (j : Fin 4096), broadcastInDim S1x4096 ![1] bcast_S4096_S1x4096_1 Z (ix2 0 j) = Z (ix1 j) :=
      fun Z j => by pointwise
    rw [← r293 V k hk x t p h0 h2, ← h3]
    refine Eq.trans ?_ (e (mulf (F := Ideal) (φ := .f32) (res_main_while0b_v293 V) (V (Proc.devRef .tc main_v255_3))) p)
    refine congrArg _ ?_
    funext d
    refine Fin.ext ?_
    match d with
    | ⟨0, _⟩ => exact (congrArg (k.val - ·) (clamp0 k rfl)).trans (Nat.sub_self _)
    | ⟨1, _⟩ => exact (congrArg (p.val - ·) (clamp1 k rfl)).trans (Nat.sub_zero _)
  · intro d
    match d with
    | ⟨0, _⟩ => exact (clamp0 k rfl).symm ▸ h1
    | ⟨1, _⟩ => exact (clamp1 k rfl).symm ▸ h2'

include hk in
theorem st4_ne (n p : Fin 4096) (hn : n ≠ k) : step_main_v255_4 V (ix2 n p) = V (Proc.devRef .tc main_v255_4) (ix2 n p) := by
  unfold step_main_v255_4
  simp only [id_eq]
  rw [hk, Host.dynamicUpdateSlice_apply]
  rw [dif_neg (show _ from ?_)]
  intro h
  have h0 : Host.clampedStart S4096x4096 S1x4096 rfl (strt k) 0 ≤ n.val
      ∧ n.val < Host.clampedStart S4096x4096 S1x4096 rfl (strt k) 0 + 1 := h (0 : Fin 2)
  rw [clamp0 k rfl] at h0
  exact hn (Fin.ext (by omega))

end Trip

section Loop

theorem iv_nat (k : ℕ) : Scf.iv 0#32 1#32 k = BitVec.ofNat 32 k := by
  unfold Scf.iv
  rw [BitVec.zero_add, BitVec.mul_one]

theorem uitofp_one : FloatOps.uitofp (F := Ideal) .f32 (BitVec.ofBool true) = ((1 : ℝ) : EReal) := by
  show (((BitVec.ofBool true).toNat : ℝ) : EReal) = _
  simp
theorem uitofp_zero : FloatOps.uitofp (F := Ideal) .f32 (BitVec.ofBool false) = ((0 : ℝ) : EReal) := by
  show (((BitVec.ofBool false).toNat : ℝ) : EReal) = _
  simp

/-- The comparison with the least transmittance, as a number. -/
theorem keep_real (a : ℕ → ℝ) (n : ℕ) :
    FloatOps.uitofp (F := Ideal) .f32 (BitVec.ofBool (decide (lit 0x38D1B717#32 ≤ ((Tr a n : ℝ) : EReal) * (1 - ((a n : ℝ) : EReal)))))
      = ((kp a n : ℝ) : EReal) := by
  have e : ((Tr a n : ℝ) : EReal) * (1 - ((a n : ℝ) : EReal)) = ((Tr a (n + 1) : ℝ) : EReal) := by
    rw [Tr_succ]; norm_cast
  rw [e, lit_eps]
  unfold kp
  by_cases h : eps ≤ Tr a (n + 1)
  · rw [if_pos h, decide_eq_true (EReal.coe_le_coe_iff.mpr h), uitofp_one]
  · rw [if_neg h, decide_eq_false (fun h' => h (EReal.coe_le_coe_iff.mp h')), uitofp_zero]

variable (m : (ℓ : Loc nD τ sig) → Buf (Elt Ideal) ℓ) (c : Dev nD) (a : Fin 4096 → ℕ → ℝ)
  (ha : ∀ p n : Fin 4096, R24 m c (Proc.devRef .tc main_v255_0) (ix2 n p) = ((a p n.val : ℝ) : EReal))

/-- The carried buffers after `k` Gaussians. -/
structure LoopInv (V : Valuation τ sig (Elt Ideal)) (k : ℕ) : Prop where
  al : ∀ p n : Fin 4096, V (Proc.devRef .tc main_v255_0) (ix2 n p) = ((a p n.val : ℝ) : EReal)
  tr : ∀ p : Fin 4096, V (Proc.devRef .tc main_v255_2) (ix1 p) = ((Tr (a p) k : ℝ) : EReal)
  cp : ∀ p : Fin 4096, V (Proc.devRef .tc main_v255_3) (ix1 p) = ((cpr (a p) k : ℝ) : EReal)
  w : ∀ p n : Fin 4096, n.val < k → V (Proc.devRef .tc main_v255_4) (ix2 n p) = ((wr (a p) n.val : ℝ) : EReal)

include ha in
theorem loopInv_zero : LoopInv a (atK m 0 c) 0 where
  al p n := ha p n
  tr p := (s24_v255_2 (R23 m c) p).trans (by simp [Tr])
  cp p := (s24_v255_3 (R23 m c) p).trans (by simp [cpr])
  w p n h := absurd h (Nat.not_lt_zero _)

theorem loopInv_succ (k : Fin 4096) (h : LoopInv a (atK m k.val c) k.val) : LoopInv a (atK m (k.val + 1) c) (k.val + 1) := by
  have hk : atK m k.val c (Proc.devRef .tc main_v255_1) = fun _ => BitVec.ofNat 32 k.val := by
    rw [atK_ctr m c k.val, iv_nat]
  have hag : Agree (atK m (k.val + 1) c) (STEP (atK m k.val c)) := trip_agree (atK m k.val c)
  generalize atK m k.val c = V at hk h hag
  generalize atK m (k.val + 1) c = V' at hag ⊢
  refine ⟨fun p n => ?_, fun p => ?_, fun p => ?_, fun p n hn => ?_⟩
  · rw [hag main_v255_0 (by decide), STEP_main_v255_0]; exact h.al p n
  · rw [hag main_v255_2 (by decide), STEP_main_v255_2]
    refine (r289 V k hk _ _ p (h.al p k) (h.tr p)).trans ?_
    rw [Tr_succ]; norm_cast
  · rw [hag main_v255_3 (by decide), STEP_main_v255_3]
    refine (st3 V k hk _ _ _ p (h.al p k) (h.tr p) (h.cp p)).trans ?_
    rw [keep_real, cpr_succ]; norm_cast
  · rw [hag main_v255_4 (by decide), STEP_main_v255_4]
    by_cases e : n = k
    · subst e
      refine (st4_self V n hk _ _ _ p (h.al p n) (h.tr p) (h.cp p)).trans ?_
      rw [keep_real]; unfold wr; norm_cast
    · refine (st4_ne V k hk n p e).trans (h.w p n ?_)
      have : n.val ≠ k.val := fun h => e (Fin.ext h)
      omega

include ha in
theorem loopInv_all : ∀ k : ℕ, k ≤ 4096 → LoopInv a (atK m k c) k
  | 0, _ => loopInv_zero m c a ha
  | k + 1, h => loopInv_succ m c a ⟨k, h⟩ (loopInv_all k (Nat.le_of_succ_le h))

end Loop

end Cert.ReferenceIdeal.Hand
-- ==== Proof.RPost.lean ====
/- What the reference's host program makes of the rasterised pixels and of the screen covariances: its three results. -/
module

public import proofs.«01_k».proof.Proof.RLoop
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal Cert.ReferenceIdeal.Gen Cert.ReferenceIdeal.Value Cert.Spec Idealize.ShloMosaic Idealize.SL.Sem Idealize.ShloMosaic.TcCoe Idealize.ShloMosaic.StableHlo

section Stretches

variable (V : Valuation τ sig (Elt Ideal)) (g : Fin 4096 → Gin)

theorem s25_v283 (ha : ∀ n, V (Proc.devRef .tc main_v151) (ix1 n) = (g n).a) (hc : ∀ n, V (Proc.devRef .tc main_v157) (ix1 n) = (g n).c)
    (hd : ∀ n, V (Proc.devRef .tc main_v160) (ix1 n) = (g n).det) (n : Fin 4096) :
    StableHlo.after hostOps0_25 V (Proc.devRef .tc main_v283) (ix1 n)
    = Ideal.liftRound Int.ceil (lit 0x40400000#32 * Ideal.sqrt ((g n).mid + Ideal.sqrt (max ((g n).mid * (g n).mid - (g n).det) (lit 0x3DCCCCCD#32)))) := by
  after_reads_at
  rw [ha, hc, hd]
  rfl

theorem s25_cst52 : StableHlo.after hostOps0_25 V (Proc.devRef .tc main_cst_52) ix0 = (0 : EReal) := by
  after_reads_at

theorem s26_v284 (x : Fin 4096 → EReal) (b : Fin 4096 → BitVec 1) (hx : ∀ n, V (Proc.devRef .tc main_v283) (ix1 n) = x n)
    (hb : ∀ n, V (Proc.devRef .tc main_v165) (ix1 n) = b n) (h0 : V (Proc.devRef .tc main_cst_52) ix0 = (0 : EReal)) (n : Fin 4096) :
    StableHlo.after hostOps0_26 V (Proc.devRef .tc main_v284) (ix1 n) = Scalar.select (b n) (x n) 0 := by
  after_reads_at
  simp only [id_eq]
  rw [hx, hb, h0]

theorem s27_v285 (n : Fin 4096) : StableHlo.after hostOps0_27 V (Proc.devRef .tc main_v285) (ix1 n)
    = FloatOps.fptosi (F := Ideal) (φ := .f32) 32 (V (Proc.devRef .tc main_v284) (ix1 n)) := by
  after_reads_at

/-- The pixel at row `y`, column `x`. -/
def pixAt (y x : Fin 64) : Fin 4096 := ⟨y.val * 64 + x.val, by have := y.isLt; have := x.isLt; omega⟩

theorem s25_v269 (w : Fin 4096 → Fin 4096 → EReal) (cp : Fin 4096 → EReal) (kk : Fin 4096 → Fin 3 → EReal) (bg : Fin 3 → EReal)
    (hw : ∀ p n : Fin 4096, V (Proc.devRef .tc main_v255_4) (ix2 n p) = w p n)
    (hcp : ∀ p : Fin 4096, V (Proc.devRef .tc main_v255_3) (ix1 p) = cp p)
    (hk : ∀ n k, V (Proc.devRef .tc main_v199) (ix2 n k) = kk n k)
    (hbg : ∀ k, V (Proc.devRef .tc main_arg9) (ix1 k) = bg k) (k : Fin 3) (y x : Fin 64) :
    StableHlo.after hostOps0_25 V (Proc.devRef .tc main_v269) (ix3 k y x)
      = (∑ n, w (pixAt y x) n * kk n k) + cp (pixAt y x) * bg k := by
  after_reads_at
  simp only [hw, hcp, hk, hbg]
  rfl

theorem s25_v270 (w : Fin 4096 → Fin 4096 → EReal) (z : Fin 4096 → EReal)
    (hw : ∀ p n : Fin 4096, V (Proc.devRef .tc main_v255_4) (ix2 n p) = w p n)
    (hz : ∀ n, V (Proc.devRef .tc main_v201) (ix1 n) = z n) (y x : Fin 64) :
    StableHlo.after hostOps0_25 V (Proc.devRef .tc main_v270) (ix3 0 y x) = ∑ n, w (pixAt y x) n * Ideal.div 1 (z n) := by
  after_reads_at
  simp only [hw, hz]
  rfl

end Stretches

section Final

variable (m : (ℓ : Loc nD τ sig) → Buf (Elt Ideal) ℓ) (c : Dev nD)

/-- The contents before the stretch after the loop, for a loop of `n` trips. -/
def L (n : ℕ) : Valuation τ sig (Elt Ideal) := after condOps (atK m n c)

def L25 (n : ℕ) : Valuation τ sig (Elt Ideal) := after hostOps0_25 (L m c n)
def L26 (n : ℕ) : Valuation τ sig (Elt Ideal) := after hostOps0_26 (L25 m c n)

theorem L_of (n : ℕ) (r : Ref sig .tc) (h : r ∉ trip_W) (h' : r ∉ condOps_W) : L m c n (Proc.devRef .tc r) = R24 m c (Proc.devRef .tc r) :=
  (after_of_writes_sub condOps _ condOps_writes h').trans (loop_keep h (entryContents preI m) c n)

theorem L25_of (n : ℕ) (r : Ref sig .tc) (h : r ∉ post_W) : L25 m c n (Proc.devRef .tc r) = L m c n (Proc.devRef .tc r) :=
  after_of_writes_sub hostOps0_25 _ post_writes h

theorem final_eq (n : ℕ) (r : Ref sig .tc) : finalContents condOps preI bodyI postI n m c (Proc.devRef .tc r)
    = after hostOps0_27 (L26 m c n) (Proc.devRef .tc r) := rfl

theorem f_v285 (k : ℕ) (n : Fin 4096) : finalContents condOps preI bodyI postI k m c (Proc.devRef .tc main_v285) (ix1 n) = (gR m c n).radius := by
  rw [final_eq]
  refine (s27_v285 (L26 m c k) n).trans ?_
  have e : L26 m c k (Proc.devRef .tc main_v284) (ix1 n) = _ :=
    s26_v284 (L25 m c k) _ (fun n => (gR m c n).valid)
      (s25_v283 (L m c k) (gR m c)
        (fun n => by rw [L_of m c k main_v151 (by decide +kernel) (by decide +kernel)]; exact e_v151 m c n)
        (fun n => by rw [L_of m c k main_v157 (by decide +kernel) (by decide +kernel)]; exact e_v157 m c n)
        (fun n => by rw [L_of m c k main_v160 (by decide +kernel) (by decide +kernel)]; exact e_v160 m c n))
      (fun n => by
        rw [L25_of m c k main_v165 (by decide +kernel), L_of m c k main_v165 (by decide +kernel) (by decide +kernel)]
        exact e_v165 m c n)
      (s25_cst52 (L m c k)) n
  rw [e]
  rfl

variable (a : Fin 4096 → ℕ → ℝ)
  (ha : ∀ p n : Fin 4096, galR (gR m c (sigR m c n)) (oR m c (sigR m c n)) p = ((a p n.val : ℝ) : EReal))

include ha in
theorem inv (k : ℕ) (hk : k ≤ 4096) : LoopInv a (atK m k c) k :=
  loopInv_all m c a (fun p n => (f_v255_0 m c p n).trans (ha p n)) k hk

/-- The background's channel. -/
def bgR (k : Fin 3) : EReal := (m ((c.tc : Thread nD τ).loc main_arg9) : S3.Idx → EReal) (ix1 k)

theorem L_carried (n : ℕ) (r : Ref sig .tc) (h : r ∈ carriedRefs) : L m c n (Proc.devRef .tc r) = atK m n c (Proc.devRef .tc r) :=
  cond_keeps (atK m n c) r h

theorem final_25 (n : ℕ) (r : Ref sig .tc) (h26 : r ∉ [main_call18_v0, main_call18_v1, main_v284]) (h27 : r ∉ [main_v285]) :
    finalContents condOps preI bodyI postI n m c (Proc.devRef .tc r) = L25 m c n (Proc.devRef .tc r) := by
  rw [final_eq, after_of_writes_sub hostOps0_27 _ post2_writes h27]
  exact after_of_writes_sub hostOps0_26 _ post1_writes h26

include ha in
theorem f_v269 (N : ℕ) (hN : N = 4096) (k : Fin 3) (y x : Fin 64) :
    finalContents condOps preI bodyI postI N m c (Proc.devRef .tc main_v269) (ix3 k y x)
      = (∑ n : Fin 4096, ((wr (a (pixAt y x)) n.val : ℝ) : EReal) * kR m c (sigR m c n) k)
        + ((cpr (a (pixAt y x)) N : ℝ) : EReal) * bgR m c k := by
  have h := inv m c a ha N (le_of_eq hN)
  rw [final_25 m c N main_v269 (by decide +kernel) (by decide +kernel)]
  refine s25_v269 (L m c N) (fun p n => ((wr (a p) n.val : ℝ) : EReal)) (fun p => ((cpr (a p) N : ℝ) : EReal))
    (fun n k => kR m c (sigR m c n) k) (bgR m c) (fun p n => ?_) (fun p => ?_) (fun n k => ?_) (fun k => ?_) k y x
  · rw [L_carried m c N main_v255_4 (by decide)]; exact h.w p n (hN ▸ n.isLt)
  · rw [L_carried m c N main_v255_3 (by decide)]; exact h.cp p
  · rw [L_of m c N main_v199 (by decide +kernel) (by decide +kernel)]; exact e_v199 m c n k
  · rw [L_of m c N main_arg9 (by decide +kernel) (by decide +kernel)]
    exact congrFun (entry_args m c main_arg9 (by decide)) (ix1 k)

include ha in
theorem f_v270 (N : ℕ) (hN : N = 4096) (y x : Fin 64) :
    finalContents condOps preI bodyI postI N m c (Proc.devRef .tc main_v270) (ix3 0 y x)
      = ∑ n : Fin 4096, ((wr (a (pixAt y x)) n.val : ℝ) : EReal) * Ideal.div 1 (gR m c (sigR m c n)).tzc := by
  have h := inv m c a ha N (le_of_eq hN)
  rw [final_25 m c N main_v270 (by decide +kernel) (by decide +kernel)]
  refine s25_v270 (L m c N) (fun p n => ((wr (a p) n.val : ℝ) : EReal)) (fun n => (gR m c (sigR m c n)).tzc)
    (fun p n => ?_) (fun n => ?_) y x
  · rw [L_carried m c N main_v255_4 (by decide)]; exact h.w p n (hN ▸ n.isLt)
  · rw [L_of m c N main_v201 (by decide +kernel) (by decide +kernel)]; exact e_v201 m c n

end Final

end Cert.ReferenceIdeal.Hand
-- ==== Proof.Value.lean ====
/- The results of the kernel and of the reference are the same functions of the arguments. -/
module

public import proofs.«01_k».proof.Proof.KRaster
public import proofs.«01_k».proof.Proof.RPost

@[expose] public section

set_option maxRecDepth 16384

noncomputable section

namespace Cert.Proof

open Cert.Spec Cert.ReferenceIdeal.Hand Cert.KernelIdeal.Hand Idealize.ShloMosaic Idealize.SL.Sem Idealize.ShloMosaic.TcCoe Idealize.ShloMosaic.StableHlo Cert.ReferenceIdeal.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories hold the same arguments on device `c`, among those that the results depend on. -/
structure SameArgs : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable (H : SameArgs m m' c)

include H

theorem gR_eq : gR m' c = gK m c := by
  funext n
  unfold gR gK
  rw [H.a0, H.a4, H.a5, H.a6, H.a7]

theorem ordR_eq : ordR m' c = ordK m c := by
  unfold ordR ordK
  rw [gR_eq m m' c H]
  rfl

theorem sigR_eq : sigR m' c = sigK m c := by
  funext n
  unfold sigR sigK
  rw [ordR_eq m m' c H]

theorem oR_eq : oR m' c = oK m c := by
  funext n
  unfold oR oK
  rw [H.a2]

theorem kR_eq : kR m' c = kK m c := by
  funext n k
  unfold kR kK
  rw [H.a3]

theorem bgR_eq (k : Fin 3) : bgR m' c k = bgK m c ⟨k.val, by omega⟩ := by
  unfold bgR
  rw [H.a9]
  fin_cases k <;> rfl

theorem alpha_eq (p n : Fin 4096) : galR (gR m' c (sigR m' c n)) (oR m' c (sigR m' c n)) p = ((aK m c p n.val : ℝ) : EReal) := by
  rw [gR_eq m m' c H, sigR_eq m m' c H, oR_eq m m' c H]
  exact aK_spec m c p n

omit H in
theorem col_at (n : Fin 4096) (k : Fin 3) : clK m c n.val ⟨k.val, by omega⟩ = kK m c (sigK m c n) k := by
  unfold clK
  rw [dif_pos n.isLt]
  fin_cases k <;> rfl

omit H in
theorem invz_at (n : Fin 4096) : clK m c n.val 3 = Ideal.div 1 (gK m c (sigK m c n)).tzc := by
  unfold clK
  rw [dif_pos n.isLt]
  rfl

omit H in
theorem sum_fin (N : ℕ) (hN : N = 4096) (f : ℕ → EReal) : ∑ k ∈ Finset.range N, f k = ∑ n : Fin 4096, f n.val := by
  subst hN
  exact Finset.sum_range f

/-- The picture. -/
theorem colour_eq (N : ℕ) (hN : N = 4096) (k : Fin 3) (y x : Fin 64) :
    finalContents condOps preI bodyI postI N m' c (Proc.devRef .tc Cert.ReferenceIdeal.main_v269) (ix3 k y x)
      = W7 m c (Proc.devRef .tc Cert.KernelIdeal.main_v35) (ix3 k y x) := by
  refine (f_v269 m' c (aK m c) (alpha_eq m m' c H) N hN k y x).trans ((W7_v35 m c N hN k y x).trans ?_).symm
  unfold chK
  rw [sum_fin N hN, bgR_eq m m' c H, sigR_eq m m' c H, kR_eq m m' c H]
  congr 1
  exact Finset.sum_congr rfl fun n _ => by rw [col_at]; rfl

omit H in
theorem ch_depth (N : ℕ) (hN : N = 4096) (p : Fin 4096) :
    chK m c N p 3 = ∑ n : Fin 4096, ((wr (aK m c p) n.val : ℝ) : EReal) * Ideal.div 1 (gK m c (sigK m c n)).tzc := by
  unfold chK
  rw [sum_fin N hN, show bgK m c 3 = 0 from rfl, mul_zero, add_zero]
  exact Finset.sum_congr rfl fun n _ => by rw [invz_at]

/-- The inverse depths. -/
theorem depth_eq (N : ℕ) (hN : N = 4096) (y x : Fin 64) :
    finalContents condOps preI bodyI postI N m' c (Proc.devRef .tc Cert.ReferenceIdeal.main_v270) (ix3 0 y x)
      = W7 m c (Proc.devRef .tc Cert.KernelIdeal.main_v38) (ix3 0 y x) := by
  refine (f_v270 m' c (aK m c) (alpha_eq m m' c H) N hN y x).trans ((W7_v38 m c N hN y x).trans ?_).symm
  rw [sigR_eq m m' c H, gR_eq m m' c H]
  exact ch_depth m c N hN _

/-- The radii. -/
theorem radius_eq (N : ℕ) (n : Fin 4096) :
    finalContents condOps preI bodyI postI N m' c (Proc.devRef .tc Cert.ReferenceIdeal.main_v285) (ix1 n)
      = W7 m c (Proc.devRef .tc Cert.KernelIdeal.main_v10) (ix1 n) := by
  refine (f_v285 m' c N n).trans ?_
  rw [W7_v10, gR_eq m m' c H]
  rfl

theorem colour_eq' : finalContents condOps preI bodyI postI 4096 m' c (Proc.devRef .tc Cert.ReferenceIdeal.main_v269)
    = W7 m c (Proc.devRef .tc Cert.KernelIdeal.main_v35) := by
  funext i
  idx_vars i
  exact colour_eq m m' c H 4096 rfl i0 i1 i2

theorem depth_eq' : finalContents condOps preI bodyI postI 4096 m' c (Proc.devRef .tc Cert.ReferenceIdeal.main_v270)
    = W7 m c (Proc.devRef .tc Cert.KernelIdeal.main_v38) := by
  funext i
  idx_vars i
  obtain rfl : i0 = 0 := Subsingleton.elim _ _
  exact depth_eq m m' c H 4096 rfl i1 i2

theorem radius_eq' : finalContents condOps preI bodyI postI 4096 m' c (Proc.devRef .tc Cert.ReferenceIdeal.main_v285)
    = W7 m c (Proc.devRef .tc Cert.KernelIdeal.main_v10) := by
  funext i
  idx_vars i
  exact radius_eq m m' c H 4096 i0

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.IdealLaunch
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, ends with its arguments unchanged and every semaphore at zero. -/
theorem frame_Kernel : letI := Cert.Kernel.Gen.facts; Cert.quiescent_Kernel := fun m g _ =>
  θ_run_mono (Cert.Kernel.Hand.run_all m g) fun r h => ⟨fun c => ⟨(Cert.Kernel.Hand.final_read m c (h.1 c) Cert.Kernel.main_arg0 (by decide)).trans (Cert.Kernel.Hand.W7_args m c Cert.Kernel.main_arg0 (by decide)),
      (Cert.Kernel.Hand.final_read m c (h.1 c) Cert.Kernel.main_arg1 (by decide)).trans (Cert.Kernel.Hand.W7_args m c Cert.Kernel.main_arg1 (by decide)),
      (Cert.Kernel.Hand.final_read m c (h.1 c) Cert.Kernel.main_arg2 (by decide)).trans (Cert.Kernel.Hand.W7_args m c Cert.Kernel.main_arg2 (by decide)),
      (Cert.Kernel.Hand.final_read m c (h.1 c) Cert.Kernel.main_arg3 (by decide)).trans (Cert.Kernel.Hand.W7_args m c Cert.Kernel.main_arg3 (by decide)),
      (Cert.Kernel.Hand.final_read m c (h.1 c) Cert.Kernel.main_arg4 (by decide)).trans (Cert.Kernel.Hand.W7_args m c Cert.Kernel.main_arg4 (by decide)),
      (Cert.Kernel.Hand.final_read m c (h.1 c) Cert.Kernel.main_arg5 (by decide)).trans (Cert.Kernel.Hand.W7_args m c Cert.Kernel.main_arg5 (by decide)),
      (Cert.Kernel.Hand.final_read m c (h.1 c) Cert.Kernel.main_arg6 (by decide)).trans (Cert.Kernel.Hand.W7_args m c Cert.Kernel.main_arg6 (by decide)),
      (Cert.Kernel.Hand.final_read m c (h.1 c) Cert.Kernel.main_arg7 (by decide)).trans (Cert.Kernel.Hand.W7_args m c Cert.Kernel.main_arg7 (by decide)),
      (Cert.Kernel.Hand.final_read m c (h.1 c) Cert.Kernel.main_arg8 (by decide)).trans (Cert.Kernel.Hand.W7_args m c Cert.Kernel.main_arg8 (by decide)),
      (Cert.Kernel.Hand.final_read m c (h.1 c) Cert.Kernel.main_arg9 (by decide)).trans (Cert.Kernel.Hand.W7_args m c Cert.Kernel.main_arg9 (by decide))⟩, h.2⟩

/-- So does its idealised text. -/
theorem frame_KernelIdeal : letI := Cert.KernelIdeal.Gen.facts; Cert.quiescent_KernelIdeal := fun m g _ =>
  θ_run_mono (Cert.KernelIdeal.Hand.run_all m g) fun r h => ⟨fun c => ⟨(Cert.KernelIdeal.Hand.final_read m c (h.1 c) Cert.KernelIdeal.main_arg0 (by decide)).trans (Cert.KernelIdeal.Hand.W7_args m c Cert.KernelIdeal.main_arg0 (by decide)),
      (Cert.KernelIdeal.Hand.final_read m c (h.1 c) Cert.KernelIdeal.main_arg1 (by decide)).trans (Cert.KernelIdeal.Hand.W7_args m c Cert.KernelIdeal.main_arg1 (by decide)),
      (Cert.KernelIdeal.Hand.final_read m c (h.1 c) Cert.KernelIdeal.main_arg2 (by decide)).trans (Cert.KernelIdeal.Hand.W7_args m c Cert.KernelIdeal.main_arg2 (by decide)),
      (Cert.KernelIdeal.Hand.final_read m c (h.1 c) Cert.KernelIdeal.main_arg3 (by decide)).trans (Cert.KernelIdeal.Hand.W7_args m c Cert.KernelIdeal.main_arg3 (by decide)),
      (Cert.KernelIdeal.Hand.final_read m c (h.1 c) Cert.KernelIdeal.main_arg4 (by decide)).trans (Cert.KernelIdeal.Hand.W7_args m c Cert.KernelIdeal.main_arg4 (by decide)),
      (Cert.KernelIdeal.Hand.final_read m c (h.1 c) Cert.KernelIdeal.main_arg5 (by decide)).trans (Cert.KernelIdeal.Hand.W7_args m c Cert.KernelIdeal.main_arg5 (by decide)),
      (Cert.KernelIdeal.Hand.final_read m c (h.1 c) Cert.KernelIdeal.main_arg6 (by decide)).trans (Cert.KernelIdeal.Hand.W7_args m c Cert.KernelIdeal.main_arg6 (by decide)),
      (Cert.KernelIdeal.Hand.final_read m c (h.1 c) Cert.KernelIdeal.main_arg7 (by decide)).trans (Cert.KernelIdeal.Hand.W7_args m c Cert.KernelIdeal.main_arg7 (by decide)),
      (Cert.KernelIdeal.Hand.final_read m c (h.1 c) Cert.KernelIdeal.main_arg8 (by decide)).trans (Cert.KernelIdeal.Hand.W7_args m c Cert.KernelIdeal.main_arg8 (by decide)),
      (Cert.KernelIdeal.Hand.final_read m c (h.1 c) Cert.KernelIdeal.main_arg9 (by decide)).trans (Cert.KernelIdeal.Hand.W7_args m c Cert.KernelIdeal.main_arg9 (by decide))⟩, h.2⟩

/-- And so does the reference. -/
theorem frame_ReferenceIdeal : letI := Cert.ReferenceIdeal.Gen.facts; Cert.quiescent_ReferenceIdeal := fun m g _ =>
  θ_run_mono (Cert.ReferenceIdeal.Hand.run_all m g) fun r h => ⟨fun c => ⟨(h.1 c Cert.ReferenceIdeal.main_arg0 (by decide)).trans (Cert.ReferenceIdeal.Hand.final_args m c Cert.ReferenceIdeal.main_arg0 (by decide) 4096),
      (h.1 c Cert.ReferenceIdeal.main_arg1 (by decide)).trans (Cert.ReferenceIdeal.Hand.final_args m c Cert.ReferenceIdeal.main_arg1 (by decide) 4096),
      (h.1 c Cert.ReferenceIdeal.main_arg2 (by decide)).trans (Cert.ReferenceIdeal.Hand.final_args m c Cert.ReferenceIdeal.main_arg2 (by decide) 4096),
      (h.1 c Cert.ReferenceIdeal.main_arg3 (by decide)).trans (Cert.ReferenceIdeal.Hand.final_args m c Cert.ReferenceIdeal.main_arg3 (by decide) 4096),
      (h.1 c Cert.ReferenceIdeal.main_arg4 (by decide)).trans (Cert.ReferenceIdeal.Hand.final_args m c Cert.ReferenceIdeal.main_arg4 (by decide) 4096),
      (h.1 c Cert.ReferenceIdeal.main_arg5 (by decide)).trans (Cert.ReferenceIdeal.Hand.final_args m c Cert.ReferenceIdeal.main_arg5 (by decide) 4096),
      (h.1 c Cert.ReferenceIdeal.main_arg6 (by decide)).trans (Cert.ReferenceIdeal.Hand.final_args m c Cert.ReferenceIdeal.main_arg6 (by decide) 4096),
      (h.1 c Cert.ReferenceIdeal.main_arg7 (by decide)).trans (Cert.ReferenceIdeal.Hand.final_args m c Cert.ReferenceIdeal.main_arg7 (by decide) 4096),
      (h.1 c Cert.ReferenceIdeal.main_arg8 (by decide)).trans (Cert.ReferenceIdeal.Hand.final_args m c Cert.ReferenceIdeal.main_arg8 (by decide) 4096),
      (h.1 c Cert.ReferenceIdeal.main_arg9 (by decide)).trans (Cert.ReferenceIdeal.Hand.final_args m c Cert.ReferenceIdeal.main_arg9 (by decide) 4096)⟩, h.2⟩

/-- The literal that the idealised text names log_eps is its single-precision rounding. -/
theorem preserves : Cert.preserves_Kernel_KernelIdeal := IdealRules.named_const.statement Cert.KernelIdeal.κ "log_eps" .f32 0xC1135D8E#32 _ rfl

/-- On the same arguments the idealised kernel and the reference leave the same three results. -/
theorem algebraic : letI := Cert.KernelIdeal.Gen.facts; letI := Cert.ReferenceIdeal.Gen.facts; Cert.algebraic_KernelIdeal_ReferenceIdeal := fun m g m' g' _ hA =>
  have H : ∀ c, SameArgs m m' c := fun c => ⟨(hA c).1, (hA c).2.2.1, (hA c).2.2.2.1, (hA c).2.2.2.2.1, (hA c).2.2.2.2.2.1, (hA c).2.2.2.2.2.2.1, (hA c).2.2.2.2.2.2.2.1, (hA c).2.2.2.2.2.2.2.2.2⟩
  ⟨fun c => Cert.KernelIdeal.Hand.W7 m c (Proc.devRef .tc Cert.KernelIdeal.main_v35), fun c => Cert.KernelIdeal.Hand.W7 m c (Proc.devRef .tc Cert.KernelIdeal.main_v10),
    fun c => Cert.KernelIdeal.Hand.W7 m c (Proc.devRef .tc Cert.KernelIdeal.main_v38),
    θ_run_mono (Cert.KernelIdeal.Hand.run_all m g) fun r h c => ⟨(Cert.KernelIdeal.Hand.final_read m c (h.1 c) Cert.KernelIdeal.main_v35 (by decide)), (Cert.KernelIdeal.Hand.final_read m c (h.1 c) Cert.KernelIdeal.main_v10 (by decide)), (Cert.KernelIdeal.Hand.final_read m c (h.1 c) Cert.KernelIdeal.main_v38 (by decide)),
      (Cert.KernelIdeal.Hand.final_read m c (h.1 c) Cert.KernelIdeal.main_arg0 (by decide)).trans (Cert.KernelIdeal.Hand.W7_args m c Cert.KernelIdeal.main_arg0 (by decide)),
      (Cert.KernelIdeal.Hand.final_read m c (h.1 c) Cert.KernelIdeal.main_arg1 (by decide)).trans (Cert.KernelIdeal.Hand.W7_args m c Cert.KernelIdeal.main_arg1 (by decide)),
      (Cert.KernelIdeal.Hand.final_read m c (h.1 c) Cert.KernelIdeal.main_arg2 (by decide)).trans (Cert.KernelIdeal.Hand.W7_args m c Cert.KernelIdeal.main_arg2 (by decide)),
      (Cert.KernelIdeal.Hand.final_read m c (h.1 c) Cert.KernelIdeal.main_arg3 (by decide)).trans (Cert.KernelIdeal.Hand.W7_args m c Cert.KernelIdeal.main_arg3 (by decide)),
      (Cert.KernelIdeal.Hand.final_read m c (h.1 c) Cert.KernelIdeal.main_arg4 (by decide)).trans (Cert.KernelIdeal.Hand.W7_args m c Cert.KernelIdeal.main_arg4 (by decide)),
      (Cert.KernelIdeal.Hand.final_read m c (h.1 c) Cert.KernelIdeal.main_arg5 (by decide)).trans (Cert.KernelIdeal.Hand.W7_args m c Cert.KernelIdeal.main_arg5 (by decide)),
      (Cert.KernelIdeal.Hand.final_read m c (h.1 c) Cert.KernelIdeal.main_arg6 (by decide)).trans (Cert.KernelIdeal.Hand.W7_args m c Cert.KernelIdeal.main_arg6 (by decide)),
      (Cert.KernelIdeal.Hand.final_read m c (h.1 c) Cert.KernelIdeal.main_arg7 (by decide)).trans (Cert.KernelIdeal.Hand.W7_args m c Cert.KernelIdeal.main_arg7 (by decide)),
      (Cert.KernelIdeal.Hand.final_read m c (h.1 c) Cert.KernelIdeal.main_arg8 (by decide)).trans (Cert.KernelIdeal.Hand.W7_args m c Cert.KernelIdeal.main_arg8 (by decide)),
      (Cert.KernelIdeal.Hand.final_read m c (h.1 c) Cert.KernelIdeal.main_arg9 (by decide)).trans (Cert.KernelIdeal.Hand.W7_args m c Cert.KernelIdeal.main_arg9 (by decide))⟩,
    θ_run_mono (Cert.ReferenceIdeal.Hand.run_all m' g') fun r h c => ⟨(h.1 c Cert.ReferenceIdeal.main_v269 (by decide)).trans (colour_eq' m m' c (H c)),
      (h.1 c Cert.ReferenceIdeal.main_v285 (by decide)).trans (radius_eq' m m' c (H c)), (h.1 c Cert.ReferenceIdeal.main_v270 (by decide)).trans (depth_eq' m m' c (H c)),
      (h.1 c Cert.ReferenceIdeal.main_arg0 (by decide)).trans (Cert.ReferenceIdeal.Hand.final_args m' c Cert.ReferenceIdeal.main_arg0 (by decide) 4096),
      (h.1 c Cert.ReferenceIdeal.main_arg1 (by decide)).trans (Cert.ReferenceIdeal.Hand.final_args m' c Cert.ReferenceIdeal.main_arg1 (by decide) 4096),
      (h.1 c Cert.ReferenceIdeal.main_arg2 (by decide)).trans (Cert.ReferenceIdeal.Hand.final_args m' c Cert.ReferenceIdeal.main_arg2 (by decide) 4096),
      (h.1 c Cert.ReferenceIdeal.main_arg3 (by decide)).trans (Cert.ReferenceIdeal.Hand.final_args m' c Cert.ReferenceIdeal.main_arg3 (by decide) 4096),
      (h.1 c Cert.ReferenceIdeal.main_arg4 (by decide)).trans (Cert.ReferenceIdeal.Hand.final_args m' c Cert.ReferenceIdeal.main_arg4 (by decide) 4096),
      (h.1 c Cert.ReferenceIdeal.main_arg5 (by decide)).trans (Cert.ReferenceIdeal.Hand.final_args m' c Cert.ReferenceIdeal.main_arg5 (by decide) 4096),
      (h.1 c Cert.ReferenceIdeal.main_arg6 (by decide)).trans (Cert.ReferenceIdeal.Hand.final_args m' c Cert.ReferenceIdeal.main_arg6 (by decide) 4096),
      (h.1 c Cert.ReferenceIdeal.main_arg7 (by decide)).trans (Cert.ReferenceIdeal.Hand.final_args m' c Cert.ReferenceIdeal.main_arg7 (by decide) 4096),
      (h.1 c Cert.ReferenceIdeal.main_arg8 (by decide)).trans (Cert.ReferenceIdeal.Hand.final_args m' c Cert.ReferenceIdeal.main_arg8 (by decide) 4096),
      (h.1 c Cert.ReferenceIdeal.main_arg9 (by decide)).trans (Cert.ReferenceIdeal.Hand.final_args m' c Cert.ReferenceIdeal.main_arg9 (by decide) 4096)⟩⟩

theorem claim : Cert.Claim := ⟨Cert.Kernel.Gen.facts, Cert.KernelIdeal.Gen.facts, Cert.ReferenceIdeal.Gen.facts,
  frame_Kernel, frame_KernelIdeal, frame_ReferenceIdeal, preserves, algebraic⟩

end Cert.Proof

end
